-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_logits [hPre_proper_logits : Cert.Pre_proper_logits.Facts] (m : (ℓ : Loc Cert.KernelIdeal.nD Cert.KernelIdeal.τ Cert.KernelIdeal.sig) → Buf (Elt Ideal) ℓ) : Prop :=
  ∀ c : Dev Cert.KernelIdeal.nD,
    (Cert.Pre_proper_logits.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_logits [hPre_proper_logits : Cert.Pre_proper_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_logits.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_proper_logits [hKernelIdeal : Cert.KernelIdeal.Facts] [hPre_proper_logits : Cert.Pre_proper_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_proper_logits [hReferenceIdeal : Cert.ReferenceIdeal.Facts] [hPre_proper_logits : Cert.Pre_proper_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_proper_logits [hKernelIdeal : Cert.KernelIdeal.Facts] [hReferenceIdeal : Cert.ReferenceIdeal.Facts] [hPre_proper_logits : Cert.Pre_proper_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_proper_logits : Cert.Pre_proper_logits.Facts),
    quiescent_Kernel (hKernel := hKernel)
    ∧ quiescent_KernelIdeal (hKernelIdeal := hKernelIdeal)
    ∧ quiescent_KernelIdeal_pre_proper_logits (hKernelIdeal := hKernelIdeal) (hPre_proper_logits := hPre_proper_logits)
    ∧ quiescent_ReferenceIdeal (hReferenceIdeal := hReferenceIdeal)
    ∧ quiescent_ReferenceIdeal_pre_proper_logits (hReferenceIdeal := hReferenceIdeal) (hPre_proper_logits := hPre_proper_logits)
    ∧ preserves_Kernel_KernelIdeal
    ∧ algebraic_KernelIdeal_ReferenceIdeal_pre_proper_logits (hKernelIdeal := hKernelIdeal) (hReferenceIdeal := hReferenceIdeal) (hPre_proper_logits := hPre_proper_logits)
-- ==== Pre_proper_logits.lean ====
abbrev S64x1000000 : Shape := ⟨2, ![64, 1000000]⟩
abbrev S_ : Shape := ⟨0, ![]⟩
abbrev S64 : Shape := ⟨1, ![64]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel
  reducesTo_S64x1000000_S64_d1 : S64x1000000.ReducesTo [1] S64
  bcast_S_S64 : S_.BroadcastsInDim S64 (![] : Fin 0 → Fin S64.rank)
  reducesTo_S64_S_d0 : S64.ReducesTo [0] S_

variable [Facts]

def fn {F : FTy → Type} [FloatOps F] (main_arg0 : FVec F S64x1000000 .f32) : IVec S_ 1 :=
  let main_cst : FVec F S_ .f32 := constant S_ .f32 0x7F800000#32
  let main_v0 : FVec F S64x1000000 .f32 := broadcastInDim S64x1000000 ![] bcast_S_S64x1000000 main_cst
  let main_v1 : IVec S64x1000000 1 := cmpf .olt main_arg0 main_v0
  let main_c : IVec S_ 1 := constantI S_ 1 1#1
  let main_v2 : IVec S_ 1 := (fun x v => Host.reduce IntOp.andi x v reducesTo_S64x1000000_S_d0_1 h_S_) main_v1 main_c
  let main_cst_0 : FVec F S_ .f32 := constant S_ .f32 0xFF800000#32
  let main_v3 : FVec F S64 .f32 := (fun x v => Host.reduce FloatOps.maximumf x v reducesTo_S64x1000000_S64_d1 h_S_) main_arg0 main_cst_0
  let main_cst_1 : FVec F S_ .f32 := constant S_ .f32 0xFF800000#32
  let main_v4 : FVec F S64 .f32 := broadcastInDim S64 ![] bcast_S_S64 main_cst_1
  let main_v5 : IVec S64 1 := cmpf .ogt main_v3 main_v4
  let main_c_2 : IVec S_ 1 := constantI S_ 1 1#1
  let main_v6 : IVec S_ 1 := (fun x v => Host.reduce IntOp.andi x v reducesTo_S64_S_d0 h_S_) main_v5 main_c_2
  let main_v7 : IVec S_ 1 := andi main_v2 main_v6
  main_v7
-- ==== Kernel.lean ====
abbrev S64x1000000 : Shape := ⟨2, ![64, 1000000]⟩
abbrev S64x1920 : Shape := ⟨2, ![64, 1920]⟩
abbrev S_ : Shape := ⟨0, ![]⟩
abbrev S64x1 : Shape := ⟨2, ![64, 1]⟩
abbrev S64 : Shape := ⟨1, ![64]⟩

abbrev nBuf : Space → Nat
  | .hbm => 18
  | .vmem => 18
  | .smem => 0
  | _ => 0

abbrev bufTy : (tb : Table) → Fin (tcTables nBuf tb) → BufTy
  | .hbm, ⟨0, _⟩ => ⟨S64x1000000, .f32⟩
  | .hbm, ⟨1, _⟩ => ⟨S64x1920, .i32⟩
  | .hbm, ⟨2, _⟩ => ⟨S64x1920, .i32⟩
  | .hbm, ⟨3, _⟩ => ⟨S_, .i32⟩
  | .hbm, ⟨4, _⟩ => ⟨S64x1920, .i32⟩
  | .hbm, ⟨5, _⟩ => ⟨S64x1920, .i32⟩
  | .hbm, ⟨6, _⟩ => ⟨S64x1920, .i32⟩
  | .hbm, ⟨7, _⟩ => ⟨S64x1920, .i32⟩
  | .hbm, ⟨8, _⟩ => ⟨S64x1, .f32⟩
  | .hbm, ⟨9, _⟩ => ⟨S64x1, .f32⟩
  | .hbm, ⟨10, _⟩ => ⟨S64x1, .f32⟩
  | .hbm, ⟨11, _⟩ => ⟨S64x1, .i32⟩
  | .hbm, ⟨12, _⟩ => ⟨S64x1, .i32⟩
  | .hbm, ⟨13, _⟩ => ⟨S64x1, .f32⟩
  | .hbm, ⟨14, _⟩ => ⟨S64x1, .f32⟩
  | .hbm, ⟨15, _⟩ => ⟨S64, .i32⟩
  | .hbm, ⟨16, _⟩ => ⟨S64, .f32⟩
  | .hbm, ⟨17, _⟩ => ⟨S64, .f32⟩
  | .local _ .vmem, ⟨0, _⟩ => ⟨S64x1920, .f32⟩
  | .local _ .vmem, ⟨1, _⟩ => ⟨S64x1920, .f32⟩
  | .local _ .vmem, ⟨2, _⟩ => ⟨S64x1920, .i32⟩
  | .local _ .vmem, ⟨3, _⟩ => ⟨S64x1920, .i32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .i32⟩
  | .local _ .vmem, ⟨8, _⟩ => ⟨S64x1920, .f32⟩
  | .local _ .vmem, ⟨9, _⟩ => ⟨S64x1920, .i32⟩
  | .local _ .vmem, ⟨10, _⟩ => ⟨S64x1920, .i32⟩
  | .local _ .vmem, ⟨11, _⟩ => ⟨S64x1, .f32⟩
  | .local _ .vmem, ⟨12, _⟩ => ⟨S64x1, .f32⟩
  | .local _ .vmem, ⟨13, _⟩ => ⟨S64x1, .f32⟩
  | .local _ .vmem, ⟨14, _⟩ => ⟨S64x1, .i32⟩
  | .local _ .vmem, ⟨15, _⟩ => ⟨S64x1, .i32⟩
  | .local _ .vmem, ⟨16, _⟩ => ⟨S64x1, .f32⟩
  | .local _ .vmem, ⟨17, _⟩ => ⟨S64x1, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_v6_2 : Ref sig .tc := ⟨.hbm, 10, rfl⟩
abbrev main_v6_3 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17

abbrev nD : Nat := 1
abbrev τ : Topo := Topo.v7x

variable {F : FTy → Type} [FloatOps F]

abbrev grid0 : Pipeline.Grid := ⟨1, ![520], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1920 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1920 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c520_i32 : BitVec 32 := 520#32
  let c0_i32_0 : BitVec 32 := 0#32
  ![c0_i32.toNat, c520_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1920 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1920 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1920 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S64x1000000 : Shape := ⟨2, ![64, 1000000]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩
abbrev S64x1x1 : Shape := ⟨3, ![64, 1, 1]⟩
abbrev S1x1x1 : Shape := ⟨3, ![1, 1, 1]⟩

abbrev nBuf : Space → Nat
  | .hbm => 319
  | .vmem => 0
  | .smem => 0
  | _ => 0

abbrev hbmTy0_0 (i : Nat) : BufTy := match i % 128 with
  | 0 => ⟨S64x1000000, .f32⟩
  | 1 => ⟨S_, .f32⟩
  | 2 => ⟨S64, .f32⟩
  | 3 => ⟨S_, .f32⟩
  | 4 => ⟨S64, .f32⟩
  | 5 => ⟨S64, .f32⟩
  | 6 => ⟨S64x1, .f32⟩
  | 7 => ⟨S64x1000000, .f32⟩
  | 8 => ⟨S64x1000000, .f32⟩
  | 9 => ⟨S64x1000000, .f32⟩
  | 10 => ⟨S_, .f32⟩
  | 11 => ⟨S64, .f32⟩
  | 12 => ⟨S64x1, .f32⟩
  | 13 => ⟨S64x1, .f32⟩
  | 14 => ⟨S64x1000000, .f32⟩
  | 15 => ⟨S64x1000000, .f32⟩
  | 16 => ⟨S64x1000000, .f32⟩
  | 17 => ⟨S_, .i32⟩
  | 18 => ⟨S_, .i32⟩
  | 19 => ⟨S_, .i32⟩
  | 20 => ⟨S_, .i32⟩
  | 21 => ⟨S1, .i32⟩
  | 22 => ⟨S_, .i32⟩
  | 23 => ⟨S_, .i32⟩
  | 24 => ⟨S_, .i32⟩
  | 25 => ⟨S1, .i32⟩
  | 26 => ⟨S2, .i32⟩
  | 27 => ⟨S1, .i32⟩
  | 28 => ⟨S_, .i32⟩
  | 29 => ⟨S1, .i32⟩
  | 30 => ⟨S_, .i32⟩
  | 31 => ⟨S64x1000000, .i64⟩
  | 32 => ⟨S64x1000000, .i64⟩
  | 33 => ⟨S_, .i64⟩
  | 34 => ⟨S64x1000000, .i64⟩
  | 35 => ⟨S64x1000000, .i64⟩
  | 36 => ⟨S_, .i64⟩
  | 37 => ⟨S64x1000000, .i64⟩
  | 38 => ⟨S64x1000000, .i64⟩
  | 39 => ⟨S64x1000000, .i64⟩
  | 40 => ⟨S_, .i64⟩
  | 41 => ⟨S64x1000000, .i64⟩
  | 42 => ⟨S64x1000000, .i64⟩
  | 43 => ⟨S64x1000000, .i32⟩
  | 44 => ⟨S64x1000000, .i32⟩
  | 45 => ⟨S_, .i32⟩
  | 46 => ⟨S_, .i32⟩
  | 47 => ⟨S_, .i32⟩
  | 48 => ⟨S64x1000000, .i32⟩
  | 49 => ⟨S64x1000000, .i32⟩
  | 50 => ⟨S64x1000000, .i32⟩
  | 51 => ⟨S64x1000000, .i32⟩
  | 52 => ⟨S64x1000000, .i32⟩
  | 53 => ⟨S_, .i32⟩
  | 54 => ⟨S64x1000000, .i32⟩
  | 55 => ⟨S64x1000000, .i32⟩
  | 56 => ⟨S_, .i32⟩
  | 57 => ⟨S64x1000000, .i32⟩
  | 58 => ⟨S64x1000000, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S64x1000000, .i32⟩
  | 96 => ⟨S_, .i32⟩
  | 97 => ⟨S64x1000000, .i32⟩
  | 98 => ⟨S64x1000000, .i32⟩
  | 99 => ⟨S_, .i32⟩
  | 100 => ⟨S64x1000000, .i32⟩
  | 101 => ⟨S64x1000000, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S_, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S64x1000000, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S64x1000000, .i32⟩
  | 11 => ⟨S_, .i32⟩
  | 12 => ⟨S64x1000000, .i32⟩
  | 13 => ⟨S64x1000000, .i32⟩
  | 14 => ⟨S_, .i32⟩
  | 15 => ⟨S64x1000000, .i32⟩
  | 16 => ⟨S64x1000000, .i32⟩
  | 17 => ⟨S64x1000000, .i32⟩
  | 18 => ⟨S64x1000000, .i32⟩
  | 19 => ⟨S64x1000000, .i32⟩
  | 20 => ⟨S_, .i32⟩
  | 21 => ⟨S64x1000000, .i32⟩
  | 22 => ⟨S64x1000000, .i32⟩
  | 23 => ⟨S_, .i32⟩
  | 24 => ⟨S64x1000000, .i32⟩
  | 25 => ⟨S64x1000000, .i32⟩
  | 26 => ⟨S64x1000000, .i32⟩
  | 27 => ⟨S64x1000000, .i32⟩
  | 28 => ⟨S64x1000000, .i32⟩
  | 29 => ⟨S_, .i32⟩
  | 30 => ⟨S64x1000000, .i32⟩
  | 31 => ⟨S64x1000000, .i32⟩
  | 32 => ⟨S_, .i32⟩
  | 33 => ⟨S64x1000000, .i32⟩
  | 34 => ⟨S64x1000000, .i32⟩
  | 35 => ⟨S64x1000000, .i32⟩
  | 36 => ⟨S64x1000000, .i32⟩
  | 37 => ⟨S64x1000000, .i32⟩
  | 38 => ⟨S_, .i32⟩
  | 39 => ⟨S64x1000000, .i32⟩
  | 40 => ⟨S64x1000000, .i32⟩
  | 41 => ⟨S_, .i32⟩
  | 42 => ⟨S64x1000000, .i32⟩
  | 43 => ⟨S64x1000000, .i32⟩
  | 44 => ⟨S64x1000000, .i32⟩
  | 45 => ⟨S64x1000000, .i32⟩
  | 46 => ⟨S64x1000000, .i32⟩
  | 47 => ⟨S64x1000000, .i32⟩
  | 48 => ⟨S64x1000000, .i32⟩
  | 49 => ⟨S64x1000000, .i32⟩
  | 50 => ⟨S_, .i32⟩
  | 51 => ⟨S64x1000000, .i32⟩
  | 52 => ⟨S64x1000000, .i32⟩
  | 53 => ⟨S64x1000000, .i32⟩
  | 54 => ⟨S_, .i32⟩
  | 55 => ⟨S64x1000000, .i32⟩
  | 56 => ⟨S64x1000000, .i32⟩
  | 57 => ⟨S_, .i32⟩
  | 58 => ⟨S64x1000000, .i32⟩
  | 59 => ⟨S64x1000000, .i32⟩
  | 60 => ⟨S64x1000000, .i32⟩
  | 61 => ⟨S64x1000000, .i32⟩
  | 62 => ⟨S64x1000000, .i32⟩
  | 63 => ⟨S_, .i32⟩
  | 64 => ⟨S64x1000000, .i32⟩
  | 65 => ⟨S64x1000000, .i32⟩
  | 66 => ⟨S_, .i32⟩
  | 67 => ⟨S64x1000000, .i32⟩
  | 68 => ⟨S64x1000000, .i32⟩
  | 69 => ⟨S64x1000000, .i32⟩
  | 70 => ⟨S64x1000000, .i32⟩
  | 71 => ⟨S64x1000000, .i32⟩
  | 72 => ⟨S_, .i32⟩
  | 73 => ⟨S64x1000000, .i32⟩
  | 74 => ⟨S64x1000000, .i32⟩
  | 75 => ⟨S_, .i32⟩
  | 76 => ⟨S64x1000000, .i32⟩
  | 77 => ⟨S64x1000000, .i32⟩
  | 78 => ⟨S64x1000000, .i32⟩
  | 79 => ⟨S64x1000000, .i32⟩
  | 80 => ⟨S64x1000000, .i32⟩
  | 81 => ⟨S_, .i32⟩
  | 82 => ⟨S64x1000000, .i32⟩
  | 83 => ⟨S64x1000000, .i32⟩
  | 84 => ⟨S_, .i32⟩
  | 85 => ⟨S64x1000000, .i32⟩
  | 86 => ⟨S64x1000000, .i32⟩
  | 87 => ⟨S64x1000000, .i32⟩
  | 88 => ⟨S64x1000000, .i32⟩
  | 89 => ⟨S64x1000000, .i32⟩
  | 90 => ⟨S64x1000000, .i32⟩
  | 91 => ⟨S64x1000000, .i32⟩
  | 92 => ⟨S64x1000000, .i32⟩
  | 93 => ⟨S_, .i32⟩
  | 94 => ⟨S64x1000000, .i32⟩
  | 95 => ⟨S64x1000000, .i32⟩
  | 96 => ⟨S64x1000000, .i32⟩
  | 97 => ⟨S_, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S64x1000000, .i32⟩
  | 104 => ⟨S64x1000000, .i32⟩
  | 105 => ⟨S64x1000000, .i32⟩
  | 106 => ⟨S_, .i32⟩
  | 107 => ⟨S64x1000000, .i32⟩
  | 108 => ⟨S64x1000000, .i32⟩
  | 109 => ⟨S_, .i32⟩
  | 110 => ⟨S64x1000000, .i32⟩
  | 111 => ⟨S64x1000000, .i32⟩
  | 112 => ⟨S64x1000000, .i32⟩
  | 113 => ⟨S64x1000000, .i32⟩
  | 114 => ⟨S64x1000000, .i32⟩
  | 115 => ⟨S_, .i32⟩
  | 116 => ⟨S64x1000000, .i32⟩
  | 117 => ⟨S64x1000000, .i32⟩
  | 118 => ⟨S_, .i32⟩
  | 119 => ⟨S64x1000000, .i32⟩
  | 120 => ⟨S64x1000000, .i32⟩
  | 121 => ⟨S64x1000000, .i32⟩
  | 122 => ⟨S64x1000000, .i32⟩
  | 123 => ⟨S64x1000000, .i32⟩
  | 124 => ⟨S_, .i32⟩
  | 125 => ⟨S64x1000000, .i32⟩
  | 126 => ⟨S64x1000000, .i32⟩
  | 127 => ⟨S_, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S64x1000000, .i32⟩
  | 5 => ⟨S64x1000000, .i32⟩
  | 6 => ⟨S64x1000000, .i32⟩
  | 7 => ⟨S64x1000000, .i32⟩
  | 8 => ⟨S_, .i32⟩
  | 9 => ⟨S64x1000000, .i32⟩
  | 10 => ⟨S64x1000000, .i32⟩
  | 11 => ⟨S64x1000000, .i32⟩
  | 12 => ⟨S_, .i32⟩
  | 13 => ⟨S64x1000000, .i32⟩
  | 14 => ⟨S64x1000000, .i32⟩
  | 15 => ⟨S_, .i32⟩
  | 16 => ⟨S64x1000000, .i32⟩
  | 17 => ⟨S64x1000000, .i32⟩
  | 18 => ⟨S64x1000000, .f32⟩
  | 19 => ⟨S_, .f32⟩
  | 20 => ⟨S64x1000000, .f32⟩
  | 21 => ⟨S64x1000000, .f32⟩
  | 22 => ⟨S_, .f32⟩
  | 23 => ⟨S64x1000000, .f32⟩
  | 24 => ⟨S64x1000000, .f32⟩
  | 25 => ⟨S64x1000000, .f32⟩
  | 26 => ⟨S64x1000000, .f32⟩
  | 27 => ⟨S64x1000000, .f32⟩
  | 28 => ⟨S64x1000000, .f32⟩
  | 29 => ⟨S64x1000000, .f32⟩
  | 30 => ⟨S64x1000000, .i32⟩
  | 31 => ⟨S_, .f32⟩
  | 32 => ⟨S_, .i32⟩
  | 33 => ⟨S64, .f32⟩
  | 34 => ⟨S64, .i32⟩
  | 35 => ⟨S64x1, .i32⟩
  | 36 => ⟨S_, .i32⟩
  | 37 => ⟨S64x1, .i32⟩
  | 38 => ⟨S64x1, .i1⟩
  | 39 => ⟨S_, .i32⟩
  | 40 => ⟨S64x1, .i32⟩
  | 41 => ⟨S64x1, .i32⟩
  | 42 => ⟨S64x1, .i32⟩
  | 43 => ⟨S64x1x1, .i32⟩
  | 44 => ⟨S1, .i32⟩
  | 45 => ⟨S_, .i32⟩
  | 46 => ⟨S64x1x1, .i32⟩
  | 47 => ⟨S64x1x1, .i1⟩
  | 48 => ⟨S1x1x1, .i32⟩
  | 49 => ⟨S64x1x1, .i32⟩
  | 50 => ⟨S64x1x1, .i1⟩
  | 51 => ⟨S64x1x1, .i1⟩
  | 52 => ⟨S_, .i1⟩
  | 53 => ⟨S64x1, .i1⟩
  | 54 => ⟨S64x1, .f32⟩
  | 55 => ⟨S_, .f32⟩
  | 56 => ⟨S64x1, .f32⟩
  | 57 => ⟨S64x1, .f32⟩
  | 58 => ⟨S64, .f32⟩
  | 59 => ⟨S64x1000000, .f32⟩
  | 60 => ⟨S_, .f32⟩
  | 61 => ⟨S64, .f32⟩
  | 62 => ⟨S64, .f32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_cst_0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_c_0 : Ref sig .tc := ⟨.hbm, 53, rfl⟩
abbrev main_call1_v7 : Ref sig .tc := ⟨.hbm, 54, rfl⟩
abbrev main_call1_v8 : Ref sig .tc := ⟨.hbm, 55, rfl⟩
abbrev main_call1_c_1 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_v12 : Ref sig .tc := ⟨.hbm, 60, rfl⟩
abbrev main_call1_v13 : Ref sig .tc := ⟨.hbm, 61, rfl⟩
abbrev main_call1_c_2 : Ref sig .tc := ⟨.hbm, 62, rfl⟩
abbrev main_call1_v14 : Ref sig .tc := ⟨.hbm, 63, rfl⟩
abbrev main_call1_v15 : Ref sig .tc := ⟨.hbm, 64, rfl⟩
abbrev main_call1_c_3 : Ref sig .tc := ⟨.hbm, 65, rfl⟩
abbrev main_call1_v16 : Ref sig .tc := ⟨.hbm, 66, rfl⟩
abbrev main_call1_v17 : Ref sig .tc := ⟨.hbm, 67, rfl⟩
abbrev main_call1_v18 : Ref sig .tc := ⟨.hbm, 68, rfl⟩
abbrev main_call1_v19 : Ref sig .tc := ⟨.hbm, 69, rfl⟩
abbrev main_call1_v20 : Ref sig .tc := ⟨.hbm, 70, rfl⟩
abbrev main_call1_c_4 : Ref sig .tc := ⟨.hbm, 71, rfl⟩
abbrev main_call1_v21 : Ref sig .tc := ⟨.hbm, 72, rfl⟩
abbrev main_call1_v22 : Ref sig .tc := ⟨.hbm, 73, rfl⟩
abbrev main_call1_c_5 : Ref sig .tc := ⟨.hbm, 74, rfl⟩
abbrev main_call1_v23 : Ref sig .tc := ⟨.hbm, 75, rfl⟩
abbrev main_call1_v24 : Ref sig .tc := ⟨.hbm, 76, rfl⟩
abbrev main_call1_v25 : Ref sig .tc := ⟨.hbm, 77, rfl⟩
abbrev main_call1_v26 : Ref sig .tc := ⟨.hbm, 78, rfl⟩
abbrev main_call1_v27 : Ref sig .tc := ⟨.hbm, 79, rfl⟩
abbrev main_call1_c_6 : Ref sig .tc := ⟨.hbm, 80, rfl⟩
abbrev main_call1_v28 : Ref sig .tc := ⟨.hbm, 81, rfl⟩
abbrev main_call1_v29 : Ref sig .tc := ⟨.hbm, 82, rfl⟩
abbrev main_call1_c_7 : Ref sig .tc := ⟨.hbm, 83, rfl⟩
abbrev main_call1_v30 : Ref sig .tc := ⟨.hbm, 84, rfl⟩
abbrev main_call1_v31 : Ref sig .tc := ⟨.hbm, 85, rfl⟩
abbrev main_call1_v32 : Ref sig .tc := ⟨.hbm, 86, rfl⟩
abbrev main_call1_v33 : Ref sig .tc := ⟨.hbm, 87, rfl⟩
abbrev main_call1_v34 : Ref sig .tc := ⟨.hbm, 88, rfl⟩
abbrev main_call1_v35 : Ref sig .tc := ⟨.hbm, 89, rfl⟩
abbrev main_call1_v36 : Ref sig .tc := ⟨.hbm, 90, rfl⟩
abbrev main_call1_v37 : Ref sig .tc := ⟨.hbm, 91, rfl⟩
abbrev main_call1_c_8 : Ref sig .tc := ⟨.hbm, 92, rfl⟩
abbrev main_call1_v38 : Ref sig .tc := ⟨.hbm, 93, rfl⟩
abbrev main_call1_v39 : Ref sig .tc := ⟨.hbm, 94, rfl⟩
abbrev main_call1_v40 : Ref sig .tc := ⟨.hbm, 95, rfl⟩
abbrev main_call1_c_9 : Ref sig .tc := ⟨.hbm, 96, rfl⟩
abbrev main_call1_v41 : Ref sig .tc := ⟨.hbm, 97, rfl⟩
abbrev main_call1_v42 : Ref sig .tc := ⟨.hbm, 98, rfl⟩
abbrev main_call1_c_10 : Ref sig .tc := ⟨.hbm, 99, rfl⟩
abbrev main_call1_v43 : Ref sig .tc := ⟨.hbm, 100, rfl⟩
abbrev main_call1_v44 : Ref sig .tc := ⟨.hbm, 101, rfl⟩
abbrev main_call1_v45 : Ref sig .tc := ⟨.hbm, 102, rfl⟩
abbrev main_call1_v46 : Ref sig .tc := ⟨.hbm, 103, rfl⟩
abbrev main_call1_v47 : Ref sig .tc := ⟨.hbm, 104, rfl⟩
abbrev main_call1_c_11 : Ref sig .tc := ⟨.hbm, 105, rfl⟩
abbrev main_call1_v48 : Ref sig .tc := ⟨.hbm, 106, rfl⟩
abbrev main_call1_v49 : Ref sig .tc := ⟨.hbm, 107, rfl⟩
abbrev main_call1_c_12 : Ref sig .tc := ⟨.hbm, 108, rfl⟩
abbrev main_call1_v50 : Ref sig .tc := ⟨.hbm, 109, rfl⟩
abbrev main_call1_v51 : Ref sig .tc := ⟨.hbm, 110, rfl⟩
abbrev main_call1_v52 : Ref sig .tc := ⟨.hbm, 111, rfl⟩
abbrev main_call1_v53 : Ref sig .tc := ⟨.hbm, 112, rfl⟩
abbrev main_call1_v54 : Ref sig .tc := ⟨.hbm, 113, rfl⟩
abbrev main_call1_c_13 : Ref sig .tc := ⟨.hbm, 114, rfl⟩
abbrev main_call1_v55 : Ref sig .tc := ⟨.hbm, 115, rfl⟩
abbrev main_call1_v56 : Ref sig .tc := ⟨.hbm, 116, rfl⟩
abbrev main_call1_c_14 : Ref sig .tc := ⟨.hbm, 117, rfl⟩
abbrev main_call1_v57 : Ref sig .tc := ⟨.hbm, 118, rfl⟩
abbrev main_call1_v58 : Ref sig .tc := ⟨.hbm, 119, rfl⟩
abbrev main_call1_v59 : Ref sig .tc := ⟨.hbm, 120, rfl⟩
abbrev main_call1_v60 : Ref sig .tc := ⟨.hbm, 121, rfl⟩
abbrev main_call1_v61 : Ref sig .tc := ⟨.hbm, 122, rfl⟩
abbrev main_call1_c_15 : Ref sig .tc := ⟨.hbm, 123, rfl⟩
abbrev main_call1_v62 : Ref sig .tc := ⟨.hbm, 124, rfl⟩
abbrev main_call1_v63 : Ref sig .tc := ⟨.hbm, 125, rfl⟩
abbrev main_call1_c_16 : Ref sig .tc := ⟨.hbm, 126, rfl⟩
abbrev main_call1_v64 : Ref sig .tc := ⟨.hbm, 127, rfl⟩
abbrev main_call1_v65 : Ref sig .tc := ⟨.hbm, 128, rfl⟩
abbrev main_call1_v66 : Ref sig .tc := ⟨.hbm, 129, rfl⟩
abbrev main_call1_v67 : Ref sig .tc := ⟨.hbm, 130, rfl⟩
abbrev main_call1_v68 : Ref sig .tc := ⟨.hbm, 131, rfl⟩
abbrev main_call1_v69 : Ref sig .tc := ⟨.hbm, 132, rfl⟩
abbrev main_call1_v70 : Ref sig .tc := ⟨.hbm, 133, rfl⟩
abbrev main_call1_v71 : Ref sig .tc := ⟨.hbm, 134, rfl⟩
abbrev main_call1_c_17 : Ref sig .tc := ⟨.hbm, 135, rfl⟩
abbrev main_call1_v72 : Ref sig .tc := ⟨.hbm, 136, rfl⟩
abbrev main_call1_v73 : Ref sig .tc := ⟨.hbm, 137, rfl⟩
abbrev main_call1_v74 : Ref sig .tc := ⟨.hbm, 138, rfl⟩
abbrev main_call1_c_18 : Ref sig .tc := ⟨.hbm, 139, rfl⟩
abbrev main_call1_v75 : Ref sig .tc := ⟨.hbm, 140, rfl⟩
abbrev main_call1_v76 : Ref sig .tc := ⟨.hbm, 141, rfl⟩
abbrev main_call1_c_19 : Ref sig .tc := ⟨.hbm, 142, rfl⟩
abbrev main_call1_v77 : Ref sig .tc := ⟨.hbm, 143, rfl⟩
abbrev main_call1_v78 : Ref sig .tc := ⟨.hbm, 144, rfl⟩
abbrev main_call1_v79 : Ref sig .tc := ⟨.hbm, 145, rfl⟩
abbrev main_call1_v80 : Ref sig .tc := ⟨.hbm, 146, rfl⟩
abbrev main_call1_v81 : Ref sig .tc := ⟨.hbm, 147, rfl⟩
abbrev main_call1_c_20 : Ref sig .tc := ⟨.hbm, 148, rfl⟩
abbrev main_call1_v82 : Ref sig .tc := ⟨.hbm, 149, rfl⟩
abbrev main_call1_v83 : Ref sig .tc := ⟨.hbm, 150, rfl⟩
abbrev main_call1_c_21 : Ref sig .tc := ⟨.hbm, 151, rfl⟩
abbrev main_call1_v84 : Ref sig .tc := ⟨.hbm, 152, rfl⟩
abbrev main_call1_v85 : Ref sig .tc := ⟨.hbm, 153, rfl⟩
abbrev main_call1_v86 : Ref sig .tc := ⟨.hbm, 154, rfl⟩
abbrev main_call1_v87 : Ref sig .tc := ⟨.hbm, 155, rfl⟩
abbrev main_call1_v88 : Ref sig .tc := ⟨.hbm, 156, rfl⟩
abbrev main_call1_c_22 : Ref sig .tc := ⟨.hbm, 157, rfl⟩
abbrev main_call1_v89 : Ref sig .tc := ⟨.hbm, 158, rfl⟩
abbrev main_call1_v90 : Ref sig .tc := ⟨.hbm, 159, rfl⟩
abbrev main_call1_c_23 : Ref sig .tc := ⟨.hbm, 160, rfl⟩
abbrev main_call1_v91 : Ref sig .tc := ⟨.hbm, 161, rfl⟩
abbrev main_call1_v92 : Ref sig .tc := ⟨.hbm, 162, rfl⟩
abbrev main_call1_v93 : Ref sig .tc := ⟨.hbm, 163, rfl⟩
abbrev main_call1_v94 : Ref sig .tc := ⟨.hbm, 164, rfl⟩
abbrev main_call1_v95 : Ref sig .tc := ⟨.hbm, 165, rfl⟩
abbrev main_call1_c_24 : Ref sig .tc := ⟨.hbm, 166, rfl⟩
abbrev main_call1_v96 : Ref sig .tc := ⟨.hbm, 167, rfl⟩
abbrev main_call1_v97 : Ref sig .tc := ⟨.hbm, 168, rfl⟩
abbrev main_call1_c_25 : Ref sig .tc := ⟨.hbm, 169, rfl⟩
abbrev main_call1_v98 : Ref sig .tc := ⟨.hbm, 170, rfl⟩
abbrev main_call1_v99 : Ref sig .tc := ⟨.hbm, 171, rfl⟩
abbrev main_call1_v100 : Ref sig .tc := ⟨.hbm, 172, rfl⟩
abbrev main_call1_v101 : Ref sig .tc := ⟨.hbm, 173, rfl⟩
abbrev main_call1_v102 : Ref sig .tc := ⟨.hbm, 174, rfl⟩
abbrev main_call1_v103 : Ref sig .tc := ⟨.hbm, 175, rfl⟩
abbrev main_call1_v104 : Ref sig .tc := ⟨.hbm, 176, rfl⟩
abbrev main_call1_v105 : Ref sig .tc := ⟨.hbm, 177, rfl⟩
abbrev main_call1_c_26 : Ref sig .tc := ⟨.hbm, 178, rfl⟩
abbrev main_call1_v106 : Ref sig .tc := ⟨.hbm, 179, rfl⟩
abbrev main_call1_v107 : Ref sig .tc := ⟨.hbm, 180, rfl⟩
abbrev main_call1_v108 : Ref sig .tc := ⟨.hbm, 181, rfl⟩
abbrev main_call1_c_27 : Ref sig .tc := ⟨.hbm, 182, rfl⟩
abbrev main_call1_v109 : Ref sig .tc := ⟨.hbm, 183, rfl⟩
abbrev main_call1_v110 : Ref sig .tc := ⟨.hbm, 184, rfl⟩
abbrev main_call1_c_28 : Ref sig .tc := ⟨.hbm, 185, rfl⟩
abbrev main_call1_v111 : Ref sig .tc := ⟨.hbm, 186, rfl⟩
abbrev main_call1_v112 : Ref sig .tc := ⟨.hbm, 187, rfl⟩
abbrev main_call1_v113 : Ref sig .tc := ⟨.hbm, 188, rfl⟩
abbrev main_call1_v114 : Ref sig .tc := ⟨.hbm, 189, rfl⟩
abbrev main_call1_v115 : Ref sig .tc := ⟨.hbm, 190, rfl⟩
abbrev main_call1_c_29 : Ref sig .tc := ⟨.hbm, 191, rfl⟩
abbrev main_call1_v116 : Ref sig .tc := ⟨.hbm, 192, rfl⟩
abbrev main_call1_v117 : Ref sig .tc := ⟨.hbm, 193, rfl⟩
abbrev main_call1_c_30 : Ref sig .tc := ⟨.hbm, 194, rfl⟩
abbrev main_call1_v118 : Ref sig .tc := ⟨.hbm, 195, rfl⟩
abbrev main_call1_v119 : Ref sig .tc := ⟨.hbm, 196, rfl⟩
abbrev main_call1_v120 : Ref sig .tc := ⟨.hbm, 197, rfl⟩
abbrev main_call1_v121 : Ref sig .tc := ⟨.hbm, 198, rfl⟩
abbrev main_call1_v122 : Ref sig .tc := ⟨.hbm, 199, rfl⟩
abbrev main_call1_c_31 : Ref sig .tc := ⟨.hbm, 200, rfl⟩
abbrev main_call1_v123 : Ref sig .tc := ⟨.hbm, 201, rfl⟩
abbrev main_call1_v124 : Ref sig .tc := ⟨.hbm, 202, rfl⟩
abbrev main_call1_c_32 : Ref sig .tc := ⟨.hbm, 203, rfl⟩
abbrev main_call1_v125 : Ref sig .tc := ⟨.hbm, 204, rfl⟩
abbrev main_call1_v126 : Ref sig .tc := ⟨.hbm, 205, rfl⟩
abbrev main_call1_v127 : Ref sig .tc := ⟨.hbm, 206, rfl⟩
abbrev main_call1_v128 : Ref sig .tc := ⟨.hbm, 207, rfl⟩
abbrev main_call1_v129 : Ref sig .tc := ⟨.hbm, 208, rfl⟩
abbrev main_call1_c_33 : Ref sig .tc := ⟨.hbm, 209, rfl⟩
abbrev main_call1_v130 : Ref sig .tc := ⟨.hbm, 210, rfl⟩
abbrev main_call1_v131 : Ref sig .tc := ⟨.hbm, 211, rfl⟩
abbrev main_call1_c_34 : Ref sig .tc := ⟨.hbm, 212, rfl⟩
abbrev main_call1_v132 : Ref sig .tc := ⟨.hbm, 213, rfl⟩
abbrev main_call1_v133 : Ref sig .tc := ⟨.hbm, 214, rfl⟩
abbrev main_call1_v134 : Ref sig .tc := ⟨.hbm, 215, rfl⟩
abbrev main_call1_v135 : Ref sig .tc := ⟨.hbm, 216, rfl⟩
abbrev main_call1_v136 : Ref sig .tc := ⟨.hbm, 217, rfl⟩
abbrev main_call1_v137 : Ref sig .tc := ⟨.hbm, 218, rfl⟩
abbrev main_call1_v138 : Ref sig .tc := ⟨.hbm, 219, rfl⟩
abbrev main_call1_v139 : Ref sig .tc := ⟨.hbm, 220, rfl⟩
abbrev main_call1_c_35 : Ref sig .tc := ⟨.hbm, 221, rfl⟩
abbrev main_call1_v140 : Ref sig .tc := ⟨.hbm, 222, rfl⟩
abbrev main_call1_v141 : Ref sig .tc := ⟨.hbm, 223, rfl⟩
abbrev main_call1_v142 : Ref sig .tc := ⟨.hbm, 224, rfl⟩
abbrev main_call1_c_36 : Ref sig .tc := ⟨.hbm, 225, rfl⟩
abbrev main_call1_v143 : Ref sig .tc := ⟨.hbm, 226, rfl⟩
abbrev main_call1_v144 : Ref sig .tc := ⟨.hbm, 227, rfl⟩
abbrev main_call1_c_37 : Ref sig .tc := ⟨.hbm, 228, rfl⟩
abbrev main_call1_v145 : Ref sig .tc := ⟨.hbm, 229, rfl⟩
abbrev main_call1_v146 : Ref sig .tc := ⟨.hbm, 230, rfl⟩
abbrev main_call1_v147 : Ref sig .tc := ⟨.hbm, 231, rfl⟩
abbrev main_call1_v148 : Ref sig .tc := ⟨.hbm, 232, rfl⟩
abbrev main_call1_v149 : Ref sig .tc := ⟨.hbm, 233, rfl⟩
abbrev main_call1_c_38 : Ref sig .tc := ⟨.hbm, 234, rfl⟩
abbrev main_call1_v150 : Ref sig .tc := ⟨.hbm, 235, rfl⟩
abbrev main_call1_v151 : Ref sig .tc := ⟨.hbm, 236, rfl⟩
abbrev main_call1_c_39 : Ref sig .tc := ⟨.hbm, 237, rfl⟩
abbrev main_call1_v152 : Ref sig .tc := ⟨.hbm, 238, rfl⟩
abbrev main_call1_v153 : Ref sig .tc := ⟨.hbm, 239, rfl⟩
abbrev main_call1_v154 : Ref sig .tc := ⟨.hbm, 240, rfl⟩
abbrev main_call1_v155 : Ref sig .tc := ⟨.hbm, 241, rfl⟩
abbrev main_call1_v156 : Ref sig .tc := ⟨.hbm, 242, rfl⟩
abbrev main_call1_c_40 : Ref sig .tc := ⟨.hbm, 243, rfl⟩
abbrev main_call1_v157 : Ref sig .tc := ⟨.hbm, 244, rfl⟩
abbrev main_call1_v158 : Ref sig .tc := ⟨.hbm, 245, rfl⟩
abbrev main_call1_c_41 : Ref sig .tc := ⟨.hbm, 246, rfl⟩
abbrev main_call1_v159 : Ref sig .tc := ⟨.hbm, 247, rfl⟩
abbrev main_call1_v160 : Ref sig .tc := ⟨.hbm, 248, rfl⟩
abbrev main_call1_v161 : Ref sig .tc := ⟨.hbm, 249, rfl⟩
abbrev main_call1_v162 : Ref sig .tc := ⟨.hbm, 250, rfl⟩
abbrev main_call1_v163 : Ref sig .tc := ⟨.hbm, 251, rfl⟩
abbrev main_call1_c_42 : Ref sig .tc := ⟨.hbm, 252, rfl⟩
abbrev main_call1_v164 : Ref sig .tc := ⟨.hbm, 253, rfl⟩
abbrev main_call1_v165 : Ref sig .tc := ⟨.hbm, 254, rfl⟩
abbrev main_call1_c_43 : Ref sig .tc := ⟨.hbm, 255, rfl⟩
abbrev main_call1_v166 : Ref sig .tc := ⟨.hbm, 256, rfl⟩
abbrev main_call1_v167 : Ref sig .tc := ⟨.hbm, 257, rfl⟩
abbrev main_call1_v168 : Ref sig .tc := ⟨.hbm, 258, rfl⟩
abbrev main_call1_v169 : Ref sig .tc := ⟨.hbm, 259, rfl⟩
abbrev main_call1_v170 : Ref sig .tc := ⟨.hbm, 260, rfl⟩
abbrev main_v24_0 : Ref sig .tc := ⟨.hbm, 261, rfl⟩
abbrev main_call1_v172 : Ref sig .tc := ⟨.hbm, 262, rfl⟩
abbrev main_call1_v173 : Ref sig .tc := ⟨.hbm, 263, rfl⟩
abbrev main_call1_c_44 : Ref sig .tc := ⟨.hbm, 264, rfl⟩
abbrev main_call1_v174 : Ref sig .tc := ⟨.hbm, 265, rfl⟩
abbrev main_v24_1 : Ref sig .tc := ⟨.hbm, 266, rfl⟩
abbrev main_v25 : Ref sig .tc := ⟨.hbm, 267, rfl⟩
abbrev main_c_5 : Ref sig .tc := ⟨.hbm, 268, rfl⟩
abbrev main_v26 : Ref sig .tc := ⟨.hbm, 269, rfl⟩
abbrev main_v27 : Ref sig .tc := ⟨.hbm, 270, rfl⟩
abbrev main_c_6 : Ref sig .tc := ⟨.hbm, 271, rfl⟩
abbrev main_v28 : Ref sig .tc := ⟨.hbm, 272, rfl⟩
abbrev main_v29 : Ref sig .tc := ⟨.hbm, 273, rfl⟩
abbrev main_v30 : Ref sig .tc := ⟨.hbm, 274, rfl⟩
abbrev main_cst : Ref sig .tc := ⟨.hbm, 275, rfl⟩
abbrev main_v31 : Ref sig .tc := ⟨.hbm, 276, rfl⟩
abbrev main_v32 : Ref sig .tc := ⟨.hbm, 277, rfl⟩
abbrev main_cst_7 : Ref sig .tc := ⟨.hbm, 278, rfl⟩
abbrev main_v33 : Ref sig .tc := ⟨.hbm, 279, rfl⟩
abbrev main_v34 : Ref sig .tc := ⟨.hbm, 280, rfl⟩
abbrev main_v35 : Ref sig .tc := ⟨.hbm, 281, rfl⟩
abbrev main_v36 : Ref sig .tc := ⟨.hbm, 282, rfl⟩
abbrev main_v37 : Ref sig .tc := ⟨.hbm, 283, rfl⟩
abbrev main_v38 : Ref sig .tc := ⟨.hbm, 284, rfl⟩
abbrev main_v39 : Ref sig .tc := ⟨.hbm, 285, rfl⟩
abbrev main_call2_v0 : Ref sig .tc := ⟨.hbm, 286, rfl⟩
abbrev main_call2_cst : Ref sig .tc := ⟨.hbm, 287, rfl⟩
abbrev main_call2_c : Ref sig .tc := ⟨.hbm, 288, rfl⟩
abbrev main_call2_v1_0 : Ref sig .tc := ⟨.hbm, 289, rfl⟩
abbrev main_v40 : Ref sig .tc := ⟨.hbm, 290, rfl⟩
abbrev main_v41 : Ref sig .tc := ⟨.hbm, 291, rfl⟩
abbrev main_call3_c : Ref sig .tc := ⟨.hbm, 292, rfl⟩
abbrev main_call3_v0 : Ref sig .tc := ⟨.hbm, 293, rfl⟩
abbrev main_call3_v1 : Ref sig .tc := ⟨.hbm, 294, rfl⟩
abbrev main_call3_c_0 : Ref sig .tc := ⟨.hbm, 295, rfl⟩
abbrev main_call3_v2 : Ref sig .tc := ⟨.hbm, 296, rfl⟩
abbrev main_call3_v3 : Ref sig .tc := ⟨.hbm, 297, rfl⟩
abbrev main_call3_v4 : Ref sig .tc := ⟨.hbm, 298, rfl⟩
abbrev main_call3_v5 : Ref sig .tc := ⟨.hbm, 299, rfl⟩
abbrev main_call3_c_1 : Ref sig .tc := ⟨.hbm, 300, rfl⟩
abbrev main_call3_c_2 : Ref sig .tc := ⟨.hbm, 301, rfl⟩
abbrev main_call3_v6 : Ref sig .tc := ⟨.hbm, 302, rfl⟩
abbrev main_call3_v7 : Ref sig .tc := ⟨.hbm, 303, rfl⟩
abbrev main_call3_v8 : Ref sig .tc := ⟨.hbm, 304, rfl⟩
abbrev main_call3_v9 : Ref sig .tc := ⟨.hbm, 305, rfl⟩
abbrev main_call3_v10 : Ref sig .tc := ⟨.hbm, 306, rfl⟩
abbrev main_call3_v11 : Ref sig .tc := ⟨.hbm, 307, rfl⟩
abbrev main_call3_c_3 : Ref sig .tc := ⟨.hbm, 308, rfl⟩
abbrev main_call3_v12 : Ref sig .tc := ⟨.hbm, 309, rfl⟩
abbrev main_call3_v13 : Ref sig .tc := ⟨.hbm, 310, rfl⟩
abbrev main_call3_cst : Ref sig .tc := ⟨.hbm, 311, rfl⟩
abbrev main_call3_v14 : Ref sig .tc := ⟨.hbm, 312, rfl⟩
abbrev main_v42 : Ref sig .tc := ⟨.hbm, 313, rfl⟩
abbrev main_v43 : Ref sig .tc := ⟨.hbm, 314, rfl⟩
abbrev main_v44 : Ref sig .tc := ⟨.hbm, 315, rfl⟩
abbrev main_cst_8 : Ref sig .tc := ⟨.hbm, 316, rfl⟩
abbrev main_v45 : Ref sig .tc := ⟨.hbm, 317, rfl⟩
abbrev main_v46 : Ref sig .tc := ⟨.hbm, 318, rfl⟩

abbrev nD : Nat := 1
abbrev τ : Topo := Topo.v7x

variable {F : FTy → Type} [FloatOps F]
-- ==== Proof.Main.lean ====
/- The first region (520 whole blocks of 1920 columns): its windows, and when its body initialises. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-! ## The windows' blocks -/

/-- The block of window `w` at point `t`, read off the valuation `W` the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- A filler for the part of window 0 that a fetch would leave untouched; no block of this region is cut, so nothing reads it. -/
def dflt0_0 : (cfg0.win 0).block.Idx → Elt F (cfg0.win 0).elt := fun _ => Classical.choice inferInstance
/-- What the staging buffer of window 0 holds when the body runs at `t`. -/
def X0_0 (c : Dev nD) (t : Fin cfg0.N) : (cfg0.win 0).block.Idx → Elt F (cfg0.win 0).elt :=
  (cfg0.win 0).fill (cfg0.grid.coords t) dflt0_0 (iblk0 W c 0 t)
/-- No block of window 0 is cut at any of the 520 points. -/
theorem xsize0_0 : ∀ t : Fin cfg0.N, ∀ a, (cfg0.win 0).xsize (cfg0.grid.coords t) a = (cfg0.win 0).size a := by decide +kernel
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Window 0 holds its block when the body starts, for any data over `W` whose body leaves it in place. -/
theorem before0_0_of {c : Dev nD} (dat : Dat τ (Elt F) Unit ℕ (UR sig nD τ) ℕ cfg0 c) (hA : dat.A 0 = W c (Pipeline.arrRef spec0 0))
    (hafter : ∀ t, dat.after 0 t = X0_0 W c t) (t : Fin cfg0.N) (d) : dat.before 0 t d = X0_0 W c t :=
  (dat.before_in_eq_fetched 0 rfl (fun _ => rfl)
      (fun t t' h => funext fun a => congrArg (fun n => Pipeline.Clip.of n ((cfg0.win 0).size a) (S64x1000000.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)
/-- Window 1 likewise. -/
theorem before0_1_of {c : Dev nD} (dat : Dat τ (Elt F) Unit ℕ (UR sig nD τ) ℕ cfg0 c) (hA : dat.A 1 = W c (Pipeline.arrRef spec0 1))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2 likewise. -/
theorem before0_2_of {c : Dev nD} (dat : Dat τ (Elt F) Unit ℕ (UR sig nD τ) ℕ cfg0 c) (hA : dat.A 2 = W c (Pipeline.arrRef spec0 2))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition under which the body initialises its running values. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 520 = 0 :=
  (fun t => by
    have ht : t.val < 520 := Nat.lt_of_lt_of_eq t.isLt N_0
    have e0 : (grid0.coords t 0).val = t.val / 1 % 520 := Pipeline.Grid.coords_val t 0 (by decide) rfl
    simp only [cond0_0, e0]
    word_cmp
   : ∀ t : Fin grid0.N, cond0_0 (grid0.coords t) ↔ t.val % 520 = 0)

/-! ## The kernel body on any staging memrefs: a subtype the run finds -/

abbrev VO0_3 : View sig .tc .vmem S64x1 .f32 := (Memref.whole cc0_stg3_0 : Memref sig .tc .vmem S64x1 .f32).view
abbrev VO0_4 : View sig .tc .vmem S64x1 .f32 := (Memref.whole cc0_stg4_0 : Memref sig .tc .vmem S64x1 .f32).view
abbrev VO0_5 : View sig .tc .vmem S64x1 .f32 := (Memref.whole cc0_stg5_0 : Memref sig .tc .vmem S64x1 .f32).view
abbrev VO0_6 : View sig .tc .vmem S64x1 .i32 := (Memref.whole cc0_stg6_0 : Memref sig .tc .vmem S64x1 .i32).view
abbrev ms0_0 (t : Fin cfg0.N) : Memref sig .tc .vmem S64x1920 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x1920 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1920 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x1 .i32 := win0_6.stage (cfg0.slots t 6)
abbrev hs0_6 (t : Fin cfg0.N) : (ms0_6 t).IsWhole := hstage0_6 ((cfg0.slots t 6).cast nbuf0_6)

end Cert.KernelIdeal.Reg

end
-- ==== Proof.MainFirst.lean ====
/- The first region: its first point. -/
module

public import proofs.«01_k».proof.Proof.Main

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first region at the first point, run: the pieces each output buffer ends with, with the triple that says so. -/
noncomputable def kernelRun0_A (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) :
    Σ' (L3 : List (View.Piece (Elt F) S64x1 .f32)), Σ' (L4 : List (View.Piece (Elt F) S64x1 .f32)), Σ' (L5 : List (View.Piece (Elt F) S64x1 .f32)), { L6 : List (View.Piece (Elt F) S64x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__main_kernel i arg1 harg1 arg2 harg2 arg3 harg3 arg4 harg4 arg5 harg5 arg6 harg6 arg7 harg7) K } := by
  refine ⟨?_, ?_, ?_, ?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.KernelIdeal.Reg

end
-- ==== Proof.MainNext.lean ====
/- The first region: its later points. -/
module

public import proofs.«01_k».proof.Proof.MainFirst

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body of the first region at a later point, over the running values the previous point left. -/
noncomputable def kernelRun0_B (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) :
    Σ' (L3 : List (View.Piece (Elt F) S64x1 .f32)), Σ' (L4 : List (View.Piece (Elt F) S64x1 .f32)), Σ' (L5 : List (View.Piece (Elt F) S64x1 .f32)), { L6 : List (View.Piece (Elt F) S64x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4 ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__main_kernel i arg1 harg1 arg2 harg2 arg3 harg3 arg4 harg4 arg5 harg5 arg6 harg6 arg7 harg7) K } := by
  refine ⟨?_, ?_, ?_, ?_, fun E K => ?run⟩
  case run =>
    simp only [cc0__main_kernel_eq_skeleton]; unfold cc0__main_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.KernelIdeal.Reg

end
-- ==== Proof.MainData.lean ====
/- The first region: what its outputs hold point by point, and its body obligation. -/
module

public import proofs.«01_k».proof.Proof.MainNext
public import Idealize.ShloMosaic.Lib.Claim

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem cover0_A_3 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) (y : S64x1.Idx) :
    ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S64x1.size (by sl_kernel_rfl) y

def out0_A_3 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) : Vec F S64x1 .f32 :=
  VO0_3.read (Elt F) (VO0_3.writes (Elt F) VO0_3.junk (kernelRun0_A c i arg1 harg1 arg2 harg2 arg3 harg3 arg4 harg4 arg5 harg5 arg6 harg6 arg7 harg7 hc0 x0 x1 x2).1)

theorem cover0_A_4 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) (y : S64x1.Idx) :
    ∃ pc ∈ (kernelRun0_A c i arg1 harg1 arg2 harg2 arg3 harg3 arg4 harg4 arg5 harg5 arg6 harg6 arg7 harg7 hc0 x0 x1 x2).2.1, y ∈ pc.1.set :=
  View.cover_of_tiledL (kernelRun0_A c i arg1 harg1 arg2 harg2 arg3 harg3 arg4 harg4 arg5 harg5 arg6 harg6 arg7 harg7 hc0 x0 x1 x2).2.1 S64x1.size (by sl_kernel_rfl) y

def out0_A_4 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) : Vec F S64x1 .f32 :=
  VO0_4.read (Elt F) (VO0_4.writes (Elt F) VO0_4.junk (kernelRun0_A c i arg1 harg1 arg2 harg2 arg3 harg3 arg4 harg4 arg5 harg5 arg6 harg6 arg7 harg7 hc0 x0 x1 x2).2.1)

theorem cover0_A_5 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) (y : S64x1.Idx) :
    ∃ pc ∈ (kernelRun0_A c i arg1 harg1 arg2 harg2 arg3 harg3 arg4 harg4 arg5 harg5 arg6 harg6 arg7 harg7 hc0 x0 x1 x2).2.2.1, y ∈ pc.1.set :=
  View.cover_of_tiledL (kernelRun0_A c i arg1 harg1 arg2 harg2 arg3 harg3 arg4 harg4 arg5 harg5 arg6 harg6 arg7 harg7 hc0 x0 x1 x2).2.2.1 S64x1.size (by sl_kernel_rfl) y

def out0_A_5 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) : Vec F S64x1 .f32 :=
  VO0_5.read (Elt F) (VO0_5.writes (Elt F) VO0_5.junk (kernelRun0_A c i arg1 harg1 arg2 harg2 arg3 harg3 arg4 harg4 arg5 harg5 arg6 harg6 arg7 harg7 hc0 x0 x1 x2).2.2.1)

theorem cover0_A_6 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) (y : S64x1.Idx) :
    ∃ pc ∈ (kernelRun0_A c i arg1 harg1 arg2 harg2 arg3 harg3 arg4 harg4 arg5 harg5 arg6 harg6 arg7 harg7 hc0 x0 x1 x2).2.2.2.1, y ∈ pc.1.set :=
  View.cover_of_tiledL (kernelRun0_A c i arg1 harg1 arg2 harg2 arg3 harg3 arg4 harg4 arg5 harg5 arg6 harg6 arg7 harg7 hc0 x0 x1 x2).2.2.2.1 S64x1.size (by sl_kernel_rfl) y

def out0_A_6 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : cond0_0 i)
    (x0 : Vec F S64x1920 .f32) (x1 : Vec F S64x1920 .i32) (x2 : Vec F S64x1920 .i32) : Vec F S64x1 .i32 :=
  VO0_6.read (Elt F) (VO0_6.writes (Elt F) VO0_6.junk (kernelRun0_A c i arg1 harg1 arg2 harg2 arg3 harg3 arg4 harg4 arg5 harg5 arg6 harg6 arg7 harg7 hc0 x0 x1 x2).2.2.2.1)

theorem cover0_B_3 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) (y : S64x1.Idx) :
    ∃ pc ∈ (kernelRun0_B c i arg1 harg1 arg2 harg2 arg3 harg3 arg4 harg4 arg5 harg5 arg6 harg6 arg7 harg7 hc0 x0 x1 x2 xo3 xo4 xo5 xo6).1, y ∈ pc.1.set :=
  View.cover_of_tiledL (kernelRun0_B c i arg1 harg1 arg2 harg2 arg3 harg3 arg4 harg4 arg5 harg5 arg6 harg6 arg7 harg7 hc0 x0 x1 x2 xo3 xo4 xo5 xo6).1 S64x1.size (by sl_kernel_rfl) y

def out0_B_3 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) : Vec F S64x1 .f32 :=
  VO0_3.read (Elt F) (VO0_3.writes (Elt F) VO0_3.junk (kernelRun0_B c i arg1 harg1 arg2 harg2 arg3 harg3 arg4 harg4 arg5 harg5 arg6 harg6 arg7 harg7 hc0 x0 x1 x2 xo3 xo4 xo5 xo6).1)

theorem cover0_B_4 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) (y : S64x1.Idx) :
    ∃ pc ∈ (kernelRun0_B c i arg1 harg1 arg2 harg2 arg3 harg3 arg4 harg4 arg5 harg5 arg6 harg6 arg7 harg7 hc0 x0 x1 x2 xo3 xo4 xo5 xo6).2.1, y ∈ pc.1.set :=
  View.cover_of_tiledL (kernelRun0_B c i arg1 harg1 arg2 harg2 arg3 harg3 arg4 harg4 arg5 harg5 arg6 harg6 arg7 harg7 hc0 x0 x1 x2 xo3 xo4 xo5 xo6).2.1 S64x1.size (by sl_kernel_rfl) y

def out0_B_4 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) : Vec F S64x1 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 xo3 xo4 xo5 xo6).2.1)

theorem cover0_B_5 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) (y : S64x1.Idx) :
    ∃ pc ∈ (kernelRun0_B c i arg1 harg1 arg2 harg2 arg3 harg3 arg4 harg4 arg5 harg5 arg6 harg6 arg7 harg7 hc0 x0 x1 x2 xo3 xo4 xo5 xo6).2.2.1, y ∈ pc.1.set :=
  View.cover_of_tiledL (kernelRun0_B c i arg1 harg1 arg2 harg2 arg3 harg3 arg4 harg4 arg5 harg5 arg6 harg6 arg7 harg7 hc0 x0 x1 x2 xo3 xo4 xo5 xo6).2.2.1 S64x1.size (by sl_kernel_rfl) y

def out0_B_5 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) : Vec F S64x1 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 xo3 xo4 xo5 xo6).2.2.1)

theorem cover0_B_6 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) (y : S64x1.Idx) :
    ∃ pc ∈ (kernelRun0_B c i arg1 harg1 arg2 harg2 arg3 harg3 arg4 harg4 arg5 harg5 arg6 harg6 arg7 harg7 hc0 x0 x1 x2 xo3 xo4 xo5 xo6).2.2.2.1, y ∈ pc.1.set :=
  View.cover_of_tiledL (kernelRun0_B c i arg1 harg1 arg2 harg2 arg3 harg3 arg4 harg4 arg5 harg5 arg6 harg6 arg7 harg7 hc0 x0 x1 x2 xo3 xo4 xo5 xo6).2.2.2.1 S64x1.size (by sl_kernel_rfl) y

def out0_B_6 (c : Dev nD) (i : grid0.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (hc0 : ¬cond0_0 i)
    (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) : Vec F S64x1 .i32 :=
  VO0_6.read (Elt F) (VO0_6.writes (Elt F) VO0_6.junk (kernelRun0_B c i arg1 harg1 arg2 harg2 arg3 harg3 arg4 harg4 arg5 harg5 arg6 harg6 arg7 harg7 hc0 x0 x1 x2 xo3 xo4 xo5 xo6).2.2.2.1)

variable (W : (c : Dev nD) → (b : Ref sig .tc) → Buf (Elt F) ((c : Thread nD τ).loc b))

/-! ## What the outputs hold after each point -/

/-- What the four output buffers hold after the body at position `n`: running sum, weighted sum, running maximum and its column. -/
def outsAt0 (c : Dev nD) : (n : ℕ) → n < cfg0.N → Vec F S64x1 .f32 × Vec F S64x1 .f32 × Vec F S64x1 .f32 × Vec F S64x1 .i32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 W c ⟨0, hn⟩) (iblk0 W c 1 ⟨0, hn⟩) (iblk0 W c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 W c ⟨0, hn⟩) (iblk0 W c 1 ⟨0, hn⟩) (iblk0 W c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 W c ⟨0, hn⟩) (iblk0 W c 1 ⟨0, hn⟩) (iblk0 W c 2 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 W c ⟨0, hn⟩) (iblk0 W c 1 ⟨0, hn⟩) (iblk0 W c 2 ⟨0, hn⟩))
  | n + 1, hn =>
    if h0 : (n + 1) % 520 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 W c ⟨n + 1, hn⟩) (iblk0 W c 1 ⟨n + 1, hn⟩) (iblk0 W c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 W c ⟨n + 1, hn⟩) (iblk0 W c 1 ⟨n + 1, hn⟩) (iblk0 W c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 W c ⟨n + 1, hn⟩) (iblk0 W c 1 ⟨n + 1, hn⟩) (iblk0 W c 2 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 W c ⟨n + 1, hn⟩) (iblk0 W c 1 ⟨n + 1, hn⟩) (iblk0 W c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 W c ⟨n + 1, hn⟩) (iblk0 W c 1 ⟨n + 1, hn⟩) (iblk0 W c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 W c ⟨n + 1, hn⟩) (iblk0 W c 1 ⟨n + 1, hn⟩) (iblk0 W c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 W c ⟨n + 1, hn⟩) (iblk0 W c 1 ⟨n + 1, hn⟩) (iblk0 W c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 W c ⟨n + 1, hn⟩) (iblk0 W c 1 ⟨n + 1, hn⟩) (iblk0 W c 2 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 520 = 0) :
    outsAt0 W c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 W c t) (iblk0 W c 1 t) (iblk0 W c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 W c t) (iblk0 W c 1 t) (iblk0 W c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 W c t) (iblk0 W c 1 t) (iblk0 W c 2 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 W c t) (iblk0 W c 1 t) (iblk0 W c 2 t)) := by
  obtain ⟨n, hn⟩ := t
  cases n with
  | zero => exact rfl
  | succ n => exact (dif_pos h0).trans rfl

theorem outsAt0_B (c : Dev nD) (t : Fin cfg0.N) (h0 : ¬t.val % 520 = 0) :
    outsAt0 W c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 W c t) (iblk0 W c 1 t) (iblk0 W c 2 t) (outsAt0 W c (t.val - 1) (Nat.lt_of_le_of_lt (Nat.sub_le _ _) t.isLt)).1 (outsAt0 W c (t.val - 1) (Nat.lt_of_le_of_lt (Nat.sub_le _ _) t.isLt)).2.1 (outsAt0 W c (t.val - 1) (Nat.lt_of_le_of_lt (Nat.sub_le _ _) t.isLt)).2.2.1 (outsAt0 W c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 W c t) (iblk0 W c 1 t) (iblk0 W c 2 t) (outsAt0 W c (t.val - 1) (Nat.lt_of_le_of_lt (Nat.sub_le _ _) t.isLt)).1 (outsAt0 W c (t.val - 1) (Nat.lt_of_le_of_lt (Nat.sub_le _ _) t.isLt)).2.1 (outsAt0 W c (t.val - 1) (Nat.lt_of_le_of_lt (Nat.sub_le _ _) t.isLt)).2.2.1 (outsAt0 W c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 W c t) (iblk0 W c 1 t) (iblk0 W c 2 t) (outsAt0 W c (t.val - 1) (Nat.lt_of_le_of_lt (Nat.sub_le _ _) t.isLt)).1 (outsAt0 W c (t.val - 1) (Nat.lt_of_le_of_lt (Nat.sub_le _ _) t.isLt)).2.1 (outsAt0 W c (t.val - 1) (Nat.lt_of_le_of_lt (Nat.sub_le _ _) t.isLt)).2.2.1 (outsAt0 W c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 W c t) (iblk0 W c 1 t) (iblk0 W c 2 t) (outsAt0 W c (t.val - 1) (Nat.lt_of_le_of_lt (Nat.sub_le _ _) t.isLt)).1 (outsAt0 W c (t.val - 1) (Nat.lt_of_le_of_lt (Nat.sub_le _ _) t.isLt)).2.1 (outsAt0 W c (t.val - 1) (Nat.lt_of_le_of_lt (Nat.sub_le _ _) t.isLt)).2.2.1 (outsAt0 W c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The data of the first region over the valuation `W`. -/
def dat0 (c : Dev nD) : Dat τ (Elt F) Unit ℕ (UR sig nD τ) ℕ cfg0 c where
  A w := W c (Pipeline.arrRef spec0 w)
  after w t := match w with
    | ⟨0, _⟩ => X0_0 W c t
    | ⟨1, _⟩ => iblk0 W c 1 t
    | ⟨2, _⟩ => iblk0 W c 2 t
    | ⟨3, _⟩ => (outsAt0 W c t.val t.isLt).1
    | ⟨4, _⟩ => (outsAt0 W c t.val t.isLt).2.1
    | ⟨5, _⟩ => (outsAt0 W c t.val t.isLt).2.2.1
    | ⟨6, _⟩ => (outsAt0 W c t.val t.isLt).2.2.2
  Φ _ := Pipeline.ΦA spec0 c
  q _ := fullShare
  owed _ := 0

theorem A_eq0 (c : Dev nD) (w : Fin cfg0.W) : (dat0 W c).A w = W c (Pipeline.arrRef spec0 w) := by
  dsimp only [dat0]

theorem after0_0 (c : Dev nD) (t : Fin cfg0.N) : (dat0 W c).after 0 t = X0_0 W c t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = (outsAt0 W c t.val t.isLt).1 := by dsimp only [dat0]
theorem after0_4 (c : Dev nD) (t : Fin cfg0.N) : (dat0 W c).after 4 t = (outsAt0 W c t.val t.isLt).2.1 := by dsimp only [dat0]
theorem after0_5 (c : Dev nD) (t : Fin cfg0.N) : (dat0 W c).after 5 t = (outsAt0 W c t.val t.isLt).2.2.1 := by dsimp only [dat0]
theorem after0_6 (c : Dev nD) (t : Fin cfg0.N) : (dat0 W c).after 6 t = (outsAt0 W c t.val t.isLt).2.2.2 := by dsimp only [dat0]

theorem before0_0 (c : Dev nD) (t : Fin cfg0.N) (d) : (dat0 W c).before 0 t d = X0_0 W c t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d
theorem before0_3_B (c : Dev nD) (t : Fin cfg0.N) (h0 : ¬t.val % 520 = 0) (d) :
    (dat0 W c).before 3 t d = (outsAt0 W c (t.val - 1) (Nat.lt_of_le_of_lt (Nat.sub_le _ _) t.isLt)).1 := by
  have hN : t.val < 520 := lt_of_lt_of_eq t.isLt (show cfg0.N = 520 from N_0)
  rw [Dat.before_out_kept _ 3 rfl t (by omega) (Bool.eq_false_iff.mpr fun h => by have := (flush0_3 _).mp h; dsimp only at this; omega)
    (fun _ => rfl) (fun _ _ => rfl)]
  dsimp only [dat0]
theorem before0_4_B (c : Dev nD) (t : Fin cfg0.N) (h0 : ¬t.val % 520 = 0) (d) :
    (dat0 W c).before 4 t d = (outsAt0 W c (t.val - 1) (Nat.lt_of_le_of_lt (Nat.sub_le _ _) t.isLt)).2.1 := by
  have hN : t.val < 520 := lt_of_lt_of_eq t.isLt (show cfg0.N = 520 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 520 = 0) (d) :
    (dat0 W c).before 5 t d = (outsAt0 W c (t.val - 1) (Nat.lt_of_le_of_lt (Nat.sub_le _ _) t.isLt)).2.2.1 := by
  have hN : t.val < 520 := lt_of_lt_of_eq t.isLt (show cfg0.N = 520 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 520 = 0) (d) :
    (dat0 W c).before 6 t d = (outsAt0 W c (t.val - 1) (Nat.lt_of_le_of_lt (Nat.sub_le _ _) t.isLt)).2.2.2 := by
  have hN : t.val < 520 := lt_of_lt_of_eq t.isLt (show cfg0.N = 520 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

def bodyPre0 (c : Dev nD) (t : Fin cfg0.N) : sProp 𝕄 :=
  iprop((dat0 W c).Φ t.castSucc ∗ (dat0 W c).owesAt () t.castSucc
    ∗ (∃ d, owns (c : Thread nD τ) (ms0_0 t) fullShare ((dat0 W c).before 0 t d))
    ∗ (∃ d, owns (c : Thread nD τ) (ms0_1 t) fullShare ((dat0 W c).before 1 t d))
    ∗ (∃ d, owns (c : Thread nD τ) (ms0_2 t) fullShare ((dat0 W c).before 2 t d))
    ∗ (∃ d, owns (c : Thread nD τ) (ms0_3 t) fullShare ((dat0 W c).before 3 t d))
    ∗ (∃ d, owns (c : Thread nD τ) (ms0_4 t) fullShare ((dat0 W c).before 4 t d))
    ∗ (∃ d, owns (c : Thread nD τ) (ms0_5 t) fullShare ((dat0 W c).before 5 t d))
    ∗ (∃ d, owns (c : Thread nD τ) (ms0_6 t) fullShare ((dat0 W c).before 6 t d)))

def bodyPost0 (c : Dev nD) (t : Fin cfg0.N) : sProp 𝕄 :=
  iprop((dat0 W c).Φ t.succ ∗ (dat0 W c).owesAt () t.succ
    ∗ owns (c : Thread nD τ) (ms0_0 t) fullShare ((dat0 W c).after 0 t)
    ∗ owns (c : Thread nD τ) (ms0_1 t) fullShare ((dat0 W c).after 1 t)
    ∗ owns (c : Thread nD τ) (ms0_2 t) fullShare ((dat0 W c).after 2 t)
    ∗ owns (c : Thread nD τ) (ms0_3 t) fullShare ((dat0 W c).after 3 t)
    ∗ owns (c : Thread nD τ) (ms0_4 t) fullShare ((dat0 W c).after 4 t)
    ∗ owns (c : Thread nD τ) (ms0_5 t) fullShare ((dat0 W c).after 5 t)
    ∗ owns (c : Thread nD τ) (ms0_6 t) fullShare ((dat0 W c).after 6 t))

set_option maxHeartbeats 800000 in
/-- The triple of the body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6]
  have hN : t.val < 520 := lt_of_lt_of_eq t.isLt (show cfg0.N = 520 from N_0)
  by_cases h0 : t.val % 520 = 0
  · rw [outsAt0_A W c t h0]
    unfold out0_A_3 out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (X0_0 W c t) (iblk0 W c 1 t) (iblk0 W c 2 t)).2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _)
  · rw [outsAt0_B W c t h0]
    simp only [before0_3_B W c t h0, before0_4_B W c t h0, before0_5_B W c t h0, before0_6_B W c t h0]
    unfold out0_B_3 out0_B_4 out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (X0_0 W c t) (iblk0 W c 1 t) (iblk0 W c 2 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

/-- The body obligation of the first region. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Reg

end
-- ==== Proof.Tail.lean ====
/- The second region (the last, partial block): its windows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-- The block of window `w` of the second region at point `t`, read off the valuation `W` the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))
/-- What the staging buffer of window 0 holds when the body runs: the 1600 columns of the array that the last block
    reaches, over whatever `d` the other 320 columns held. -/
def X1_0 (c : Dev nD) (t : Fin cfg1.N) (d : (cfg1.win 0).block.Idx → Elt F (cfg1.win 0).elt) : (cfg1.win 0).block.Idx → Elt F (cfg1.win 0).elt :=
  (cfg1.win 0).fill (cfg1.grid.coords t) d (iblk1 W c 0 t)
/-- A filler for the 320 columns past the end of the array. -/
def dflt1_0 : (cfg1.win 0).block.Idx → Elt F (cfg1.win 0).elt := fun _ => Classical.choice inferInstance
/-- Exactly the first 1600 columns of the block are moved. -/
theorem moved1_0 (t : Fin cfg1.N) (j : (cfg1.win 0).block.Idx) : (cfg1.win 0).moved (cfg1.grid.coords t) j = true ↔ (j 1).val < 1600 := by
  have hx : ∀ t : Fin cfg1.N, ∀ a, (cfg1.win 0).xsize (cfg1.grid.coords t) a = (![64, 1600] : Fin 2 → ℕ) a := by decide +kernel
  rw [Pipeline.Window.moved_iff]
  constructor
  · intro h
    have h1 := h 1
    rw [hx t 1] at h1
    exact h1
  · intro h a
    rw [hx t a]
    match a with
    | ⟨0, _⟩ => exact (j 0).isLt
    | ⟨1, _⟩ => exact h

/-- Window 0 holds its block over the filler when the body starts, for any data over `W`. -/
theorem before1_0_of {c : Dev nD} (dat : Dat τ (Elt F) Unit ℕ (UR sig nD τ) ℕ cfg1 c) (hA : dat.A 0 = W c (Pipeline.arrRef spec1 0))
    (t : Fin cfg1.N) (d) : dat.before 0 t d = X1_0 W c t d := by
  unfold Dat.before
  rw [fetch1_0 t, if_pos rfl]
  unfold Dat.fetched X1_0 Dat.blockOf iblk1
  rw [hA]; try rfl
/-- Window 1 holds its block when the body starts. -/
theorem before1_1_of {c : Dev nD} (dat : Dat τ (Elt F) Unit ℕ (UR sig nD τ) ℕ cfg1 c) (hA : dat.A 1 = W c (Pipeline.arrRef spec1 1))
    (t : Fin cfg1.N) (d) : dat.before 1 t d = iblk1 W c 1 t := by
  unfold Dat.before
  rw [fetch1_1 t, if_pos rfl]
  unfold Dat.fetched Dat.blockOf iblk1
  rw [hA]; try rfl
/-- Window 2 holds its block when the body starts. -/
theorem before1_2_of {c : Dev nD} (dat : Dat τ (Elt F) Unit ℕ (UR sig nD τ) ℕ cfg1 c) (hA : dat.A 2 = W c (Pipeline.arrRef spec1 2))
    (t : Fin cfg1.N) (d) : dat.before 2 t d = iblk1 W c 2 t := by
  unfold Dat.before
  rw [fetch1_2 t, if_pos rfl]
  unfold Dat.fetched Dat.blockOf iblk1
  rw [hA]; try rfl
/-- Window 3 holds its block when the body starts. -/
theorem before1_3_of {c : Dev nD} (dat : Dat τ (Elt F) Unit ℕ (UR sig nD τ) ℕ cfg1 c) (hA : dat.A 3 = W c (Pipeline.arrRef spec1 3))
    (t : Fin cfg1.N) (d) : dat.before 3 t d = iblk1 W c 3 t := by
  unfold Dat.before
  rw [fetch1_3 t, if_pos rfl]
  unfold Dat.fetched Dat.blockOf iblk1
  rw [hA]; try rfl
/-- Window 4 holds its block when the body starts. -/
theorem before1_4_of {c : Dev nD} (dat : Dat τ (Elt F) Unit ℕ (UR sig nD τ) ℕ cfg1 c) (hA : dat.A 4 = W c (Pipeline.arrRef spec1 4))
    (t : Fin cfg1.N) (d) : dat.before 4 t d = iblk1 W c 4 t := by
  unfold Dat.before
  rw [fetch1_4 t, if_pos rfl]
  unfold Dat.fetched Dat.blockOf iblk1
  rw [hA]; try rfl
/-- Window 5 holds its block when the body starts. -/
theorem before1_5_of {c : Dev nD} (dat : Dat τ (Elt F) Unit ℕ (UR sig nD τ) ℕ cfg1 c) (hA : dat.A 5 = W c (Pipeline.arrRef spec1 5))
    (t : Fin cfg1.N) (d) : dat.before 5 t d = iblk1 W c 5 t := by
  unfold Dat.before
  rw [fetch1_5 t, if_pos rfl]
  unfold Dat.fetched Dat.blockOf iblk1
  rw [hA]; try rfl
/-- Window 6 holds its block when the body starts. -/
theorem before1_6_of {c : Dev nD} (dat : Dat τ (Elt F) Unit ℕ (UR sig nD τ) ℕ cfg1 c) (hA : dat.A 6 = W c (Pipeline.arrRef spec1 6))
    (t : Fin cfg1.N) (d) : dat.before 6 t d = iblk1 W c 6 t := by
  unfold Dat.before
  rw [fetch1_6 t, if_pos rfl]
  unfold Dat.fetched Dat.blockOf iblk1
  rw [hA]; try rfl

abbrev ms1_0 (t : Fin cfg1.N) : Memref sig .tc .vmem S64x1920 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x1920 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1920 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x1 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S64x1 .f32 := win1_9.stage (cfg1.slots t 9)
abbrev hs1_9 (t : Fin cfg1.N) : (ms1_9 t).IsWhole := hstage1_9 ((cfg1.slots t 9).cast nbuf1_9)
abbrev VO1_7 : View sig .tc .vmem S64x1 .i32 := (Memref.whole cc1_stg7_0 : Memref sig .tc .vmem S64x1 .i32).view
abbrev VO1_8 : View sig .tc .vmem S64x1 .f32 := (Memref.whole cc1_stg8_0 : Memref sig .tc .vmem S64x1 .f32).view
abbrev VO1_9 : View sig .tc .vmem S64x1 .f32 := (Memref.whole cc1_stg9_0 : Memref sig .tc .vmem S64x1 .f32).view

end Cert.KernelIdeal.Reg

end
-- ==== Proof.TailRun.lean ====
/- The second region: its body run. -/
module

public import proofs.«01_k».proof.Proof.Tail

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of the second region, run: the pieces each of its three output buffers ends with, with the triple that says so. -/
noncomputable def kernelRun1 (c : Dev nD) (i : grid1.Coords) (arg1 : Memref sig .tc .vmem S64x1920 .f32) (harg1 : arg1.IsWhole) (arg2 : Memref sig .tc .vmem S64x1920 .i32) (harg2 : arg2.IsWhole) (arg3 : Memref sig .tc .vmem S64x1920 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .f32) (harg9 : arg9.IsWhole) (arg10 : Memref sig .tc .vmem S64x1 .f32) (harg10 : arg10.IsWhole)
    (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) :
    Σ' (L7 : List (View.Piece (Elt F) S64x1 .i32)), Σ' (L8 : List (View.Piece (Elt F) S64x1 .f32)), { L9 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc1__tail_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc1__tail_kernel_eq_skeleton]; unfold cc1__tail_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Reg

end
-- ==== Proof.Whole.lean ====
/- Loads of whole buffers. -/
module

public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Pipeline.ValueKit.Basic

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero. -/
theorem zero2 : ∀ a, (![0, 0] : Fin 2 → ℕ) a = 0 := by decide

/-- A load of a whole buffer that holds `X` reads `X`. -/
theorem load_whole {S : Shape} {e : EltTy} {a : Memref sig .tc .vmem S e} (h : a.IsWhole) (X : S.Idx → Elt F e) {off : Fin S.rank → ℕ}
    (inb : ∀ k, off k + S.size k ≤ S.size k) (h0 : ∀ k, off k = 0) :
    View.readAt (Elt F) a.view (Rect.unit off (no_index S.size) inb).toLoadRect (h.unread X) = X := by
  rw [View.readAt_eq_ld, h.read_unread]
  exact View.ld_unit_lit inb X h0

/-- A load of a whole block of 64 by 1920. -/
theorem load_block {e : EltTy} {a : Memref sig .tc .vmem S64x1920 e} (h : a.IsWhole) (X : S64x1920.Idx → Elt F e) :
    View.readAt (Elt F) a.view (Rect.unit (s := S64x1920) ![0, 0] ![64, 1920] inb_S64x1920_S64x1920_0_0).toLoadRect (h.unread X) = X :=
  load_whole h X inb_S64x1920_S64x1920_0_0 zero2

/-- A load of a whole column of 64. -/
theorem load_column {e : EltTy} {a : Memref sig .tc .vmem S64x1 e} (h : a.IsWhole) (X : S64x1.Idx → Elt F e) :
    View.readAt (Elt F) a.view (Rect.unit (s := S64x1) ![0, 0] ![64, 1] inb_S64x1_S64x1_0_0).toLoadRect (h.unread X) = X :=
  load_whole h X inb_S64x1_S64x1_0_0 zero2

end Cert.KernelIdeal.Reg

end
-- ==== Proof.TailOut.lean ====
/- The second region: what it stores, and that the columns past the end of the array do not matter. -/
module

public import proofs.«01_k».proof.Proof.TailRun
public import proofs.«01_k».proof.Proof.Whole

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The uniform words of the last block, as floats on [1, 2): the generator run on the flat index `x1 + 998400`. -/
def tailRaw (x1 : Vec F S64x1920 .i32) : FVec F S64x1920 .f32 :=
  let v37 := k1_pay13 x1
  let v39 := k1_pay14 x1
  let v81 := k1_pay26 v37 v39 466689009#32
  let v83 := k1_pay27 v37 v39 466689009#32
  let v85 := k1_pay28 v37 v39 466689009#32
  let v127 := k1_pay40 v81 v83 v85
  let v129 := k1_pay41 v81 v83 v85
  let v131 := k1_pay42 v81 v83 v85
  k1_pay43 v127 v129 v131

/-- The maximum of the last block beats the running one. -/
def tailGt (x0 : Vec F S64x1920 .f32) (x1 x2 : Vec F S64x1920 .i32) (x5 : Vec F S64x1 .f32) : IVec S64x1 1 :=
  k1_pay51 x0 (k1_pay5 x2) (tailRaw x1) k1_pay44 x5

/-- The column, within the last block, of its maximum. -/
def tailBi (x0 : Vec F S64x1920 .f32) (x1 x2 : Vec F S64x1920 .i32) : IVec S64x1 32 :=
  k1_pay50 x0 (k1_pay4 x2) (k1_pay5 x2) (tailRaw x1) k1_pay44

/-- The uniform variate of the winning entry, drawn again from its flat index. -/
def tailU (bi : IVec S64x1 32) (gt : IVec S64x1 1) (x6 : Vec F S64x1 .i32) : FVec F S64x1 .f32 :=
  let v260 := k1_pay62 bi gt x6
  let v261 := k1_pay63 bi gt x6
  let v306 := k1_pay74 v260 v261 17#32
  let v307 := k1_pay75 v260 v261 17#32
  k1_pay88 (k1_pay85 v306 v307 26#32) (k1_pay86 v306 v307 26#32) k1_pay87

/-- The sampled column, the log-probability and the entropy that the second region stores. -/
def tailOut (x0 : Vec F S64x1920 .f32) (x1 x2 : Vec F S64x1920 .i32) (x3 x4 x5 : Vec F S64x1 .f32) (x6 : Vec F S64x1 .i32) :
    Vec F S64x1 .i32 × Vec F S64x1 .f32 × Vec F S64x1 .f32 :=
  (k1_pay54 (tailBi x0 x1 x2) (tailGt x0 x1 x2 x5) x6,
    k1_pay2 (k1_pay47 x0 (k1_pay5 x2) x3)
      (k1_pay53 (k1_pay49 x0 (k1_pay5 x2) (tailRaw x1) k1_pay44) (tailGt x0 x1 x2 x5) (k1_pay52 x5))
      (tailU (tailBi x0 x1 x2) (tailGt x0 x1 x2 x5) x6),
    k1_pay3 (k1_pay47 x0 (k1_pay5 x2) x3) (k1_pay48 x0 (k1_pay5 x2) x4))

theorem canon1_7 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) :
    View.canon (kernelRun1 c i a1 h1 a2 h2 a3 h3 a4 h4 a5 h5 a6 h6 a7 h7 a8 h8 a9 h9 a10 h10 x0 x1 x2 x3 x4 x5 x6).1 = (tailOut x0 x1 x2 x3 x4 x5 x6).1 := by
  unfold kernelRun1
  dsimp only
  refine (View.canon_cons_unit_lit _ _ _ zero2).trans ?_
  simp only [kernelRun1.sl.r, kernelRun1.sl.r_1, kernelRun1.sl.r_2, kernelRun1.sl.r_3, kernelRun1.sl.r_4, kernelRun1.sl.r_5, kernelRun1.sl.r_6, kernelRun1.sl.r_7, kernelRun1.sl.r_8, kernelRun1.sl.r_9, kernelRun1.sl.r_10, kernelRun1.sl.r_11, kernelRun1.sl.r_12, kernelRun1.sl.r_13, kernelRun1.sl.r_14, kernelRun1.sl.r_15, kernelRun1.sl.r_16, kernelRun1.sl.r_17, kernelRun1.sl.r_18, kernelRun1.sl.r_19, kernelRun1.sl.r_20, kernelRun1.sl.r_21, kernelRun1.sl.r_22, kernelRun1.sl.r_23, kernelRun1.sl.r_24, kernelRun1.sl.r_25, kernelRun1.sl.r_26, load_block, load_column]
  rfl

/-- The store into output 7 covers its buffer. -/
theorem cover1_7 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) (y : S64x1.Idx) :
    ∃ pc ∈ (kernelRun1 c i a1 h1 a2 h2 a3 h3 a4 h4 a5 h5 a6 h6 a7 h7 a8 h8 a9 h9 a10 h10 x0 x1 x2 x3 x4 x5 x6).1, y ∈ pc.1.set :=
  View.cover_of_tiledL _ S64x1.size (by sl_kernel_rfl) y

theorem canon1_8 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) :
    View.canon (kernelRun1 c i a1 h1 a2 h2 a3 h3 a4 h4 a5 h5 a6 h6 a7 h7 a8 h8 a9 h9 a10 h10 x0 x1 x2 x3 x4 x5 x6).2.1 = (tailOut x0 x1 x2 x3 x4 x5 x6).2.1 := by
  unfold kernelRun1
  dsimp only
  refine (View.canon_cons_unit_lit _ _ _ zero2).trans ?_
  simp only [kernelRun1.sl.r, kernelRun1.sl.r_1, kernelRun1.sl.r_2, kernelRun1.sl.r_3, kernelRun1.sl.r_4, kernelRun1.sl.r_5, kernelRun1.sl.r_6, kernelRun1.sl.r_7, kernelRun1.sl.r_8, kernelRun1.sl.r_9, kernelRun1.sl.r_10, kernelRun1.sl.r_11, kernelRun1.sl.r_12, kernelRun1.sl.r_13, kernelRun1.sl.r_14, kernelRun1.sl.r_15, kernelRun1.sl.r_16, kernelRun1.sl.r_17, kernelRun1.sl.r_18, kernelRun1.sl.r_19, kernelRun1.sl.r_20, kernelRun1.sl.r_21, kernelRun1.sl.r_22, kernelRun1.sl.r_23, kernelRun1.sl.r_24, kernelRun1.sl.r_25, kernelRun1.sl.r_26, load_block, load_column]
  rfl

/-- The store into output 8 covers its buffer. -/
theorem cover1_8 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) (y : S64x1.Idx) :
    ∃ pc ∈ (kernelRun1 c i a1 h1 a2 h2 a3 h3 a4 h4 a5 h5 a6 h6 a7 h7 a8 h8 a9 h9 a10 h10 x0 x1 x2 x3 x4 x5 x6).2.1, y ∈ pc.1.set :=
  View.cover_of_tiledL _ S64x1.size (by sl_kernel_rfl) y

theorem canon1_9 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) :
    View.canon (kernelRun1 c i a1 h1 a2 h2 a3 h3 a4 h4 a5 h5 a6 h6 a7 h7 a8 h8 a9 h9 a10 h10 x0 x1 x2 x3 x4 x5 x6).2.2.1 = (tailOut x0 x1 x2 x3 x4 x5 x6).2.2 := by
  unfold kernelRun1
  dsimp only
  refine (View.canon_cons_unit_lit _ _ _ zero2).trans ?_
  simp only [kernelRun1.sl.r, kernelRun1.sl.r_1, kernelRun1.sl.r_2, kernelRun1.sl.r_3, kernelRun1.sl.r_4, kernelRun1.sl.r_5, kernelRun1.sl.r_6, kernelRun1.sl.r_7, kernelRun1.sl.r_8, kernelRun1.sl.r_9, kernelRun1.sl.r_10, kernelRun1.sl.r_11, kernelRun1.sl.r_12, kernelRun1.sl.r_13, kernelRun1.sl.r_14, kernelRun1.sl.r_15, kernelRun1.sl.r_16, kernelRun1.sl.r_17, kernelRun1.sl.r_18, kernelRun1.sl.r_19, kernelRun1.sl.r_20, kernelRun1.sl.r_21, kernelRun1.sl.r_22, kernelRun1.sl.r_23, kernelRun1.sl.r_24, kernelRun1.sl.r_25, kernelRun1.sl.r_26, load_block, load_column]
  rfl

/-- The store into output 9 covers its buffer. -/
theorem cover1_9 (c : Dev nD) (i : grid1.Coords) a1 h1 a2 h2 a3 h3 a4 h4 a5 h5 a6 h6 a7 h7 a8 h8 a9 h9 a10 h10 (x0 : Vec F S64x1920 .f32) (x1 : Vec F S64x1920 .i32) (x2 : Vec F S64x1920 .i32) (x3 : Vec F S64x1 .f32) (x4 : Vec F S64x1 .f32) (x5 : Vec F S64x1 .f32) (x6 : Vec F S64x1 .i32) (y : S64x1.Idx) :
    ∃ pc ∈ (kernelRun1 c i a1 h1 a2 h2 a3 h3 a4 h4 a5 h5 a6 h6 a7 h7 a8 h8 a9 h9 a10 h10 x0 x1 x2 x3 x4 x5 x6).2.2.1, y ∈ pc.1.set :=
  View.cover_of_tiledL _ S64x1.size (by sl_kernel_rfl) y

/-- Logits that agree where the column mask holds give the same stored values: the others are never used. -/
theorem tailOut_congr {x0 x0' : Vec F S64x1920 .f32} (x1 x2 : Vec F S64x1920 .i32) (x3 x4 x5 : Vec F S64x1 .f32) (x6 : Vec F S64x1 .i32)
    (h : ∀ j, k1_pay5 x2 j = 1#1 → x0 j = x0' j) : tailOut x0 x1 x2 x3 x4 x5 x6 = tailOut x0' x1 x2 x3 x4 x5 x6 := by
  have h45 : k1_pay45 x0 (k1_pay5 x2) = k1_pay45 x0' (k1_pay5 x2) := by
    funext j
    unfold k1_pay45 select exp
    by_cases hj : k1_pay5 x2 j = 1#1
    · rw [h j hj]
    · exact (if_neg hj).trans (if_neg hj).symm
  have h48 : k1_pay48 x0 (k1_pay5 x2) x4 = k1_pay48 x0' (k1_pay5 x2) x4 := by
    unfold k1_pay48
    rw [h45]
    have e : select (k1_pay5 x2) (mulf x0 (k1_pay45 x0' (k1_pay5 x2))) (broadcast S64x1920 (Scalar.ofBits .f32 0x00000000#32 : F .f32))
        = select (k1_pay5 x2) (mulf x0' (k1_pay45 x0' (k1_pay5 x2))) (broadcast S64x1920 (Scalar.ofBits .f32 0x00000000#32 : F .f32)) := by
      funext j
      unfold select mulf
      by_cases hj : k1_pay5 x2 j = 1#1
      · rw [h j hj]
      · exact (if_neg hj).trans (if_neg hj).symm
    dsimp only
    rw [e]
  have h46 : ∀ r k, k1_pay46 x0 (k1_pay5 x2) r k = k1_pay46 x0' (k1_pay5 x2) r k := by
    intro r k
    funext j
    unfold k1_pay46 select addf
    by_cases hj : k1_pay5 x2 j = 1#1
    · rw [h j hj]
    · exact (if_neg hj).trans (if_neg hj).symm
  unfold tailOut tailGt tailBi k1_pay51 k1_pay50 k1_pay49 k1_pay47
  simp only [h45, h48, h46]

end Cert.KernelIdeal.Reg

end
-- ==== Proof.TailData.lean ====
/- The second region: its data and its body obligation. -/
module

public import proofs.«01_k».proof.Proof.TailOut
public import Idealize.ShloMosaic.Lib.Claim

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-- What the second region stores at point `t`, over the valuation `W` it starts from. -/
def outs1 (c : Dev nD) (t : Fin cfg1.N) : Vec F S64x1 .i32 × Vec F S64x1 .f32 × Vec F S64x1 .f32 :=
  tailOut (X1_0 W c t dflt1_0) (iblk1 W c 1 t) (iblk1 W c 2 t) (iblk1 W c 3 t) (iblk1 W c 4 t) (iblk1 W c 5 t) (iblk1 W c 6 t)

/-- The data of the second region over the valuation `W`. -/
def dat1 (c : Dev nD) : Dat τ (Elt F) Unit ℕ (UR sig nD τ) ℕ cfg1 c where
  A w := W c (Pipeline.arrRef spec1 w)
  after w t := match w with
    | ⟨0, _⟩ => X1_0 W c t dflt1_0
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => (outs1 W c t).1
    | ⟨8, _⟩ => (outs1 W c t).2.1
    | ⟨9, _⟩ => (outs1 W c t).2.2
  Φ _ := Pipeline.ΦA spec1 c
  q _ := fullShare
  owed _ := 0

theorem A_eq1 (c : Dev nD) (w : Fin cfg1.W) : (dat1 W c).A w = W c (Pipeline.arrRef spec1 w) := by
  dsimp only [dat1]

theorem after1_0 (c : Dev nD) (t : Fin cfg1.N) : (dat1 W c).after 0 t = X1_0 W c t dflt1_0 := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = (outs1 W c t).1 := by dsimp only [dat1]
theorem after1_8 (c : Dev nD) (t : Fin cfg1.N) : (dat1 W c).after 8 t = (outs1 W c t).2.1 := by dsimp only [dat1]
theorem after1_9 (c : Dev nD) (t : Fin cfg1.N) : (dat1 W c).after 9 t = (outs1 W c t).2.2 := by dsimp only [dat1]

theorem before1_0 (c : Dev nD) (t : Fin cfg1.N) (d) : (dat1 W c).before 0 t d = X1_0 W c t d :=
  before1_0_of W (dat1 W c) (A_eq1 W c 0) t d
theorem before1_1 (c : Dev nD) (t : Fin cfg1.N) (d) : (dat1 W c).before 1 t d = iblk1 W c 1 t :=
  before1_1_of W (dat1 W c) (A_eq1 W c 1) t d
theorem before1_2 (c : Dev nD) (t : Fin cfg1.N) (d) : (dat1 W c).before 2 t d = iblk1 W c 2 t :=
  before1_2_of W (dat1 W c) (A_eq1 W c 2) t d
theorem before1_3 (c : Dev nD) (t : Fin cfg1.N) (d) : (dat1 W c).before 3 t d = iblk1 W c 3 t :=
  before1_3_of W (dat1 W c) (A_eq1 W c 3) t d
theorem before1_4 (c : Dev nD) (t : Fin cfg1.N) (d) : (dat1 W c).before 4 t d = iblk1 W c 4 t :=
  before1_4_of W (dat1 W c) (A_eq1 W c 4) t d
theorem before1_5 (c : Dev nD) (t : Fin cfg1.N) (d) : (dat1 W c).before 5 t d = iblk1 W c 5 t :=
  before1_5_of W (dat1 W c) (A_eq1 W c 5) t d
theorem before1_6 (c : Dev nD) (t : Fin cfg1.N) (d) : (dat1 W c).before 6 t d = iblk1 W c 6 t :=
  before1_6_of W (dat1 W c) (A_eq1 W c 6) t d

/-- What the columns past the end of the array held does not matter to what the body stores. -/
theorem outs1_any (hcol : ∀ c t j, k1_pay5 (iblk1 W c 2 t) j = 1#1 → (j 1).val < 1600) (c : Dev nD) (t : Fin cfg1.N) (d) :
    tailOut (X1_0 W c t d) (iblk1 W c 1 t) (iblk1 W c 2 t) (iblk1 W c 3 t) (iblk1 W c 4 t) (iblk1 W c 5 t) (iblk1 W c 6 t) = outs1 W c t := by
  unfold outs1
  refine tailOut_congr _ _ _ _ _ _ fun j hj => ?_
  have hm := (moved1_0 t j).mpr (hcol c t j hj)
  unfold X1_0 Pipeline.Window.fill
  rw [dif_pos hm, dif_pos hm]

/-- What the body starts from. -/
def bodyPre1 (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d))
    ∗ (∃ d, owns (c : Thread nD τ) (ms1_4 t) fullShare ((dat1 W c).before 4 t d))
    ∗ (∃ d, owns (c : Thread nD τ) (ms1_5 t) fullShare ((dat1 W c).before 5 t d))
    ∗ (∃ d, owns (c : Thread nD τ) (ms1_6 t) fullShare ((dat1 W c).before 6 t d))
    ∗ (∃ d, owns (c : Thread nD τ) (ms1_7 t) fullShare ((dat1 W c).before 7 t d))
    ∗ (∃ d, owns (c : Thread nD τ) (ms1_8 t) fullShare ((dat1 W c).before 8 t d))
    ∗ (∃ d, owns (c : Thread nD τ) (ms1_9 t) fullShare ((dat1 W c).before 9 t d)))

/-- What it ends with: window 0 as fetched on the part that is moved, every other buffer exactly. -/
def bodyPost1 (c : Dev nD) (t : Fin cfg1.N) : sProp 𝕄 :=
  iprop((dat1 W c).Φ t.succ ∗ (dat1 W c).owesAt () t.succ
    ∗ (∃ d, owns (c : Thread nD τ) (ms1_0 t) fullShare ((cfg1.win 0).fill (cfg1.grid.coords t) d ((cfg1.win 0).cut (cfg1.grid.coords t) ((dat1 W c).after 0 t))))
    ∗ owns (c : Thread nD τ) (ms1_1 t) fullShare ((dat1 W c).after 1 t)
    ∗ owns (c : Thread nD τ) (ms1_2 t) fullShare ((dat1 W c).after 2 t)
    ∗ owns (c : Thread nD τ) (ms1_3 t) fullShare ((dat1 W c).after 3 t)
    ∗ owns (c : Thread nD τ) (ms1_4 t) fullShare ((dat1 W c).after 4 t)
    ∗ owns (c : Thread nD τ) (ms1_5 t) fullShare ((dat1 W c).after 5 t)
    ∗ owns (c : Thread nD τ) (ms1_6 t) fullShare ((dat1 W c).after 6 t)
    ∗ owns (c : Thread nD τ) (ms1_7 t) fullShare ((dat1 W c).after 7 t)
    ∗ owns (c : Thread nD τ) (ms1_8 t) fullShare ((dat1 W c).after 8 t)
    ∗ owns (c : Thread nD τ) (ms1_9 t) fullShare ((dat1 W c).after 9 t))

theorem cut_after1_0 (c : Dev nD) (t : Fin cfg1.N) (d) :
    (cfg1.win 0).fill (cfg1.grid.coords t) d ((cfg1.win 0).cut (cfg1.grid.coords t) ((dat1 W c).after 0 t)) = X1_0 W c t d := by
  rw [after1_0]
  unfold X1_0
  rw [Pipeline.Window.cut_fill]

set_option maxHeartbeats 1600000 in
/-- The triple of the body. -/
theorem sound_body1 (hcol : ∀ c t j, k1_pay5 (iblk1 W c 2 t) j = 1#1 → (j 1).val < 1600) (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, cut_after1_0]
  rw [show (dat1 W c).Φ t.succ = (dat1 W c).Φ t.castSucc from rfl,
    show (dat1 W c).owesAt () t.succ = (dat1 W c).owesAt () t.castSucc from rfl,
    after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← outs1_any W hcol c t d0]
  iapply ((kernelRun1 c (grid1.coords t) _ _ _ _ _ _ _ _ _ _ _ _ _ _ _ _ _ _ _ _ (X1_0 W c t d0) (iblk1 W c 1 t) (iblk1 W c 2 t) (iblk1 W c 3 t) (iblk1 W c 4 t) (iblk1 W c 5 t) (iblk1 W c 6 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, ⟨%e7, H7⟩, ⟨%e8, H8⟩, ⟨%e9, H9⟩⟩
  isplitl [HΦ]; · iexact HΦ
  isplitl [Ho]; · iexact Ho
  isplitl [H0]; · iexists d0; rw [cut_after1_0]; iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact (View.read_writes_eq_canon _ _ _ (cover1_7 c _ _ _ _ _ _ _ _ _ _ _ _ _ _ _ _ _ _ _ _ _ _ _ _ _ _ _ _)).trans (canon1_7 c _ _ _ _ _ _ _ _ _ _ _ _ _ _ _ _ _ _ _ _ _ _ _ _ _ _ _ _)
  isplitl [H8]
  · unfold owns; iexists _; isplitr
    swap; · iexact H8
    ipureintro; exact (View.read_writes_eq_canon _ _ _ (cover1_8 c _ _ _ _ _ _ _ _ _ _ _ _ _ _ _ _ _ _ _ _ _ _ _ _ _ _ _ _)).trans (canon1_8 c _ _ _ _ _ _ _ _ _ _ _ _ _ _ _ _ _ _ _ _ _ _ _ _ _ _ _ _)
  unfold owns; iexists _; isplitr
  swap; · iexact H9
  ipureintro; exact (View.read_writes_eq_canon _ _ _ (cover1_9 c _ _ _ _ _ _ _ _ _ _ _ _ _ _ _ _ _ _ _ _ _ _ _ _ _ _ _ _)).trans (canon1_9 c _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The body obligation of the second region. -/
theorem body_obligation1 (hcol : ∀ c t j, k1_pay5 (iblk1 W c 2 t) j = 1#1 → (j 1).val < 1600) (c : Dev nD) : Pipeline.BodyObligationLoose (dat1 (F := F) W c) (defs₀ (F := F)) Variants.none () Set.univ := fun t => by
  rw [bigSep_W1, bigSep_W1, defs₀_row1]
  exact triple_restated (sound_body1 W hcol c t) rfl .rfl fun _ => .rfl

end Cert.KernelIdeal.Reg

end
-- ==== Proof.Blocks.lean ====
/- The blocks the windows read and write, element by element. -/
module

public import proofs.«01_k».proof.Proof.MainData
public import proofs.«01_k».proof.Proof.TailData
public import Idealize.ShloMosaic.Lib.Pipeline.ValueKit

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

theorem index0_1 : ∀ t : Fin cfg0.N, win0_1.index t (0 : Fin 2) = 0 ∧ win0_1.index t (1 : Fin 2) = 0 := by decide +kernel
/-- Window 1 of region 0 is one block, the whole array. -/
theorem iblk0_1 (c : Dev nD) (t : Fin cfg0.N) : iblk0 W c 1 t = W c main_v5 := by
  have hemb : ∀ j : S64x1920.Idx, ((cfg0.win 1).blk t).view.emb j = j := by
    intro j
    obtain ⟨e0, e1⟩ := index0_1 t
    funext a; apply Fin.ext
    match a with
    | ⟨0, _⟩ => show win0_1.index t (0 : Fin 2) * 64 + 1 * (j 0).val = (j 0).val; omega
    | ⟨1, _⟩ => show win0_1.index t (1 : Fin 2) * 1920 + 1 * (j 1).val = (j 1).val; omega
  funext j; show W c main_v5 (((cfg0.win 1).blk t).view.emb j) = W c main_v5 j; rw [hemb]

theorem index0_2 : ∀ t : Fin cfg0.N, win0_2.index t (0 : Fin 2) = 0 ∧ win0_2.index t (1 : Fin 2) = 0 := by decide +kernel
/-- Window 2 of region 0 is one block, the whole array. -/
theorem iblk0_2 (c : Dev nD) (t : Fin cfg0.N) : iblk0 W c 2 t = W c main_v0 := by
  have hemb : ∀ j : S64x1920.Idx, ((cfg0.win 2).blk t).view.emb j = j := by
    intro j
    obtain ⟨e0, e1⟩ := index0_2 t
    funext a; apply Fin.ext
    match a with
    | ⟨0, _⟩ => show win0_2.index t (0 : Fin 2) * 64 + 1 * (j 0).val = (j 0).val; omega
    | ⟨1, _⟩ => show win0_2.index t (1 : Fin 2) * 1920 + 1 * (j 1).val = (j 1).val; omega
  funext j; show W c main_v0 (((cfg0.win 2).blk t).view.emb j) = W c main_v0 j; rw [hemb]

theorem index1_1 : ∀ t : Fin cfg1.N, win1_1.index t (0 : Fin 2) = 0 ∧ win1_1.index t (1 : Fin 2) = 0 := by decide +kernel
/-- Window 1 of region 1 is one block, the whole array. -/
theorem iblk1_1 (c : Dev nD) (t : Fin cfg1.N) : iblk1 W c 1 t = W c main_v5 := by
  have hemb : ∀ j : S64x1920.Idx, ((cfg1.win 1).blk t).view.emb j = j := by
    intro j
    obtain ⟨e0, e1⟩ := index1_1 t
    funext a; apply Fin.ext
    match a with
    | ⟨0, _⟩ => show win1_1.index t (0 : Fin 2) * 64 + 1 * (j 0).val = (j 0).val; omega
    | ⟨1, _⟩ => show win1_1.index t (1 : Fin 2) * 1920 + 1 * (j 1).val = (j 1).val; omega
  funext j; show W c main_v5 (((cfg1.win 1).blk t).view.emb j) = W c main_v5 j; rw [hemb]

theorem index1_2 : ∀ t : Fin cfg1.N, win1_2.index t (0 : Fin 2) = 0 ∧ win1_2.index t (1 : Fin 2) = 0 := by decide +kernel
/-- Window 2 of region 1 is one block, the whole array. -/
theorem iblk1_2 (c : Dev nD) (t : Fin cfg1.N) : iblk1 W c 2 t = W c main_v0 := by
  have hemb : ∀ j : S64x1920.Idx, ((cfg1.win 2).blk t).view.emb j = j := by
    intro j
    obtain ⟨e0, e1⟩ := index1_2 t
    funext a; apply Fin.ext
    match a with
    | ⟨0, _⟩ => show win1_2.index t (0 : Fin 2) * 64 + 1 * (j 0).val = (j 0).val; omega
    | ⟨1, _⟩ => show win1_2.index t (1 : Fin 2) * 1920 + 1 * (j 1).val = (j 1).val; omega
  funext j; show W c main_v0 (((cfg1.win 2).blk t).view.emb j) = W c main_v0 j; rw [hemb]

theorem index1_3 : ∀ t : Fin cfg1.N, win1_3.index t (0 : Fin 2) = 0 ∧ win1_3.index t (1 : Fin 2) = 0 := by decide +kernel
/-- Window 3 of region 1 is one block, the whole array. -/
theorem iblk1_3 (c : Dev nD) (t : Fin cfg1.N) : iblk1 W c 3 t = W c main_v6_0 := by
  have hemb : ∀ j : S64x1.Idx, ((cfg1.win 3).blk t).view.emb j = j := by
    intro j
    obtain ⟨e0, e1⟩ := index1_3 t
    funext a; apply Fin.ext
    match a with
    | ⟨0, _⟩ => show win1_3.index t (0 : Fin 2) * 64 + 1 * (j 0).val = (j 0).val; omega
    | ⟨1, _⟩ => show win1_3.index t (1 : Fin 2) * 1 + 1 * (j 1).val = (j 1).val; omega
  funext j; show W c main_v6_0 (((cfg1.win 3).blk t).view.emb j) = W c main_v6_0 j; rw [hemb]

theorem index1_4 : ∀ t : Fin cfg1.N, win1_4.index t (0 : Fin 2) = 0 ∧ win1_4.index t (1 : Fin 2) = 0 := by decide +kernel
/-- Window 4 of region 1 is one block, the whole array. -/
theorem iblk1_4 (c : Dev nD) (t : Fin cfg1.N) : iblk1 W c 4 t = W c main_v6_1 := by
  have hemb : ∀ j : S64x1.Idx, ((cfg1.win 4).blk t).view.emb j = j := by
    intro j
    obtain ⟨e0, e1⟩ := index1_4 t
    funext a; apply Fin.ext
    match a with
    | ⟨0, _⟩ => show win1_4.index t (0 : Fin 2) * 64 + 1 * (j 0).val = (j 0).val; omega
    | ⟨1, _⟩ => show win1_4.index t (1 : Fin 2) * 1 + 1 * (j 1).val = (j 1).val; omega
  funext j; show W c main_v6_1 (((cfg1.win 4).blk t).view.emb j) = W c main_v6_1 j; rw [hemb]

theorem index1_5 : ∀ t : Fin cfg1.N, win1_5.index t (0 : Fin 2) = 0 ∧ win1_5.index t (1 : Fin 2) = 0 := by decide +kernel
/-- Window 5 of region 1 is one block, the whole array. -/
theorem iblk1_5 (c : Dev nD) (t : Fin cfg1.N) : iblk1 W c 5 t = W c main_v6_2 := by
  have hemb : ∀ j : S64x1.Idx, ((cfg1.win 5).blk t).view.emb j = j := by
    intro j
    obtain ⟨e0, e1⟩ := index1_5 t
    funext a; apply Fin.ext
    match a with
    | ⟨0, _⟩ => show win1_5.index t (0 : Fin 2) * 64 + 1 * (j 0).val = (j 0).val; omega
    | ⟨1, _⟩ => show win1_5.index t (1 : Fin 2) * 1 + 1 * (j 1).val = (j 1).val; omega
  funext j; show W c main_v6_2 (((cfg1.win 5).blk t).view.emb j) = W c main_v6_2 j; rw [hemb]

theorem index1_6 : ∀ t : Fin cfg1.N, win1_6.index t (0 : Fin 2) = 0 ∧ win1_6.index t (1 : Fin 2) = 0 := by decide +kernel
/-- Window 6 of region 1 is one block, the whole array. -/
theorem iblk1_6 (c : Dev nD) (t : Fin cfg1.N) : iblk1 W c 6 t = W c main_v6_3 := by
  have hemb : ∀ j : S64x1.Idx, ((cfg1.win 6).blk t).view.emb j = j := by
    intro j
    obtain ⟨e0, e1⟩ := index1_6 t
    funext a; apply Fin.ext
    match a with
    | ⟨0, _⟩ => show win1_6.index t (0 : Fin 2) * 64 + 1 * (j 0).val = (j 0).val; omega
    | ⟨1, _⟩ => show win1_6.index t (1 : Fin 2) * 1 + 1 * (j 1).val = (j 1).val; omega
  funext j; show W c main_v6_3 (((cfg1.win 6).blk t).view.emb j) = W c main_v6_3 j; rw [hemb]

/-- A column of the array, from a block of the first region and a column of it. -/
def colAt0 (t : Fin cfg0.N) (j : S64x1920.Idx) : S64x1000000.Idx := fun a => match a with
  | ⟨0, _⟩ => j 0
  | ⟨1, _⟩ => ⟨t.val * 1920 + (j 1).val, by have h := t.isLt; have h1 := (j 1).isLt; have hN : cfg0.N = 520 := N_0; show _ < 1000000; change (j 1).val < 1920 at h1; omega⟩

theorem index0_0 : ∀ t : Fin cfg0.N, win0_0.index t (0 : Fin 2) = 0 ∧ win0_0.index t (1 : Fin 2) = t.val := by decide +kernel

/-- Block `t` of the first region's logits window is columns `1920 t` to `1920 t + 1919`. -/
theorem X0_0_apply (c : Dev nD) (t : Fin cfg0.N) (j : S64x1920.Idx) : X0_0 W c t j = W c main_arg0 (colAt0 t j) := by
  unfold X0_0 Pipeline.Window.fill
  rw [dif_pos (moved0_0 t j)]
  show W c main_arg0 (((cfg0.win 0).blk t).view.emb _) = _
  congr 1
  obtain ⟨e0, e1⟩ := index0_0 t
  funext a; apply Fin.ext
  match a with
  | ⟨0, _⟩ => show win0_0.index t (0 : Fin 2) * 64 + 1 * (j 0).val = (j 0).val; omega
  | ⟨1, _⟩ => show win0_0.index t (1 : Fin 2) * 1920 + 1 * (j 1).val = t.val * 1920 + (j 1).val; omega

/-- A column of the array, from a column of the last block that lies inside the array. -/
def colAt1 (j : S64x1920.Idx) (h : (j 1).val < 1600) : S64x1000000.Idx := fun a => match a with
  | ⟨0, _⟩ => j 0
  | ⟨1, _⟩ => ⟨998400 + (j 1).val, by show _ < 1000000; omega⟩

theorem index1_0 : ∀ t : Fin cfg1.N, win1_0.index t (0 : Fin 2) = 0 ∧ win1_0.index t (1 : Fin 2) = 520 := by decide +kernel

/-- The last block of the logits is columns 998400 to 999999. -/
theorem X1_0_apply (c : Dev nD) (t : Fin cfg1.N) (d) (j : S64x1920.Idx) (h : (j 1).val < 1600) :
    X1_0 W c t d j = W c main_arg0 (colAt1 j h) := by
  unfold X1_0 Pipeline.Window.fill
  rw [dif_pos ((moved1_0 t j).mpr h)]
  show W c main_arg0 (((cfg1.win 0).blk t).view.emb _) = _
  congr 1
  obtain ⟨e0, e1⟩ := index1_0 t
  funext a; apply Fin.ext
  match a with
  | ⟨0, _⟩ => show win1_0.index t (0 : Fin 2) * 64 + 1 * (j 0).val = (j 0).val; omega
  | ⟨1, _⟩ => show win1_0.index t (1 : Fin 2) * 1920 + 1 * (j 1).val = 998400 + (j 1).val; omega

/-- The last point of the first region. -/
def tLast0 : Fin cfg0.N := ⟨519, by show 519 < grid0.N; rw [N_0]; decide⟩

/-- Output window 3 of the first region ends with what the last point left. -/
theorem arrAt0_3 (c : Dev nD) : (dat0 W c).arrAt 3 cfg0.N = (outsAt0 W c 519 tLast0.isLt).1 := by
  refine (dat0 W c).arrAt_eq_of_after_last 3 tLast0 (by decide +kernel) _ fun j => ?_
  rw [after0_3]
  rfl

/-- Output window 4 of the first region ends with what the last point left. -/
theorem arrAt0_4 (c : Dev nD) : (dat0 W c).arrAt 4 cfg0.N = (outsAt0 W c 519 tLast0.isLt).2.1 := by
  refine (dat0 W c).arrAt_eq_of_after_last 4 tLast0 (by decide +kernel) _ fun j => ?_
  rw [after0_4]
  rfl

/-- Output window 5 of the first region ends with what the last point left. -/
theorem arrAt0_5 (c : Dev nD) : (dat0 W c).arrAt 5 cfg0.N = (outsAt0 W c 519 tLast0.isLt).2.2.1 := by
  refine (dat0 W c).arrAt_eq_of_after_last 5 tLast0 (by decide +kernel) _ fun j => ?_
  rw [after0_5]
  rfl

/-- Output window 6 of the first region ends with what the last point left. -/
theorem arrAt0_6 (c : Dev nD) : (dat0 W c).arrAt 6 cfg0.N = (outsAt0 W c 519 tLast0.isLt).2.2.2 := by
  refine (dat0 W c).arrAt_eq_of_after_last 6 tLast0 (by decide +kernel) _ fun j => ?_
  rw [after0_6]
  rfl

/-- Output window 7 of the second region ends with what its one point left. -/
theorem arrAt1_7 (c : Dev nD) : (dat1 W c).arrAt 7 cfg1.N = (outs1 W c t1_0).1 := by
  refine (dat1 W c).arrAt_eq_of_after_last 7 t1_0 (by decide +kernel) _ fun j => ?_
  rw [after1_7]
  rfl

/-- Output window 8 of the second region ends with what its one point left. -/
theorem arrAt1_8 (c : Dev nD) : (dat1 W c).arrAt 8 cfg1.N = (outs1 W c t1_0).2.1 := by
  refine (dat1 W c).arrAt_eq_of_after_last 8 t1_0 (by decide +kernel) _ fun j => ?_
  rw [after1_8]
  rfl

/-- Output window 9 of the second region ends with what its one point left. -/
theorem arrAt1_9 (c : Dev nD) : (dat1 W c).arrAt 9 cfg1.N = (outs1 W c t1_0).2.2 := by
  refine (dat1 W c).arrAt_eq_of_after_last 9 t1_0 (by decide +kernel) _ fun j => ?_
  rw [after1_9]
  rfl

end Cert.KernelIdeal.Reg

end
-- ==== Proof.RunPre.lean ====
/- What the buffers hold between the regions, and the regions as segments. -/
module

public import proofs.«01_k».proof.Proof.Blocks
public import proofs.«01_k».proof.Proof.Gen.KernelIdeal.Regions
public import Idealize.ShloMosaic.Lib.Pipeline.FrameTail
public import Idealize.ShloMosaic.Lib.Pipeline.RegionArraysS

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Idealize.ShloMosaic.Pipeline (RegionSeg HostSeg Seg)

variable (m : (ℓ : Loc nD τ sig) → Buf (Elt F) ℓ)

/-- The unscoped buffers of a core when the first region starts, buffer by buffer. -/
abbrev WA (c : Dev nD) (b : Ref sig .tc) : Buf (Elt F) ((c : Thread nD τ).loc b) := V1 m c (Proc.devRef .tc b)

/-- The unscoped buffers after the first region. -/
def VB (c : Dev nD) : Valuation τ sig (Elt F) := Pipeline.afterRegion (dat0 (WA m) c) (V1 m c)

/-- The same, buffer by buffer. -/
abbrev WB (c : Dev nD) (b : Ref sig .tc) : Buf (Elt F) ((c : Thread nD τ).loc b) := VB m c (Proc.devRef .tc b)

/-- The unscoped buffers after the second region. -/
def VC (c : Dev nD) : Valuation τ sig (Elt F) := Pipeline.afterRegion (dat1 (WB m) c) (VB m c)

/-- The unscoped buffers at the end. -/
abbrev VD (c : Dev nD) : Valuation τ sig (Elt F) := StableHlo.after hostOps2 (VC m c)

/-- The buffer of column numbers when the first region starts. -/
theorem WA_main_v0 (c : Dev nD) : WA m c main_v0 = iotaInDim S64x1920 32 1 := by
  show StableHlo.after hostOps0 (V0 m c) main_v0 = _
  unfold_abbrev_sides
  after_results

theorem arr_inj0 : Function.Injective (Pipeline.arrRef spec0) := winFacts0.arr_inj
theorem arr_inj1 : Function.Injective (Pipeline.arrRef spec1) := winFacts1.arr_inj

/-- An input of the first region holds at its end what it held at its start. -/
theorem VB_keeps (c : Dev nD) (r : Ref sig .tc) (h : ∀ w, Pipeline.arrRef spec0 w = r → (cfg0.win w).isOut = false) :
    VB m c (Proc.devRef .tc r) = V1 m c (Proc.devRef .tc r) :=
  Pipeline.afterRegion_keeps (dat0 (WA m) c) (V1 m c) arr_inj0 (fun w => A_eq0 (WA m) c w) r h

/-- An input of the second region holds at its end what it held at its start. -/
theorem VC_keeps (c : Dev nD) (r : Ref sig .tc) (h : ∀ w, Pipeline.arrRef spec1 w = r → (cfg1.win w).isOut = false) :
    VC m c (Proc.devRef .tc r) = VB m c (Proc.devRef .tc r) :=
  Pipeline.afterRegion_keeps (dat1 (WB m) c) (VB m c) arr_inj1 (fun w => A_eq1 (WB m) c w) r h

/-- The buffer of column numbers when the second region starts. -/
theorem WB_main_v0 (c : Dev nD) : WB m c main_v0 = iotaInDim S64x1920 32 1 :=
  (VB_keeps m c main_v0 (by decide)).trans (WA_main_v0 m c)

/-- Where the second region's mask is set the column lies inside the array. -/
theorem hcol (c : Dev nD) (t : Fin cfg1.N) (j : S64x1920.Idx)
    (h : k1_pay5 (F := F) (iblk1 (WB m) c 2 t) j = 1#1) : (j 1).val < 1600 := by
  rw [iblk1_2 (WB m) c t, WB_main_v0] at h
  have h1 : (j 1).val < 1920 := (j 1).isLt
  have h2 : BitVec.ofBool (BitVec.slt (BitVec.ofNat 32 (j 1).val) 1600#32) = 1#1 := by
    rw [← h]
    unfold k1_pay5 k1_pay4
    simp only [shapeCast_self]
    rfl
  have h3 : BitVec.slt (BitVec.ofNat 32 (j 1).val) 1600#32 = true := by
    by_contra hn
    rw [Bool.not_eq_true] at hn
    rw [hn] at h2
    exact absurd h2 (by decide)
  rw [BitVec.slt_eq_decide, decide_eq_true_eq, BitVec.toInt_ofNat', show (1600#32 : BitVec 32).toInt = 1600 from rfl] at h3
  rw [Int.bmod_eq_of_le (by omega) (by omega)] at h3
  omega

/-- The data of the two regions. -/
def pdats : (p : Fin 2) → (c : Dev nD) → Dat τ (Elt F) Unit ℕ (UR sig nD τ) ℕ (cfgs p) c
  | ⟨0, _⟩ => dat0 (WA m)
  | ⟨1, _⟩ => dat1 (WB m)

/-- What rides beside the buffers: the generator register, and the core owing nothing. -/
def rest (c : Dev nD) : sProp 𝕄 :=
  iprop((∃ r, prngReg c r) ∗ ∃ O, owes (c.tc : Thread nD τ) (0 : CellTallies nD τ sig Unit) O)

/-- No level is assigned. -/
abbrev lvSet : GSem nD τ sig → Finset Unit := fun _ => ∅
abbrev lvOf : GSem nD τ sig → Unit → ℕ := fun _ _ => 0

set_option backward.isDefEq.respectTransparency.types false in
/-- Region 0 as a segment: entered with every unscoped buffer at one valuation, left with them at the next. -/
def reg0 : RegionSeg (pcfgs (F := F)) adm (pdats m) () defs₀ Variants.none lvSet lvOf 0 :=
  have kitP : Pipeline.PLaunchFacts (nD := nD) (τ := τ) (pcfgs (F := F)) 0 := launch0.toP
  { win := kitP.win.to₀
    block_pos := kitP.block_pos
    stage_whole := kitP.stage_whole
    K := PEmpty
    osem := fun k => k.elim
    ho := Pipeline.OwnSemFacts.none _
    hbody := fun c => (body_obligation0 (WA m) c).loose
    hwaits := Pipeline.hwaits_of_owed_zero (pcfgs (F := F)) adm (pdats m) () lvSet lvOf 0 (fun _ _ => rfl)
    pre := fun c => iprop(StableHlo.held (c.tc : Thread nD τ) (Pipeline.ucRefs τ sig) (V1 m c) ∗ rest c)
    post := fun c => iprop(StableHlo.held (c.tc : Thread nD τ) (Pipeline.ucRefs τ sig) (VB m c) ∗ rest c)
    X := fun c => iprop(∃ r, prngReg c r)
    Y := fun c => iprop(∃ r, prngReg c r)
    Z := fun c => Pipeline.unscopedRest (Ix := Unit) (Name := ℕ) (U := UR sig nD τ) (Lvl := ℕ) spec0 c (fun b => V1 m c (Proc.devRef .tc b))
    hentry := fun c => by
      rw [Pipeline.ownSems0_none,
        show StableHlo.held (c.tc : Thread nD τ) (Pipeline.ucRefs τ sig) (V1 m c) = unscopedBufs c (fun b => V1 m c (Proc.devRef .tc b))
          from (Pipeline.unscopedBufs_held (Ix := Unit) (Name := ℕ) (U := UR sig nD τ) (Lvl := ℕ) c (V1 m c)).symm]
      have hsplit := Pipeline.arrays_of_unscopedBufs (p := 0) (pcfgs (F := F)) adm (pdats m) kitP.win kitP.arr_whole c ((pdats m 0 c).share_full fun _ => rfl)
        (fun b => V1 m c (Proc.devRef .tc b)) (fun w => A_eq0 (WA m) c w)
      unfold rest
      iintro ⟨⟨Hub, Hp, %O, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [show (pdats m 0 c).owed 0 = 0 from rfl]
        iexists O; isplitr; · ipureintro; exact fun _ _ => Or.inl (Set.mem_univ _)
        iexact HO
      isplitl [Hp]; · iexact Hp
      iexact Hrest
    hin := fun c => (show _ ⊢ Pipeline.ΦA spec0 c from by
      unfold Pipeline.ΦA; iintro ⟨Hp, -, Hr⟩
      isplitl [Hr] <;> iassumption)
    hout := fun c => (show Pipeline.ΦA spec0 c ⊢ _ from by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := 0) (pcfgs (F := F)) adm (Ix := Unit) (Name := ℕ) (U := UR sig nD τ) (Lvl := ℕ)
        kitP.win kitP.arr_whole c (pdats m) ((pdats m 0 c).share_full fun _ => rfl)
        (fun b => V1 m c (Proc.devRef .tc b)) (fun b => VB m c (Proc.devRef .tc b)) ((pdats m 0 c).arrAt · cfg0.N)
        (fun w => (Pipeline.afterRegion_arr (dat0 (WA m) c) (V1 m c) arr_inj0 w).symm)
        (fun b hb => Pipeline.afterRegion_of_not_arr (dat0 (WA m) c) (V1 m c)
          fun w h => hb (h ▸ Finset.mem_image.mpr ⟨w, Finset.mem_univ _, rfl⟩))
      rw [show StableHlo.held (c.tc : Thread nD τ) (Pipeline.ucRefs τ sig) (VB m c) = unscopedBufs c (fun b => VB m c (Proc.devRef .tc b))
          from (Pipeline.unscopedBufs_held (Ix := Unit) (Name := ℕ) (U := UR sig nD τ) (Lvl := ℕ) c (VB m c)).symm]
      iintro ⟨Ha, HO, Hp, Hrest⟩
      imodintro
      isplitl [Ha Hrest]
      · iapply hjoin; isplitl [Ha] <;> iassumption
      unfold rest
      isplitl [Hp]; · iexact Hp
      unfold Dat.owesAt Pipeline.owesWithin
      rw [show (pdats m 0 c).owed (Fin.last _) = 0 from rfl]
      icases HO with ⟨%O, -, HO⟩; iexists O; iexact HO }

set_option backward.isDefEq.respectTransparency.types false in
/-- Region 1 as a segment: entered with every unscoped buffer at one valuation, left with them at the next. -/
def reg1 : RegionSeg (pcfgs (F := F)) adm (pdats m) () defs₀ Variants.none lvSet lvOf 1 :=
  have kitP : Pipeline.PLaunchFacts (nD := nD) (τ := τ) (pcfgs (F := F)) 1 := launch1.toP
  { win := kitP.win.to₀
    block_pos := kitP.block_pos
    stage_whole := kitP.stage_whole
    K := PEmpty
    osem := fun k => k.elim
    ho := Pipeline.OwnSemFacts.none _
    hbody := fun c => body_obligation1 (WB m) (hcol m) c
    hwaits := Pipeline.hwaits_of_owed_zero (pcfgs (F := F)) adm (pdats m) () lvSet lvOf 1 (fun _ _ => rfl)
    pre := fun c => iprop(StableHlo.held (c.tc : Thread nD τ) (Pipeline.ucRefs τ sig) (VB m c) ∗ rest c)
    post := fun c => iprop(StableHlo.held (c.tc : Thread nD τ) (Pipeline.ucRefs τ sig) (VC m c) ∗ rest c)
    X := fun c => iprop(∃ r, prngReg c r)
    Y := fun c => iprop(∃ r, prngReg c r)
    Z := fun c => Pipeline.unscopedRest (Ix := Unit) (Name := ℕ) (U := UR sig nD τ) (Lvl := ℕ) spec1 c (fun b => VB m c (Proc.devRef .tc b))
    hentry := fun c => by
      rw [Pipeline.ownSems0_none,
        show StableHlo.held (c.tc : Thread nD τ) (Pipeline.ucRefs τ sig) (VB m c) = unscopedBufs c (fun b => VB m c (Proc.devRef .tc b))
          from (Pipeline.unscopedBufs_held (Ix := Unit) (Name := ℕ) (U := UR sig nD τ) (Lvl := ℕ) c (VB m c)).symm]
      have hsplit := Pipeline.arrays_of_unscopedBufs (p := 1) (pcfgs (F := F)) adm (pdats m) kitP.win kitP.arr_whole c ((pdats m 1 c).share_full fun _ => rfl)
        (fun b => VB m c (Proc.devRef .tc b)) (fun w => A_eq1 (WB m) c w)
      unfold rest
      iintro ⟨⟨Hub, Hp, %O, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [show (pdats m 1 c).owed 0 = 0 from rfl]
        iexists O; isplitr; · ipureintro; exact fun _ _ => Or.inl (Set.mem_univ _)
        iexact HO
      isplitl [Hp]; · iexact Hp
      iexact Hrest
    hin := fun c => (show _ ⊢ Pipeline.ΦA spec1 c from by
      unfold Pipeline.ΦA; iintro ⟨Hp, -, Hr⟩
      isplitl [Hr] <;> iassumption)
    hout := fun c => (show Pipeline.ΦA spec1 c ⊢ _ from by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := 1) (pcfgs (F := F)) adm (Ix := Unit) (Name := ℕ) (U := UR sig nD τ) (Lvl := ℕ)
        kitP.win kitP.arr_whole c (pdats m) ((pdats m 1 c).share_full fun _ => rfl)
        (fun b => VB m c (Proc.devRef .tc b)) (fun b => VC m c (Proc.devRef .tc b)) ((pdats m 1 c).arrAt · cfg1.N)
        (fun w => (Pipeline.afterRegion_arr (dat1 (WB m) c) (VB m c) arr_inj1 w).symm)
        (fun b hb => Pipeline.afterRegion_of_not_arr (dat1 (WB m) c) (VB m c)
          fun w h => hb (h ▸ Finset.mem_image.mpr ⟨w, Finset.mem_univ _, rfl⟩))
      rw [show StableHlo.held (c.tc : Thread nD τ) (Pipeline.ucRefs τ sig) (VC m c) = unscopedBufs c (fun b => VC m c (Proc.devRef .tc b))
          from (Pipeline.unscopedBufs_held (Ix := Unit) (Name := ℕ) (U := UR sig nD τ) (Lvl := ℕ) c (VC m c)).symm]
      iintro ⟨Ha, HO, Hp, Hrest⟩
      imodintro
      isplitl [Ha Hrest]
      · iapply hjoin; isplitl [Ha] <;> iassumption
      unfold rest
      isplitl [Hp]; · iexact Hp
      unfold Dat.owesAt Pipeline.owesWithin
      rw [show (pdats m 1 c).owed (Fin.last _) = 0 from rfl]
      icases HO with ⟨%O, -, HO⟩; iexists O; iexact HO }

end Cert.KernelIdeal.Reg

end
-- ==== Proof.Run.lean ====
/- The whole run: every buffer at the end, and the frame. -/
module

public import proofs.«01_k».proof.Proof.RunPre

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Idealize.ShloMosaic.Pipeline (RegionSeg HostSeg Seg)

variable (m : (ℓ : Loc nD τ sig) → Buf (Elt F) ℓ) (ρ : Dev nD → PrngReg)

/-- The host operations before the regions, as a segment. -/
def host0 : HostSeg (Ix := Unit) (Name := ℕ) (U := UR sig nD τ) (Lvl := ℕ) (pcfgs (F := F)) defs₀ Variants.none lvSet lvOf :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest

/-- The host operations after the regions, as a segment. -/
def host3 : HostSeg (Ix := Unit) (Name := ℕ) (U := UR sig nD τ) (Lvl := ℕ) (pcfgs (F := F)) defs₀ Variants.none lvSet lvOf :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (VC m) rest

/-- The program as its four segments. -/
abbrev items : List (Seg (pcfgs (F := F)) adm (pdats m) () defs₀ Variants.none lvSet lvOf) :=
  [.host (host0 m), .region (reg0 m), .region (reg1 m), .host (host3 m)]

set_option backward.isDefEq.respectTransparency.types false in
/-- Every run from memory `m` with zero counters terminates, with every unscoped buffer at `VD m` and every counter
    at zero. -/
theorem run_all : θ_run defs (onTc (τ := τ) (main (F := F))) ⟨m, fun _ => 0, ρ⟩ (fun r =>
    (∀ c : Dev nD, ∀ b ∈ Pipeline.ucRefs τ sig, r.2.mem ((c.tc : Thread nD τ).1, b) = VD m c b) ∧ r.2.sem = fun _ => 0) := by
  refine Pipeline.θ_run_regions_kit_dev_sems (pcfgs (F := F)) adm (pdats m) () cellOf_inj emb₁ defs₀ Variants.none lvSet lvOf m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun _ _ => rfl)
    (fun _ => iprop(emp)) (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (VD m c))
    (hch := fun c => ⟨.rfl, .rfl, .rfl, .rfl, ?_⟩)
    (hinit := ?_) (QY := fun c s => ∀ b ∈ Pipeline.ucRefs τ sig, s.mem ((c.tc : Thread nD τ).1, b) = VD m c b)
    (hfin := fun c s' => ?_) (hQ := fun _ h hz => ⟨h, funext fun g => hz g (.inr (regions_no_unscoped g.2))⟩)
  · refine sep_mono .rfl ?_
    unfold rest
    iintro ⟨-, HO⟩
    iexact HO
  · refine Pipeline.initEach lvSet lvOf fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold rest
    iintro ⟨⟨Hh, -, HO, -, Hp, -⟩, -⟩
    imodintro
    isplitl [Hh]; · iexact Hh
    isplitl [Hp]
    · iexists _; iexact Hp
    iexists _; iexact HO
  · unfold StableHlo.held
    iintro ⟨Hh, HSI⟩
    ihave Hr := (pointsTo_read_all (Pipeline.ucRefs τ sig) (fun b => ((c.tc : Thread nD τ).1, b)) (VD m c) s') $$ [Hh HSI]
    · isplitl [Hh] <;> iassumption
    imodintro; iexact Hr

/-- The argument holds at the end what it held at the start. -/
theorem VD_main_arg0 (c : Dev nD) : VD m c main_arg0 = m ((c : Thread nD τ).loc main_arg0) :=
  (StableHlo.after_of_writes_sub hostOps2 _ hostOps2_writes (by decide)).trans <|
    (VC_keeps m c main_arg0 (by decide)).trans <| (VB_keeps m c main_arg0 (by decide)).trans <| (V1_of m c main_arg0 (by decide)).trans rfl

/-- Every run terminates with the argument as it was and every counter at zero. -/
theorem frame_all : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun r h => ⟨fun c => (h.1 c (Proc.devRef .tc main_arg0)
    (Finset.mem_filter.mpr ⟨StableHlo.devRef_mem_tcRefs main_arg0, by decide⟩)).trans (VD_main_arg0 m c), h.2⟩) (run_all m ρ)

end Cert.KernelIdeal.Reg

end
-- ==== Proof.RefOps.lean ====
/- The reference program as a list of its host operations, in order. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first result of the row maximum with its column: the maximum. -/
def argMaxPart1 : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .f32⟩ : BufTy).Contents (Elt F) :=
  fun x y u v j => (Host.argReduce reducer_argmax_f32_i32 x y u v reducesTo_S64x1000000_S64_d1 h_S_ j).1

/-- The second result of the row maximum with its column: the column. -/
def argMaxPart2 : (⟨S64x1000000, .f32⟩ : BufTy).Contents (Elt F) → (⟨S64x1000000, .i32⟩ : BufTy).Contents (Elt F) → (⟨S_, .f32⟩ : BufTy).Contents (Elt F) → (⟨S_, .i32⟩ : BufTy).Contents (Elt F) → (⟨S64, .i32⟩ : BufTy).Contents (Elt F) :=
  fun x y u v j => (Host.argReduce reducer_argmax_f32_i32 x y u v reducesTo_S64x1000000_S64_d1 h_S_ j).2

/-- The function of the operation that writes `main_v8`, named. It packs its operands into a list of dependent pairs
    whose shapes a later argument's type mentions, so `simp` cannot rewrite an operand where it stands; applied by
    name, the operands are plain arguments, which the window lemmas below rewrite before the name unfolds. -/
def fn_main_v8 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 318. -/
abbrev ops_0 : List (HloOp τ sig (Elt F)) :=
  [ TRef.nullary (TRef.of (T := ⟨S_, .f32⟩) main_call0_cst) (constant S_ .f32 0xFF800000#32),
    TRef.binary (TRef.of (T := ⟨S64x1000000, .f32⟩) main_arg0) (TRef.of (T := ⟨S_, .f32⟩) main_call0_cst) (TRef.of (T := ⟨S64, .f32⟩) main_call0_v0) (fun x v => Host.reduce FloatOps.maximumf x v reducesTo_S64x1000000_S64_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S64, .f32⟩) main_call0_v1) (broadcastInDim S64 ![] bcast_S_S64),
    TRef.binary (TRef.of (T := ⟨S64, .f32⟩) main_call0_v1) (TRef.of (T := ⟨S64, .f32⟩) main_call0_v0) (TRef.of (T := ⟨S64, .f32⟩) main_call0_v2) maximumf,
    TRef.unary (TRef.of (T := ⟨S64, .f32⟩) main_call0_v2) (TRef.of (T := ⟨S64x1, .f32⟩) main_call0_v3) (broadcastInDim S64x1 ![0] bcast_S64_S64x1_0),
    TRef.unary (TRef.of (T := ⟨S64x1, .f32⟩) main_call0_v3) (TRef.of (T := ⟨S64x1000000, .f32⟩) main_call0_v4) (broadcastInDim S64x1000000 ![0, 1] bcast_S64x1_S64x1000000_0_1),
    TRef.binary (TRef.of (T := ⟨S64x1000000, .f32⟩) main_arg0) (TRef.of (T := ⟨S64x1000000, .f32⟩) main_call0_v4) (TRef.of (T := ⟨S64x1000000, .f32⟩) main_call0_v5) subf,
    TRef.unary (TRef.of (T := ⟨S64x1000000, .f32⟩) main_call0_v5) (TRef.of (T := ⟨S64x1000000, .f32⟩) main_call0_v6) Host.exp,
    TRef.nullary (TRef.of (T := ⟨S_, .f32⟩) main_call0_cst_1) (constant S_ .f32 0x00000000#32),
    TRef.binary (TRef.of (T := ⟨S64x1000000, .f32⟩) main_call0_v6) (TRef.of (T := ⟨S_, .f32⟩) main_call0_cst_1) (TRef.of (T := ⟨S64, .f32⟩) main_call0_v7) (fun x v => Host.reduceAdd x v reducesTo_S64x1000000_S64_d1 h_S_),
    TRef.unary (TRef.of (T := ⟨S64, .f32⟩) main_call0_v7) (TRef.of (T := ⟨S64x1, .f32⟩) main_call0_v8) (broadcastInDim S64x1 ![0] bcast_S64_S64x1_0),
    TRef.unary (TRef.of (T := ⟨S64x1, .f32⟩) main_call0_v8) (TRef.of (T := ⟨S64x1, .f32⟩) main_call0_v9) Host.log,
    TRef.unary (TRef.of (T := ⟨S64x1, .f32⟩) main_call0_v9) (TRef.of (T := ⟨S64x1000000, .f32⟩) main_call0_v10) (broadcastInDim S64x1000000 ![0, 1] bcast_S64x1_S64x1000000_0_1),
    TRef.binary (TRef.of (T := ⟨S64x1000000, .f32⟩) main_call0_v5) (TRef.of (T := ⟨S64x1000000, .f32⟩) main_call0_v10) (TRef.of (T := ⟨S64x1000000, .f32⟩) main_v0) subf,
    unary main_v0 main_v1 (Host.exp : (⟨S64x1000000, .f32⟩ : BufTy).Contents (Elt F) → (⟨S64x1000000, .f32⟩ : BufTy).Contents (Elt F)),
    nullary main_c (constantI S_ 32 42#32),
    nullary main_c_0 (constantI S_ 32 32#32),
    binary main_c main_c_0 main_v2 (Host.shrui : (⟨S_, .i32⟩ : BufTy).Contents (Elt F) → (⟨S_, .i32⟩ : BufTy).Contents (Elt F) → (⟨S_, .i32⟩ : BufTy).Contents (Elt F)),
    unary main_v2 main_v3 (id : (⟨S_, .i32⟩ : BufTy).Contents (Elt F) → (⟨S_, .i32⟩ : BufTy).Contents (Elt F)),
    unary main_v3 main_v4 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v5 (andi : (⟨S_, .i32⟩ : BufTy).Contents (Elt F) → (⟨S_, .i32⟩ : BufTy).Contents (Elt F) → (⟨S_, .i32⟩ : BufTy).Contents (Elt F)),
    unary main_v5 main_v6 (id : (⟨S_, .i32⟩ : BufTy).Contents (Elt F) → (⟨S_, .i32⟩ : BufTy).Contents (Elt F)),
    unary main_v6 main_v7 (broadcastInDim S1 ![] bcast_S_S1 : (⟨S_, .i32⟩ : BufTy).Contents (Elt F) → (⟨S1, .i32⟩ : BufTy).Contents (Elt F)),
    binary main_v4 main_v7 main_v8 (fn_main_v8 (F := F)),
    unary main_v8 main_v9 ((extractStridedSlice S1 ![0] · slices_S2_S1_0) : (⟨S2, .i32⟩ : BufTy).Contents (Elt F) → (⟨S1, .i32⟩ : BufTy).Contents (Elt F)),
    reshape main_v9 main_v10 (rfl : (.i32 : EltTy) = .i32) shapeCasts_S1_S_,
    unary main_v8 main_v11 ((extractStridedSlice S1 ![1] · slices_S2_S1_1) : (⟨S2, .i32⟩ : BufTy).Contents (Elt F) → (⟨S1, .i32⟩ : BufTy).Contents (Elt F)),
    reshape main_v11 main_v12 (rfl : (.i32 : EltTy) = .i32) shapeCasts_S1_S_ ]

/-- @main's operations 31 … 60 of 318. -/
abbrev ops_1 : List (HloOp τ sig (Elt F)) :=
  [ nullary main_v13 (iotaInDim S64x1000000 64 0),
    nullary main_v14 (iotaInDim S64x1000000 64 1),
    nullary main_c_2 (constantI S_ 64 1000000#64),
    unary main_c_2 main_v15 (broadcastInDim S64x1000000 ![] bcast_S_S64x1000000 : (⟨S_, .i64⟩ : BufTy).Contents (Elt F) → (⟨S64x1000000, .i64⟩ : BufTy).Contents (Elt F)),
    binary main_v15 main_v13 main_v16 (muli : (⟨S64x1000000, .i64⟩ : BufTy).Contents (Elt F) → (⟨S64x1000000, .i64⟩ : BufTy).Contents (Elt F) → (⟨S64x1000000, .i64⟩ : BufTy).Contents (Elt F)),
    nullary main_c_3 (constantI S_ 64 1#64),
    unary main_c_3 main_v17 (broadcastInDim S64x1000000 ![] bcast_S_S64x1000000 : (⟨S_, .i64⟩ : BufTy).Contents (Elt F) → (⟨S64x1000000, .i64⟩ : BufTy).Contents (Elt F)),
    binary main_v17 main_v14 main_v18 (muli : (⟨S64x1000000, .i64⟩ : BufTy).Contents (Elt F) → (⟨S64x1000000, .i64⟩ : BufTy).Contents (Elt F) → (⟨S64x1000000, .i64⟩ : BufTy).Contents (Elt F)),
    binary main_v16 main_v18 main_v19 (addi : (⟨S64x1000000, .i64⟩ : BufTy).Contents (Elt F) → (⟨S64x1000000, .i64⟩ : BufTy).Contents (Elt F) → (⟨S64x1000000, .i64⟩ : BufTy).Contents (Elt F)),
    nullary main_c_4 (constantI S_ 64 32#64),
    unary main_c_4 main_v20 (broadcastInDim S64x1000000 ![] bcast_S_S64x1000000 : (⟨S_, .i64⟩ : BufTy).Contents (Elt F) → (⟨S64x1000000, .i64⟩ : BufTy).Contents (Elt F)),
    binary main_v19 main_v20 main_v21 (Host.shrui : (⟨S64x1000000, .i64⟩ : BufTy).Contents (Elt F) → (⟨S64x1000000, .i64⟩ : BufTy).Contents (Elt F) → (⟨S64x1000000, .i64⟩ : BufTy).Contents (Elt F)),
    unary main_v19 main_v22 ((trunci 32 · natLt_32_64) : (⟨S64x1000000, .i64⟩ : BufTy).Contents (Elt F) → (⟨S64x1000000, .i32⟩ : BufTy).Contents (Elt F)),
    unary main_v21 main_v23 ((trunci 32 · natLt_32_64) : (⟨S64x1000000, .i64⟩ : BufTy).Contents (Elt F) → (⟨S64x1000000, .i32⟩ : BufTy).Contents (Elt F)),
    TRef.binary (TRef.of (T := ⟨S_, .i32⟩) main_v10) (TRef.of (T := ⟨S_, .i32⟩) main_v12) (TRef.of (T := ⟨S_, .i32⟩) main_call1_v0) xori,
    TRef.nullary (TRef.of (T := ⟨S_, .i32⟩) main_call1_c) (constantI S_ 32 466688986#32),
    TRef.binary (TRef.of (T := ⟨S_, .i32⟩) main_call1_v0) (TRef.of (T := ⟨S_, .i32⟩) main_call1_c) (TRef.of (T := ⟨S_, .i32⟩) main_call1_v1) xori,
    TRef.unary (TRef.of (T := ⟨S_, .i32⟩) main_v10) (TRef.of (T := ⟨S64x1000000, .i32⟩) main_call1_v2) (broadcastInDim S64x1000000 ![] bcast_S_S64x1000000),
    TRef.binary (TRef.of (T := ⟨S64x1000000, .i32⟩) main_v23) (TRef.of (T := ⟨S64x1000000, .i32⟩) main_call1_v2) (TRef.of (T := ⟨S64x1000000, .i32⟩) main_call1_v3) addi,
    TRef.unary (TRef.of (T := ⟨S_, .i32⟩) main_v12) (TRef.of (T := ⟨S64x1000000, .i32⟩) main_call1_v4) (broadcastInDim S64x1000000 ![] bcast_S_S64x1000000),
    TRef.binary (TRef.of (T := ⟨S64x1000000, .i32⟩) main_v22) (TRef.of (T := ⟨S64x1000000, .i32⟩) main_call1_v4) (TRef.of (T := ⟨S64x1000000, .i32⟩) main_call1_v5) addi,
    TRef.binary (TRef.of (T := ⟨S64x1000000, .i32⟩) main_call1_v3) (TRef.of (T := ⟨S64x1000000, .i32⟩) main_call1_v5) (TRef.of (T := ⟨S64x1000000, .i32⟩) main_call1_v6) addi,
    TRef.nullary (TRef.of (T := ⟨S_, .i32⟩) main_call1_c_0) (constantI S_ 32 13#32),
    TRef.unary (TRef.of (T := ⟨S_, .i32⟩) main_call1_c_0) (TRef.of (T := ⟨S64x1000000, .i32⟩) main_call1_v7) (broadcastInDim S64x1000000 ![] bcast_S_S64x1000000),
    TRef.binary (TRef.of (T := ⟨S64x1000000, .i32⟩) main_call1_v5) (TRef.of (T := ⟨S64x1000000, .i32⟩) main_call1_v7) (TRef.of (T := ⟨S64x1000000, .i32⟩) main_call1_v8) Host.shli,
    TRef.nullary (TRef.of (T := ⟨S_, .i32⟩) main_call1_c_1) (constantI S_ 32 19#32),
    TRef.unary (TRef.of (T := ⟨S_, .i32⟩) main_call1_c_1) (TRef.of (T := ⟨S64x1000000, .i32⟩) main_call1_v9) (broadcastInDim S64x1000000 ![] bcast_S_S64x1000000),
    TRef.binary (TRef.of (T := ⟨S64x1000000, .i32⟩) main_call1_v5) (TRef.of (T := ⟨S64x1000000, .i32⟩) main_call1_v9) (TRef.of (T := ⟨S64x1000000, .i32⟩) main_call1_v10) Host.shrui,
    TRef.binary (TRef.of (T := ⟨S64x1000000, .i32⟩) main_call1_v8) (TRef.of (T := ⟨S64x1000000, .i32⟩) main_call1_v10) (TRef.of (T := ⟨S64x1000000, .i32⟩) main_call1_v11) ori,
    TRef.binary (TRef.of (T := ⟨S64x1000000, .i32⟩) main_call1_v6) (TRef.of (T := ⟨S64x1000000, .i32⟩) main_call1_v11) (TRef.of (T := ⟨S64x1000000, .i32⟩) main_call1_v12) xori ]

/-- @main's operations 61 … 90 of 318. -/
abbrev ops_2 : List (HloOp τ sig (Elt F)) :=
  [ TRef.binary (TRef.of (T := ⟨S64x1000000, .i32⟩) main_call1_v6) (TRef.of (T := ⟨S64x1000000, .i32⟩) main_call1_v12) (TRef.of (T := ⟨S64x1000000, .i32⟩) main_call1_v13) addi,
    TRef.nullary (TRef.of (T := ⟨S_, .i32⟩) main_call1_c_2) (constantI S_ 32 15#32),
    TRef.unary (TRef.of (T := ⟨S_, .i32⟩) main_call1_c_2) (TRef.of (T := ⟨S64x1000000, .i32⟩) main_call1_v14) (broadcastInDim S64x1000000 ![] bcast_S_S64x1000000),
    TRef.binary (TRef.of (T := ⟨S64x1000000, .i32⟩) main_call1_v12) (TRef.of (T := ⟨S64x1000000, .i32⟩) main_call1_v14) (TRef.of (T := ⟨S64x1000000, .i32⟩) main_call1_v15) Host.shli,
    TRef.nullary (TRef.of (T := ⟨S_, .i32⟩) main_call1_c_3) (constantI S_ 32 17#32),
    TRef.unary (TRef.of (T := ⟨S_, .i32⟩) main_call1_c_3) (TRef.of (T := ⟨S64x1000000, .i32⟩) main_call1_v16) (broadcastInDim S64x1000000 ![] bcast_S_S64x1000000),
    TRef.binary (TRef.of (T := ⟨S64x1000000, .i32⟩) main_call1_v12) (TRef.of (T := ⟨S64x1000000, .i32⟩) main_call1_v16) (TRef.of (T := ⟨S64x1000000, .i32⟩) main_call1_v17) Host.shrui,
    TRef.binary (TRef.of (T := ⟨S64x1000000, .i32⟩) main_call1_v15) (TRef.of (T := ⟨S64x1000000, .i32⟩) main_call1_v17) (TRef.of (T := ⟨S64x1000000, .i32⟩) main_call1_v18) ori,
    TRef.binary (TRef.of (T := ⟨S64x1000000, .i32⟩) main_call1_v13) (TRef.of (T := ⟨S64x1000000, .i32⟩) main_call1_v18) (TRef.of (T := ⟨S64x1000000, .i32⟩) main_call1_v19) xori,
    TRef.binary (TRef.of (T := ⟨S64x1000000, .i32⟩) main_call1_v13) (TRef.of (T := ⟨S64x1000000, .i32⟩) main_call1_v19) (TRef.of (T := ⟨S64x1000000, .i32⟩) main_call1_v20) addi,
    TRef.nullary (TRef.of (T := ⟨S_, .i32⟩) main_call1_c_4) (constantI S_ 32 26#32),
    TRef.unary (TRef.of (T := ⟨S_, .i32⟩) main_call1_c_4) (TRef.of (T := ⟨S64x1000000, .i32⟩) main_call1_v21) (broadcastInDim S64x1000000 ![] bcast_S_S64x1000000),
    TRef.binary (TRef.of (T := ⟨S64x1000000, .i32⟩) main_call1_v19) (TRef.of (T := ⟨S64x1000000, .i32⟩) main_call1_v21) (TRef.of (T := ⟨S64x1000000, .i32⟩) main_call1_v22) Host.shli,
    TRef.nullary (TRef.of (T := ⟨S_, .i32⟩) main_call1_c_5) (constantI S_ 32 6#32),
    TRef.unary (TRef.of (T := ⟨S_, .i32⟩) main_call1_c_5) (TRef.of (T := ⟨S64x1000000, .i32⟩) main_call1_v23) (broadcastInDim S64x1000000 ![] bcast_S_S64x1000000),
    TRef.binary (TRef.of (T := ⟨S64x1000000, .i32⟩) main_call1_v19) (TRef.of (T := ⟨S64x1000000, .i32⟩) main_call1_v23) (TRef.of (T := ⟨S64x1000000, .i32⟩) main_call1_v24) Host.shrui,
    TRef.binary (TRef.of (T := ⟨S64x1000000, .i32⟩) main_call1_v22) (TRef.of (T := ⟨S64x1000000, .i32⟩) main_call1_v24) (TRef.of (T := ⟨S64x1000000, .i32⟩) main_call1_v25) ori,
    TRef.binary (TRef.of (T := ⟨S64x1000000, .i32⟩) main_call1_v20) (TRef.of (T := ⟨S64x1000000, .i32⟩) main_call1_v25) (TRef.of (T := ⟨S64x1000000, .i32⟩) main_call1_v26) xori,
    TRef.binary (TRef.of (T := ⟨S64x1000000, .i32⟩) main_call1_v20) (TRef.of (T := ⟨S64x1000000, .i32⟩) main_call1_v26) (TRef.of (T := ⟨S64x1000000, .i32⟩) main_call1_v27) addi,
    TRef.nullary (TRef.of (T := ⟨S_, .i32⟩) main_call1_c_6) (constantI S_ 32 6#32),
    TRef.unary (TRef.of (T := ⟨S_, .i32⟩) main_call1_c_6) (TRef.of (T := ⟨S64x1000000, .i32⟩) main_call1_v28) (broadcastInDim S64x1000000 ![] bcast_S_S64x1000000),
    TRef.binary (TRef.of (T := ⟨S64x1000000, .i32⟩) main_call1_v26) (TRef.of (T := ⟨S64x1000000, .i32⟩) main_call1_v28) (TRef.of (T := ⟨S64x1000000, .i32⟩) main_call1_v29) Host.shli,
    TRef.nullary (TRef.of (T := ⟨S_, .i32⟩) main_call1_c_7) (constantI S_ 32 26#32),
    TRef.unary (TRef.of (T := ⟨S_, .i32⟩) main_call1_c_7) (TRef.of (T := ⟨S64x1000000, .i32⟩) main_call1_v30) (broadcastInDim S64x1000000 ![] bcast_S_S64x1000000),
    TRef.binary (TRef.of (T := ⟨S64x1000000, .i32⟩) main_call1_v26) (TRef.of (T := ⟨S64x1000000, .i32⟩) main_call1_v30) (TRef.of (T := ⟨S64x1000000, .i32⟩) main_call1_v31) Host.shrui,
    TRef.binary (TRef.of (T := ⟨S64x1000000, .i32⟩) main_call1_v29) (TRef.of (T := ⟨S64x1000000, .i32⟩) main_call1_v31) (TRef.of (T := ⟨S64x1000000, .i32⟩) main_call1_v32) ori,
    TRef.binary (TRef.of (T := ⟨S64x1000000, .i32⟩) main_call1_v27) (TRef.of (T := ⟨S64x1000000, .i32⟩) main_call1_v32) (TRef.of (T := ⟨S64x1000000, .i32⟩) main_call1_v33) xori,
    TRef.unary (TRef.of (T := ⟨S_, .i32⟩) main_v12) (TRef.of (T := ⟨S64x1000000, .i32⟩) main_call1_v34) (broadcastInDim S64x1000000 ![] bcast_S_S64x1000000),
    TRef.binary (TRef.of (T := ⟨S64x1000000, .i32⟩) main_call1_v27) (TRef.of (T := ⟨S64x1000000, .i32⟩) main_call1_v34) (TRef.of (T := ⟨S64x1000000, .i32⟩) main_call1_v35) addi,
    TRef.unary (TRef.of (T := ⟨S_, .i32⟩) main_call1_v1) (TRef.of (T := ⟨S64x1000000, .i32⟩) main_call1_v36) (broadcastInDim S64x1000000 ![] bcast_S_S64x1000000) ]

/-- @main's operations 91 … 120 of 318. -/
abbrev ops_3 : List (HloOp τ sig (Elt F)) :=
  [ TRef.binary (TRef.of (T := ⟨S64x1000000, .i32⟩) main_call1_v33) (TRef.of (T := ⟨S64x1000000, .i32⟩) main_call1_v36) (TRef.of (T := ⟨S64x1000000, .i32⟩) main_call1_v37) addi,
    TRef.nullary (TRef.of (T := ⟨S_, .i32⟩) main_call1_c_8) (constantI S_ 32 1#32),
    TRef.unary (TRef.of (T := ⟨S_, .i32⟩) main_call1_c_8) (TRef.of (T := ⟨S64x1000000, .i32⟩) main_call1_v38) (broadcastInDim S64x1000000 ![] bcast_S_S64x1000000),
    TRef.binary (TRef.of (T := ⟨S64x1000000, .i32⟩) main_call1_v37) (TRef.of (T := ⟨S64x1000000, .i32⟩) main_call1_v38) (TRef.of (T := ⟨S64x1000000, .i32⟩) main_call1_v39) addi,
    TRef.binary (TRef.of (T := ⟨S64x1000000, .i32⟩) main_call1_v35) (TRef.of (T := ⟨S64x1000000, .i32⟩) main_call1_v39) (TRef.of (T := ⟨S64x1000000, .i32⟩) main_call1_v40) addi,
    TRef.nullary (TRef.of (T := ⟨S_, .i32⟩) main_call1_c_9) (constantI S_ 32 17#32),
    TRef.unary (TRef.of (T := ⟨S_, .i32⟩) main_call1_c_9) (TRef.of (T := ⟨S64x1000000, .i32⟩) main_call1_v41) (broadcastInDim S64x1000000 ![] bcast_S_S64x1000000),
    TRef.binary (TRef.of (T := ⟨S64x1000000, .i32⟩) main_call1_v39) (TRef.of (T := ⟨S64x1000000, .i32⟩) main_call1_v41) (TRef.of (T := ⟨S64x1000000, .i32⟩) main_call1_v42) Host.shli,
    TRef.nullary (TRef.of (T := ⟨S_, .i32⟩) main_call1_c_10) (constantI S_ 32 15#32),
    TRef.unary (TRef.of (T := ⟨S_, .i32⟩) main_call1_c_10) (TRef.of (T := ⟨S64x1000000, .i32⟩) main_call1_v43) (broadcastInDim S64x1000000 ![] bcast_S_S64x1000000),
    TRef.binary (TRef.of (T := ⟨S64x1000000, .i32⟩) main_call1_v39) (TRef.of (T := ⟨S64x1000000, .i32⟩) main_call1_v43) (TRef.of (T := ⟨S64x1000000, .i32⟩) main_call1_v44) Host.shrui,
    TRef.binary (TRef.of (T := ⟨S64x1000000, .i32⟩) main_call1_v42) (TRef.of (T := ⟨S64x1000000, .i32⟩) main_call1_v44) (TRef.of (T := ⟨S64x1000000, .i32⟩) main_call1_v45) ori,
    TRef.binary (TRef.of (T := ⟨S64x1000000, .i32⟩) main_call1_v40) (TRef.of (T := ⟨S64x1000000, .i32⟩) main_call1_v45) (TRef.of (T := ⟨S64x1000000, .i32⟩) main_call1_v46) xori,
    TRef.binary (TRef.of (T := ⟨S64x1000000, .i32⟩) main_call1_v40) (TRef.of (T := ⟨S64x1000000, .i32⟩) main_call1_v46) (TRef.of (T := ⟨S64x1000000, .i32⟩) main_call1_v47) addi,
    TRef.nullary (TRef.of (T := ⟨S_, .i32⟩) main_call1_c_11) (constantI S_ 32 29#32),
    TRef.unary (TRef.of (T := ⟨S_, .i32⟩) main_call1_c_11) (TRef.of (T := ⟨S64x1000000, .i32⟩) main_call1_v48) (broadcastInDim S64x1000000 ![] bcast_S_S64x1000000),
    TRef.binary (TRef.of (T := ⟨S64x1000000, .i32⟩) main_call1_v46) (TRef.of (T := ⟨S64x1000000, .i32⟩) main_call1_v48) (TRef.of (T := ⟨S64x1000000, .i32⟩) main_call1_v49) Host.shli,
    TRef.nullary (TRef.of (T := ⟨S_, .i32⟩) main_call1_c_12) (constantI S_ 32 3#32),
    TRef.unary (TRef.of (T := ⟨S_, .i32⟩) main_call1_c_12) (TRef.of (T := ⟨S64x1000000, .i32⟩) main_call1_v50) (broadcastInDim S64x1000000 ![] bcast_S_S64x1000000),
    TRef.binary (TRef.of (T := ⟨S64x1000000, .i32⟩) main_call1_v46) (TRef.of (T := ⟨S64x1000000, .i32⟩) main_call1_v50) (TRef.of (T := ⟨S64x1000000, .i32⟩) main_call1_v51) Host.shrui,
    TRef.binary (TRef.of (T := ⟨S64x1000000, .i32⟩) main_call1_v49) (TRef.of (T := ⟨S64x1000000, .i32⟩) main_call1_v51) (TRef.of (T := ⟨S64x1000000, .i32⟩) main_call1_v52) ori,
    TRef.binary (TRef.of (T := ⟨S64x1000000, .i32⟩) main_call1_v47) (TRef.of (T := ⟨S64x1000000, .i32⟩) main_call1_v52) (TRef.of (T := ⟨S64x1000000, .i32⟩) main_call1_v53) xori,
    TRef.binary (TRef.of (T := ⟨S64x1000000, .i32⟩) main_call1_v47) (TRef.of (T := ⟨S64x1000000, .i32⟩) main_call1_v53) (TRef.of (T := ⟨S64x1000000, .i32⟩) main_call1_v54) addi,
    TRef.nullary (TRef.of (T := ⟨S_, .i32⟩) main_call1_c_13) (constantI S_ 32 16#32),
    TRef.unary (TRef.of (T := ⟨S_, .i32⟩) main_call1_c_13) (TRef.of (T := ⟨S64x1000000, .i32⟩) main_call1_v55) (broadcastInDim S64x1000000 ![] bcast_S_S64x1000000),
    TRef.binary (TRef.of (T := ⟨S64x1000000, .i32⟩) main_call1_v53) (TRef.of (T := ⟨S64x1000000, .i32⟩) main_call1_v55) (TRef.of (T := ⟨S64x1000000, .i32⟩) main_call1_v56) Host.shli,
    TRef.nullary (TRef.of (T := ⟨S_, .i32⟩) main_call1_c_14) (constantI S_ 32 16#32),
    TRef.unary (TRef.of (T := ⟨S_, .i32⟩) main_call1_c_14) (TRef.of (T := ⟨S64x1000000, .i32⟩) main_call1_v57) (broadcastInDim S64x1000000 ![] bcast_S_S64x1000000),
    TRef.binary (TRef.of (T := ⟨S64x1000000, .i32⟩) main_call1_v53) (TRef.of (T := ⟨S64x1000000, .i32⟩) main_call1_v57) (TRef.of (T := ⟨S64x1000000, .i32⟩) main_call1_v58) Host.shrui,
    TRef.binary (TRef.of (T := ⟨S64x1000000, .i32⟩) main_call1_v56) (TRef.of (T := ⟨S64x1000000, .i32⟩) main_call1_v58) (TRef.of (T := ⟨S64x1000000, .i32⟩) main_call1_v59) ori ]

/-- @main's operations 121 … 150 of 318. -/
abbrev ops_4 : List (HloOp τ sig (Elt F)) :=
  [ TRef.binary (TRef.of (T := ⟨S64x1000000, .i32⟩) main_call1_v54) (TRef.of (T := ⟨S64x1000000, .i32⟩) main_call1_v59) (TRef.of (T := ⟨S64x1000000, .i32⟩) main_call1_v60) xori,
    TRef.binary (TRef.of (T := ⟨S64x1000000, .i32⟩) main_call1_v54) (TRef.of (T := ⟨S64x1000000, .i32⟩) main_call1_v60) (TRef.of (T := ⟨S64x1000000, .i32⟩) main_call1_v61) addi,
    TRef.nullary (TRef.of (T := ⟨S_, .i32⟩) main_call1_c_15) (constantI S_ 32 24#32),
    TRef.unary (TRef.of (T := ⟨S_, .i32⟩) main_call1_c_15) (TRef.of (T := ⟨S64x1000000, .i32⟩) main_call1_v62) (broadcastInDim S64x1000000 ![] bcast_S_S64x1000000),
    TRef.binary (TRef.of (T := ⟨S64x1000000, .i32⟩) main_call1_v60) (TRef.of (T := ⟨S64x1000000, .i32⟩) main_call1_v62) (TRef.of (T := ⟨S64x1000000, .i32⟩) main_call1_v63) Host.shli,
    TRef.nullary (TRef.of (T := ⟨S_, .i32⟩) main_call1_c_16) (constantI S_ 32 8#32),
    TRef.unary (TRef.of (T := ⟨S_, .i32⟩) main_call1_c_16) (TRef.of (T := ⟨S64x1000000, .i32⟩) main_call1_v64) (broadcastInDim S64x1000000 ![] bcast_S_S64x1000000),
    TRef.binary (TRef.of (T := ⟨S64x1000000, .i32⟩) main_call1_v60) (TRef.of (T := ⟨S64x1000000, .i32⟩) main_call1_v64) (TRef.of (T := ⟨S64x1000000, .i32⟩) main_call1_v65) Host.shrui,
    TRef.binary (TRef.of (T := ⟨S64x1000000, .i32⟩) main_call1_v63) (TRef.of (T := ⟨S64x1000000, .i32⟩) main_call1_v65) (TRef.of (T := ⟨S64x1000000, .i32⟩) main_call1_v66) ori,
    TRef.binary (TRef.of (T := ⟨S64x1000000, .i32⟩) main_call1_v61) (TRef.of (T := ⟨S64x1000000, .i32⟩) main_call1_v66) (TRef.of (T := ⟨S64x1000000, .i32⟩) main_call1_v67) xori,
    TRef.unary (TRef.of (T := ⟨S_, .i32⟩) main_call1_v1) (TRef.of (T := ⟨S64x1000000, .i32⟩) main_call1_v68) (broadcastInDim S64x1000000 ![] bcast_S_S64x1000000),
    TRef.binary (TRef.of (T := ⟨S64x1000000, .i32⟩) main_call1_v61) (TRef.of (T := ⟨S64x1000000, .i32⟩) main_call1_v68) (TRef.of (T := ⟨S64x1000000, .i32⟩) main_call1_v69) addi,
    TRef.unary (TRef.of (T := ⟨S_, .i32⟩) main_v10) (TRef.of (T := ⟨S64x1000000, .i32⟩) main_call1_v70) (broadcastInDim S64x1000000 ![] bcast_S_S64x1000000),
    TRef.binary (TRef.of (T := ⟨S64x1000000, .i32⟩) main_call1_v67) (TRef.of (T := ⟨S64x1000000, .i32⟩) main_call1_v70) (TRef.of (T := ⟨S64x1000000, .i32⟩) main_call1_v71) addi,
    TRef.nullary (TRef.of (T := ⟨S_, .i32⟩) main_call1_c_17) (constantI S_ 32 2#32),
    TRef.unary (TRef.of (T := ⟨S_, .i32⟩) main_call1_c_17) (TRef.of (T := ⟨S64x1000000, .i32⟩) main_call1_v72) (broadcastInDim S64x1000000 ![] bcast_S_S64x1000000),
    TRef.binary (TRef.of (T := ⟨S64x1000000, .i32⟩) main_call1_v71) (TRef.of (T := ⟨S64x1000000, .i32⟩) main_call1_v72) (TRef.of (T := ⟨S64x1000000, .i32⟩) main_call1_v73) addi,
    TRef.binary (TRef.of (T := ⟨S64x1000000, .i32⟩) main_call1_v69) (TRef.of (T := ⟨S64x1000000, .i32⟩) main_call1_v73) (TRef.of (T := ⟨S64x1000000, .i32⟩) main_call1_v74) addi,
    TRef.nullary (TRef.of (T := ⟨S_, .i32⟩) main_call1_c_18) (constantI S_ 32 13#32),
    TRef.unary (TRef.of (T := ⟨S_, .i32⟩) main_call1_c_18) (TRef.of (T := ⟨S64x1000000, .i32⟩) main_call1_v75) (broadcastInDim S64x1000000 ![] bcast_S_S64x1000000),
    TRef.binary (TRef.of (T := ⟨S64x1000000, .i32⟩) main_call1_v73) (TRef.of (T := ⟨S64x1000000, .i32⟩) main_call1_v75) (TRef.of (T := ⟨S64x1000000, .i32⟩) main_call1_v76) Host.shli,
    TRef.nullary (TRef.of (T := ⟨S_, .i32⟩) main_call1_c_19) (constantI S_ 32 19#32),
    TRef.unary (TRef.of (T := ⟨S_, .i32⟩) main_call1_c_19) (TRef.of (T := ⟨S64x1000000, .i32⟩) main_call1_v77) (broadcastInDim S64x1000000 ![] bcast_S_S64x1000000),
    TRef.binary (TRef.of (T := ⟨S64x1000000, .i32⟩) main_call1_v73) (TRef.of (T := ⟨S64x1000000, .i32⟩) main_call1_v77) (TRef.of (T := ⟨S64x1000000, .i32⟩) main_call1_v78) Host.shrui,
    TRef.binary (TRef.of (T := ⟨S64x1000000, .i32⟩) main_call1_v76) (TRef.of (T := ⟨S64x1000000, .i32⟩) main_call1_v78) (TRef.of (T := ⟨S64x1000000, .i32⟩) main_call1_v79) ori,
    TRef.binary (TRef.of (T := ⟨S64x1000000, .i32⟩) main_call1_v74) (TRef.of (T := ⟨S64x1000000, .i32⟩) main_call1_v79) (TRef.of (T := ⟨S64x1000000, .i32⟩) main_call1_v80) xori,
    TRef.binary (TRef.of (T := ⟨S64x1000000, .i32⟩) main_call1_v74) (TRef.of (T := ⟨S64x1000000, .i32⟩) main_call1_v80) (TRef.of (T := ⟨S64x1000000, .i32⟩) main_call1_v81) addi,
    TRef.nullary (TRef.of (T := ⟨S_, .i32⟩) main_call1_c_20) (constantI S_ 32 15#32),
    TRef.unary (TRef.of (T := ⟨S_, .i32⟩) main_call1_c_20) (TRef.of (T := ⟨S64x1000000, .i32⟩) main_call1_v82) (broadcastInDim S64x1000000 ![] bcast_S_S64x1000000),
    TRef.binary (TRef.of (T := ⟨S64x1000000, .i32⟩) main_call1_v80) (TRef.of (T := ⟨S64x1000000, .i32⟩) main_call1_v82) (TRef.of (T := ⟨S64x1000000, .i32⟩) main_call1_v83) Host.shli ]

/-- @main's operations 151 … 180 of 318. -/
abbrev ops_5 : List (HloOp τ sig (Elt F)) :=
  [ TRef.nullary (TRef.of (T := ⟨S_, .i32⟩) main_call1_c_21) (constantI S_ 32 17#32),
    TRef.unary (TRef.of (T := ⟨S_, .i32⟩) main_call1_c_21) (TRef.of (T := ⟨S64x1000000, .i32⟩) main_call1_v84) (broadcastInDim S64x1000000 ![] bcast_S_S64x1000000),
    TRef.binary (TRef.of (T := ⟨S64x1000000, .i32⟩) main_call1_v80) (TRef.of (T := ⟨S64x1000000, .i32⟩) main_call1_v84) (TRef.of (T := ⟨S64x1000000, .i32⟩) main_call1_v85) Host.shrui,
    TRef.binary (TRef.of (T := ⟨S64x1000000, .i32⟩) main_call1_v83) (TRef.of (T := ⟨S64x1000000, .i32⟩) main_call1_v85) (TRef.of (T := ⟨S64x1000000, .i32⟩) main_call1_v86) ori,
    TRef.binary (TRef.of (T := ⟨S64x1000000, .i32⟩) main_call1_v81) (TRef.of (T := ⟨S64x1000000, .i32⟩) main_call1_v86) (TRef.of (T := ⟨S64x1000000, .i32⟩) main_call1_v87) xori,
    TRef.binary (TRef.of (T := ⟨S64x1000000, .i32⟩) main_call1_v81) (TRef.of (T := ⟨S64x1000000, .i32⟩) main_call1_v87) (TRef.of (T := ⟨S64x1000000, .i32⟩) main_call1_v88) addi,
    TRef.nullary (TRef.of (T := ⟨S_, .i32⟩) main_call1_c_22) (constantI S_ 32 26#32),
    TRef.unary (TRef.of (T := ⟨S_, .i32⟩) main_call1_c_22) (TRef.of (T := ⟨S64x1000000, .i32⟩) main_call1_v89) (broadcastInDim S64x1000000 ![] bcast_S_S64x1000000),
    TRef.binary (TRef.of (T := ⟨S64x1000000, .i32⟩) main_call1_v87) (TRef.of (T := ⟨S64x1000000, .i32⟩) main_call1_v89) (TRef.of (T := ⟨S64x1000000, .i32⟩) main_call1_v90) Host.shli,
    TRef.nullary (TRef.of (T := ⟨S_, .i32⟩) main_call1_c_23) (constantI S_ 32 6#32),
    TRef.unary (TRef.of (T := ⟨S_, .i32⟩) main_call1_c_23) (TRef.of (T := ⟨S64x1000000, .i32⟩) main_call1_v91) (broadcastInDim S64x1000000 ![] bcast_S_S64x1000000),
    TRef.binary (TRef.of (T := ⟨S64x1000000, .i32⟩) main_call1_v87) (TRef.of (T := ⟨S64x1000000, .i32⟩) main_call1_v91) (TRef.of (T := ⟨S64x1000000, .i32⟩) main_call1_v92) Host.shrui,
    TRef.binary (TRef.of (T := ⟨S64x1000000, .i32⟩) main_call1_v90) (TRef.of (T := ⟨S64x1000000, .i32⟩) main_call1_v92) (TRef.of (T := ⟨S64x1000000, .i32⟩) main_call1_v93) ori,
    TRef.binary (TRef.of (T := ⟨S64x1000000, .i32⟩) main_call1_v88) (TRef.of (T := ⟨S64x1000000, .i32⟩) main_call1_v93) (TRef.of (T := ⟨S64x1000000, .i32⟩) main_call1_v94) xori,
    TRef.binary (TRef.of (T := ⟨S64x1000000, .i32⟩) main_call1_v88) (TRef.of (T := ⟨S64x1000000, .i32⟩) main_call1_v94) (TRef.of (T := ⟨S64x1000000, .i32⟩) main_call1_v95) addi,
    TRef.nullary (TRef.of (T := ⟨S_, .i32⟩) main_call1_c_24) (constantI S_ 32 6#32),
    TRef.unary (TRef.of (T := ⟨S_, .i32⟩) main_call1_c_24) (TRef.of (T := ⟨S64x1000000, .i32⟩) main_call1_v96) (broadcastInDim S64x1000000 ![] bcast_S_S64x1000000),
    TRef.binary (TRef.of (T := ⟨S64x1000000, .i32⟩) main_call1_v94) (TRef.of (T := ⟨S64x1000000, .i32⟩) main_call1_v96) (TRef.of (T := ⟨S64x1000000, .i32⟩) main_call1_v97) Host.shli,
    TRef.nullary (TRef.of (T := ⟨S_, .i32⟩) main_call1_c_25) (constantI S_ 32 26#32),
    TRef.unary (TRef.of (T := ⟨S_, .i32⟩) main_call1_c_25) (TRef.of (T := ⟨S64x1000000, .i32⟩) main_call1_v98) (broadcastInDim S64x1000000 ![] bcast_S_S64x1000000),
    TRef.binary (TRef.of (T := ⟨S64x1000000, .i32⟩) main_call1_v94) (TRef.of (T := ⟨S64x1000000, .i32⟩) main_call1_v98) (TRef.of (T := ⟨S64x1000000, .i32⟩) main_call1_v99) Host.shrui,
    TRef.binary (TRef.of (T := ⟨S64x1000000, .i32⟩) main_call1_v97) (TRef.of (T := ⟨S64x1000000, .i32⟩) main_call1_v99) (TRef.of (T := ⟨S64x1000000, .i32⟩) main_call1_v100) ori,
    TRef.binary (TRef.of (T := ⟨S64x1000000, .i32⟩) main_call1_v95) (TRef.of (T := ⟨S64x1000000, .i32⟩) main_call1_v100) (TRef.of (T := ⟨S64x1000000, .i32⟩) main_call1_v101) xori,
    TRef.unary (TRef.of (T := ⟨S_, .i32⟩) main_v10) (TRef.of (T := ⟨S64x1000000, .i32⟩) main_call1_v102) (broadcastInDim S64x1000000 ![] bcast_S_S64x1000000),
    TRef.binary (TRef.of (T := ⟨S64x1000000, .i32⟩) main_call1_v95) (TRef.of (T := ⟨S64x1000000, .i32⟩) main_call1_v102) (TRef.of (T := ⟨S64x1000000, .i32⟩) main_call1_v103) addi,
    TRef.unary (TRef.of (T := ⟨S_, .i32⟩) main_v12) (TRef.of (T := ⟨S64x1000000, .i32⟩) main_call1_v104) (broadcastInDim S64x1000000 ![] bcast_S_S64x1000000),
    TRef.binary (TRef.of (T := ⟨S64x1000000, .i32⟩) main_call1_v101) (TRef.of (T := ⟨S64x1000000, .i32⟩) main_call1_v104) (TRef.of (T := ⟨S64x1000000, .i32⟩) main_call1_v105) addi,
    TRef.nullary (TRef.of (T := ⟨S_, .i32⟩) main_call1_c_26) (constantI S_ 32 3#32),
    TRef.unary (TRef.of (T := ⟨S_, .i32⟩) main_call1_c_26) (TRef.of (T := ⟨S64x1000000, .i32⟩) main_call1_v106) (broadcastInDim S64x1000000 ![] bcast_S_S64x1000000),
    TRef.binary (TRef.of (T := ⟨S64x1000000, .i32⟩) main_call1_v105) (TRef.of (T := ⟨S64x1000000, .i32⟩) main_call1_v106) (TRef.of (T := ⟨S64x1000000, .i32⟩) main_call1_v107) addi ]

/-- @main's operations 181 … 210 of 318. -/
abbrev ops_6 : List (HloOp τ sig (Elt F)) :=
  [ TRef.binary (TRef.of (T := ⟨S64x1000000, .i32⟩) main_call1_v103) (TRef.of (T := ⟨S64x1000000, .i32⟩) main_call1_v107) (TRef.of (T := ⟨S64x1000000, .i32⟩) main_call1_v108) addi,
    TRef.nullary (TRef.of (T := ⟨S_, .i32⟩) main_call1_c_27) (constantI S_ 32 17#32),
    TRef.unary (TRef.of (T := ⟨S_, .i32⟩) main_call1_c_27) (TRef.of (T := ⟨S64x1000000, .i32⟩) main_call1_v109) (broadcastInDim S64x1000000 ![] bcast_S_S64x1000000),
    TRef.binary (TRef.of (T := ⟨S64x1000000, .i32⟩) main_call1_v107) (TRef.of (T := ⟨S64x1000000, .i32⟩) main_call1_v109) (TRef.of (T := ⟨S64x1000000, .i32⟩) main_call1_v110) Host.shli,
    TRef.nullary (TRef.of (T := ⟨S_, .i32⟩) main_call1_c_28) (constantI S_ 32 15#32),
    TRef.unary (TRef.of (T := ⟨S_, .i32⟩) main_call1_c_28) (TRef.of (T := ⟨S64x1000000, .i32⟩) main_call1_v111) (broadcastInDim S64x1000000 ![] bcast_S_S64x1000000),
    TRef.binary (TRef.of (T := ⟨S64x1000000, .i32⟩) main_call1_v107) (TRef.of (T := ⟨S64x1000000, .i32⟩) main_call1_v111) (TRef.of (T := ⟨S64x1000000, .i32⟩) main_call1_v112) Host.shrui,
    TRef.binary (TRef.of (T := ⟨S64x1000000, .i32⟩) main_call1_v110) (TRef.of (T := ⟨S64x1000000, .i32⟩) main_call1_v112) (TRef.of (T := ⟨S64x1000000, .i32⟩) main_call1_v113) ori,
    TRef.binary (TRef.of (T := ⟨S64x1000000, .i32⟩) main_call1_v108) (TRef.of (T := ⟨S64x1000000, .i32⟩) main_call1_v113) (TRef.of (T := ⟨S64x1000000, .i32⟩) main_call1_v114) xori,
    TRef.binary (TRef.of (T := ⟨S64x1000000, .i32⟩) main_call1_v108) (TRef.of (T := ⟨S64x1000000, .i32⟩) main_call1_v114) (TRef.of (T := ⟨S64x1000000, .i32⟩) main_call1_v115) addi,
    TRef.nullary (TRef.of (T := ⟨S_, .i32⟩) main_call1_c_29) (constantI S_ 32 29#32),
    TRef.unary (TRef.of (T := ⟨S_, .i32⟩) main_call1_c_29) (TRef.of (T := ⟨S64x1000000, .i32⟩) main_call1_v116) (broadcastInDim S64x1000000 ![] bcast_S_S64x1000000),
    TRef.binary (TRef.of (T := ⟨S64x1000000, .i32⟩) main_call1_v114) (TRef.of (T := ⟨S64x1000000, .i32⟩) main_call1_v116) (TRef.of (T := ⟨S64x1000000, .i32⟩) main_call1_v117) Host.shli,
    TRef.nullary (TRef.of (T := ⟨S_, .i32⟩) main_call1_c_30) (constantI S_ 32 3#32),
    TRef.unary (TRef.of (T := ⟨S_, .i32⟩) main_call1_c_30) (TRef.of (T := ⟨S64x1000000, .i32⟩) main_call1_v118) (broadcastInDim S64x1000000 ![] bcast_S_S64x1000000),
    TRef.binary (TRef.of (T := ⟨S64x1000000, .i32⟩) main_call1_v114) (TRef.of (T := ⟨S64x1000000, .i32⟩) main_call1_v118) (TRef.of (T := ⟨S64x1000000, .i32⟩) main_call1_v119) Host.shrui,
    TRef.binary (TRef.of (T := ⟨S64x1000000, .i32⟩) main_call1_v117) (TRef.of (T := ⟨S64x1000000, .i32⟩) main_call1_v119) (TRef.of (T := ⟨S64x1000000, .i32⟩) main_call1_v120) ori,
    TRef.binary (TRef.of (T := ⟨S64x1000000, .i32⟩) main_call1_v115) (TRef.of (T := ⟨S64x1000000, .i32⟩) main_call1_v120) (TRef.of (T := ⟨S64x1000000, .i32⟩) main_call1_v121) xori,
    TRef.binary (TRef.of (T := ⟨S64x1000000, .i32⟩) main_call1_v115) (TRef.of (T := ⟨S64x1000000, .i32⟩) main_call1_v121) (TRef.of (T := ⟨S64x1000000, .i32⟩) main_call1_v122) addi,
    TRef.nullary (TRef.of (T := ⟨S_, .i32⟩) main_call1_c_31) (constantI S_ 32 16#32),
    TRef.unary (TRef.of (T := ⟨S_, .i32⟩) main_call1_c_31) (TRef.of (T := ⟨S64x1000000, .i32⟩) main_call1_v123) (broadcastInDim S64x1000000 ![] bcast_S_S64x1000000),
    TRef.binary (TRef.of (T := ⟨S64x1000000, .i32⟩) main_call1_v121) (TRef.of (T := ⟨S64x1000000, .i32⟩) main_call1_v123) (TRef.of (T := ⟨S64x1000000, .i32⟩) main_call1_v124) Host.shli,
    TRef.nullary (TRef.of (T := ⟨S_, .i32⟩) main_call1_c_32) (constantI S_ 32 16#32),
    TRef.unary (TRef.of (T := ⟨S_, .i32⟩) main_call1_c_32) (TRef.of (T := ⟨S64x1000000, .i32⟩) main_call1_v125) (broadcastInDim S64x1000000 ![] bcast_S_S64x1000000),
    TRef.binary (TRef.of (T := ⟨S64x1000000, .i32⟩) main_call1_v121) (TRef.of (T := ⟨S64x1000000, .i32⟩) main_call1_v125) (TRef.of (T := ⟨S64x1000000, .i32⟩) main_call1_v126) Host.shrui,
    TRef.binary (TRef.of (T := ⟨S64x1000000, .i32⟩) main_call1_v124) (TRef.of (T := ⟨S64x1000000, .i32⟩) main_call1_v126) (TRef.of (T := ⟨S64x1000000, .i32⟩) main_call1_v127) ori,
    TRef.binary (TRef.of (T := ⟨S64x1000000, .i32⟩) main_call1_v122) (TRef.of (T := ⟨S64x1000000, .i32⟩) main_call1_v127) (TRef.of (T := ⟨S64x1000000, .i32⟩) main_call1_v128) xori,
    TRef.binary (TRef.of (T := ⟨S64x1000000, .i32⟩) main_call1_v122) (TRef.of (T := ⟨S64x1000000, .i32⟩) main_call1_v128) (TRef.of (T := ⟨S64x1000000, .i32⟩) main_call1_v129) addi,
    TRef.nullary (TRef.of (T := ⟨S_, .i32⟩) main_call1_c_33) (constantI S_ 32 24#32),
    TRef.unary (TRef.of (T := ⟨S_, .i32⟩) main_call1_c_33) (TRef.of (T := ⟨S64x1000000, .i32⟩) main_call1_v130) (broadcastInDim S64x1000000 ![] bcast_S_S64x1000000) ]

/-- @main's operations 211 … 240 of 318. -/
abbrev ops_7 : List (HloOp τ sig (Elt F)) :=
  [ TRef.binary (TRef.of (T := ⟨S64x1000000, .i32⟩) main_call1_v128) (TRef.of (T := ⟨S64x1000000, .i32⟩) main_call1_v130) (TRef.of (T := ⟨S64x1000000, .i32⟩) main_call1_v131) Host.shli,
    TRef.nullary (TRef.of (T := ⟨S_, .i32⟩) main_call1_c_34) (constantI S_ 32 8#32),
    TRef.unary (TRef.of (T := ⟨S_, .i32⟩) main_call1_c_34) (TRef.of (T := ⟨S64x1000000, .i32⟩) main_call1_v132) (broadcastInDim S64x1000000 ![] bcast_S_S64x1000000),
    TRef.binary (TRef.of (T := ⟨S64x1000000, .i32⟩) main_call1_v128) (TRef.of (T := ⟨S64x1000000, .i32⟩) main_call1_v132) (TRef.of (T := ⟨S64x1000000, .i32⟩) main_call1_v133) Host.shrui,
    TRef.binary (TRef.of (T := ⟨S64x1000000, .i32⟩) main_call1_v131) (TRef.of (T := ⟨S64x1000000, .i32⟩) main_call1_v133) (TRef.of (T := ⟨S64x1000000, .i32⟩) main_call1_v134) ori,
    TRef.binary (TRef.of (T := ⟨S64x1000000, .i32⟩) main_call1_v129) (TRef.of (T := ⟨S64x1000000, .i32⟩) main_call1_v134) (TRef.of (T := ⟨S64x1000000, .i32⟩) main_call1_v135) xori,
    TRef.unary (TRef.of (T := ⟨S_, .i32⟩) main_v12) (TRef.of (T := ⟨S64x1000000, .i32⟩) main_call1_v136) (broadcastInDim S64x1000000 ![] bcast_S_S64x1000000),
    TRef.binary (TRef.of (T := ⟨S64x1000000, .i32⟩) main_call1_v129) (TRef.of (T := ⟨S64x1000000, .i32⟩) main_call1_v136) (TRef.of (T := ⟨S64x1000000, .i32⟩) main_call1_v137) addi,
    TRef.unary (TRef.of (T := ⟨S_, .i32⟩) main_call1_v1) (TRef.of (T := ⟨S64x1000000, .i32⟩) main_call1_v138) (broadcastInDim S64x1000000 ![] bcast_S_S64x1000000),
    TRef.binary (TRef.of (T := ⟨S64x1000000, .i32⟩) main_call1_v135) (TRef.of (T := ⟨S64x1000000, .i32⟩) main_call1_v138) (TRef.of (T := ⟨S64x1000000, .i32⟩) main_call1_v139) addi,
    TRef.nullary (TRef.of (T := ⟨S_, .i32⟩) main_call1_c_35) (constantI S_ 32 4#32),
    TRef.unary (TRef.of (T := ⟨S_, .i32⟩) main_call1_c_35) (TRef.of (T := ⟨S64x1000000, .i32⟩) main_call1_v140) (broadcastInDim S64x1000000 ![] bcast_S_S64x1000000),
    TRef.binary (TRef.of (T := ⟨S64x1000000, .i32⟩) main_call1_v139) (TRef.of (T := ⟨S64x1000000, .i32⟩) main_call1_v140) (TRef.of (T := ⟨S64x1000000, .i32⟩) main_call1_v141) addi,
    TRef.binary (TRef.of (T := ⟨S64x1000000, .i32⟩) main_call1_v137) (TRef.of (T := ⟨S64x1000000, .i32⟩) main_call1_v141) (TRef.of (T := ⟨S64x1000000, .i32⟩) main_call1_v142) addi,
    TRef.nullary (TRef.of (T := ⟨S_, .i32⟩) main_call1_c_36) (constantI S_ 32 13#32),
    TRef.unary (TRef.of (T := ⟨S_, .i32⟩) main_call1_c_36) (TRef.of (T := ⟨S64x1000000, .i32⟩) main_call1_v143) (broadcastInDim S64x1000000 ![] bcast_S_S64x1000000),
    TRef.binary (TRef.of (T := ⟨S64x1000000, .i32⟩) main_call1_v141) (TRef.of (T := ⟨S64x1000000, .i32⟩) main_call1_v143) (TRef.of (T := ⟨S64x1000000, .i32⟩) main_call1_v144) Host.shli,
    TRef.nullary (TRef.of (T := ⟨S_, .i32⟩) main_call1_c_37) (constantI S_ 32 19#32),
    TRef.unary (TRef.of (T := ⟨S_, .i32⟩) main_call1_c_37) (TRef.of (T := ⟨S64x1000000, .i32⟩) main_call1_v145) (broadcastInDim S64x1000000 ![] bcast_S_S64x1000000),
    TRef.binary (TRef.of (T := ⟨S64x1000000, .i32⟩) main_call1_v141) (TRef.of (T := ⟨S64x1000000, .i32⟩) main_call1_v145) (TRef.of (T := ⟨S64x1000000, .i32⟩) main_call1_v146) Host.shrui,
    TRef.binary (TRef.of (T := ⟨S64x1000000, .i32⟩) main_call1_v144) (TRef.of (T := ⟨S64x1000000, .i32⟩) main_call1_v146) (TRef.of (T := ⟨S64x1000000, .i32⟩) main_call1_v147) ori,
    TRef.binary (TRef.of (T := ⟨S64x1000000, .i32⟩) main_call1_v142) (TRef.of (T := ⟨S64x1000000, .i32⟩) main_call1_v147) (TRef.of (T := ⟨S64x1000000, .i32⟩) main_call1_v148) xori,
    TRef.binary (TRef.of (T := ⟨S64x1000000, .i32⟩) main_call1_v142) (TRef.of (T := ⟨S64x1000000, .i32⟩) main_call1_v148) (TRef.of (T := ⟨S64x1000000, .i32⟩) main_call1_v149) addi,
    TRef.nullary (TRef.of (T := ⟨S_, .i32⟩) main_call1_c_38) (constantI S_ 32 15#32),
    TRef.unary (TRef.of (T := ⟨S_, .i32⟩) main_call1_c_38) (TRef.of (T := ⟨S64x1000000, .i32⟩) main_call1_v150) (broadcastInDim S64x1000000 ![] bcast_S_S64x1000000),
    TRef.binary (TRef.of (T := ⟨S64x1000000, .i32⟩) main_call1_v148) (TRef.of (T := ⟨S64x1000000, .i32⟩) main_call1_v150) (TRef.of (T := ⟨S64x1000000, .i32⟩) main_call1_v151) Host.shli,
    TRef.nullary (TRef.of (T := ⟨S_, .i32⟩) main_call1_c_39) (constantI S_ 32 17#32),
    TRef.unary (TRef.of (T := ⟨S_, .i32⟩) main_call1_c_39) (TRef.of (T := ⟨S64x1000000, .i32⟩) main_call1_v152) (broadcastInDim S64x1000000 ![] bcast_S_S64x1000000),
    TRef.binary (TRef.of (T := ⟨S64x1000000, .i32⟩) main_call1_v148) (TRef.of (T := ⟨S64x1000000, .i32⟩) main_call1_v152) (TRef.of (T := ⟨S64x1000000, .i32⟩) main_call1_v153) Host.shrui,
    TRef.binary (TRef.of (T := ⟨S64x1000000, .i32⟩) main_call1_v151) (TRef.of (T := ⟨S64x1000000, .i32⟩) main_call1_v153) (TRef.of (T := ⟨S64x1000000, .i32⟩) main_call1_v154) ori ]

/-- @main's operations 241 … 270 of 318. -/
abbrev ops_8 : List (HloOp τ sig (Elt F)) :=
  [ TRef.binary (TRef.of (T := ⟨S64x1000000, .i32⟩) main_call1_v149) (TRef.of (T := ⟨S64x1000000, .i32⟩) main_call1_v154) (TRef.of (T := ⟨S64x1000000, .i32⟩) main_call1_v155) xori,
    TRef.binary (TRef.of (T := ⟨S64x1000000, .i32⟩) main_call1_v149) (TRef.of (T := ⟨S64x1000000, .i32⟩) main_call1_v155) (TRef.of (T := ⟨S64x1000000, .i32⟩) main_call1_v156) addi,
    TRef.nullary (TRef.of (T := ⟨S_, .i32⟩) main_call1_c_40) (constantI S_ 32 26#32),
    TRef.unary (TRef.of (T := ⟨S_, .i32⟩) main_call1_c_40) (TRef.of (T := ⟨S64x1000000, .i32⟩) main_call1_v157) (broadcastInDim S64x1000000 ![] bcast_S_S64x1000000),
    TRef.binary (TRef.of (T := ⟨S64x1000000, .i32⟩) main_call1_v155) (TRef.of (T := ⟨S64x1000000, .i32⟩) main_call1_v157) (TRef.of (T := ⟨S64x1000000, .i32⟩) main_call1_v158) Host.shli,
    TRef.nullary (TRef.of (T := ⟨S_, .i32⟩) main_call1_c_41) (constantI S_ 32 6#32),
    TRef.unary (TRef.of (T := ⟨S_, .i32⟩) main_call1_c_41) (TRef.of (T := ⟨S64x1000000, .i32⟩) main_call1_v159) (broadcastInDim S64x1000000 ![] bcast_S_S64x1000000),
    TRef.binary (TRef.of (T := ⟨S64x1000000, .i32⟩) main_call1_v155) (TRef.of (T := ⟨S64x1000000, .i32⟩) main_call1_v159) (TRef.of (T := ⟨S64x1000000, .i32⟩) main_call1_v160) Host.shrui,
    TRef.binary (TRef.of (T := ⟨S64x1000000, .i32⟩) main_call1_v158) (TRef.of (T := ⟨S64x1000000, .i32⟩) main_call1_v160) (TRef.of (T := ⟨S64x1000000, .i32⟩) main_call1_v161) ori,
    TRef.binary (TRef.of (T := ⟨S64x1000000, .i32⟩) main_call1_v156) (TRef.of (T := ⟨S64x1000000, .i32⟩) main_call1_v161) (TRef.of (T := ⟨S64x1000000, .i32⟩) main_call1_v162) xori,
    TRef.binary (TRef.of (T := ⟨S64x1000000, .i32⟩) main_call1_v156) (TRef.of (T := ⟨S64x1000000, .i32⟩) main_call1_v162) (TRef.of (T := ⟨S64x1000000, .i32⟩) main_call1_v163) addi,
    TRef.nullary (TRef.of (T := ⟨S_, .i32⟩) main_call1_c_42) (constantI S_ 32 6#32),
    TRef.unary (TRef.of (T := ⟨S_, .i32⟩) main_call1_c_42) (TRef.of (T := ⟨S64x1000000, .i32⟩) main_call1_v164) (broadcastInDim S64x1000000 ![] bcast_S_S64x1000000),
    TRef.binary (TRef.of (T := ⟨S64x1000000, .i32⟩) main_call1_v162) (TRef.of (T := ⟨S64x1000000, .i32⟩) main_call1_v164) (TRef.of (T := ⟨S64x1000000, .i32⟩) main_call1_v165) Host.shli,
    TRef.nullary (TRef.of (T := ⟨S_, .i32⟩) main_call1_c_43) (constantI S_ 32 26#32),
    TRef.unary (TRef.of (T := ⟨S_, .i32⟩) main_call1_c_43) (TRef.of (T := ⟨S64x1000000, .i32⟩) main_call1_v166) (broadcastInDim S64x1000000 ![] bcast_S_S64x1000000),
    TRef.binary (TRef.of (T := ⟨S64x1000000, .i32⟩) main_call1_v162) (TRef.of (T := ⟨S64x1000000, .i32⟩) main_call1_v166) (TRef.of (T := ⟨S64x1000000, .i32⟩) main_call1_v167) Host.shrui,
    TRef.binary (TRef.of (T := ⟨S64x1000000, .i32⟩) main_call1_v165) (TRef.of (T := ⟨S64x1000000, .i32⟩) main_call1_v167) (TRef.of (T := ⟨S64x1000000, .i32⟩) main_call1_v168) ori,
    TRef.binary (TRef.of (T := ⟨S64x1000000, .i32⟩) main_call1_v163) (TRef.of (T := ⟨S64x1000000, .i32⟩) main_call1_v168) (TRef.of (T := ⟨S64x1000000, .i32⟩) main_call1_v169) xori,
    TRef.unary (TRef.of (T := ⟨S_, .i32⟩) main_call1_v1) (TRef.of (T := ⟨S64x1000000, .i32⟩) main_call1_v170) (broadcastInDim S64x1000000 ![] bcast_S_S64x1000000),
    TRef.binary (TRef.of (T := ⟨S64x1000000, .i32⟩) main_call1_v163) (TRef.of (T := ⟨S64x1000000, .i32⟩) main_call1_v170) (TRef.of (T := ⟨S64x1000000, .i32⟩) main_v24_0) addi,
    TRef.unary (TRef.of (T := ⟨S_, .i32⟩) main_v10) (TRef.of (T := ⟨S64x1000000, .i32⟩) main_call1_v172) (broadcastInDim S64x1000000 ![] bcast_S_S64x1000000),
    TRef.binary (TRef.of (T := ⟨S64x1000000, .i32⟩) main_call1_v169) (TRef.of (T := ⟨S64x1000000, .i32⟩) main_call1_v172) (TRef.of (T := ⟨S64x1000000, .i32⟩) main_call1_v173) addi,
    TRef.nullary (TRef.of (T := ⟨S_, .i32⟩) main_call1_c_44) (constantI S_ 32 5#32),
    TRef.unary (TRef.of (T := ⟨S_, .i32⟩) main_call1_c_44) (TRef.of (T := ⟨S64x1000000, .i32⟩) main_call1_v174) (broadcastInDim S64x1000000 ![] bcast_S_S64x1000000),
    TRef.binary (TRef.of (T := ⟨S64x1000000, .i32⟩) main_call1_v173) (TRef.of (T := ⟨S64x1000000, .i32⟩) main_call1_v174) (TRef.of (T := ⟨S64x1000000, .i32⟩) main_v24_1) addi,
    binary main_v24_0 main_v24_1 main_v25 (xori : (⟨S64x1000000, .i32⟩ : BufTy).Contents (Elt F) → (⟨S64x1000000, .i32⟩ : BufTy).Contents (Elt F) → (⟨S64x1000000, .i32⟩ : BufTy).Contents (Elt F)),
    nullary main_c_5 (constantI S_ 32 9#32),
    unary main_c_5 main_v26 (broadcastInDim S64x1000000 ![] bcast_S_S64x1000000 : (⟨S_, .i32⟩ : BufTy).Contents (Elt F) → (⟨S64x1000000, .i32⟩ : BufTy).Contents (Elt F)),
    binary main_v25 main_v26 main_v27 (Host.shrui : (⟨S64x1000000, .i32⟩ : BufTy).Contents (Elt F) → (⟨S64x1000000, .i32⟩ : BufTy).Contents (Elt F) → (⟨S64x1000000, .i32⟩ : BufTy).Contents (Elt F)) ]

/-- @main's operations 271 … 300 of 318. -/
abbrev ops_9 : List (HloOp τ sig (Elt F)) :=
  [ nullary main_c_6 (constantI S_ 32 1065353216#32),
    unary main_c_6 main_v28 (broadcastInDim S64x1000000 ![] bcast_S_S64x1000000 : (⟨S_, .i32⟩ : BufTy).Contents (Elt F) → (⟨S64x1000000, .i32⟩ : BufTy).Contents (Elt F)),
    binary main_v27 main_v28 main_v29 (ori : (⟨S64x1000000, .i32⟩ : BufTy).Contents (Elt F) → (⟨S64x1000000, .i32⟩ : BufTy).Contents (Elt F) → (⟨S64x1000000, .i32⟩ : BufTy).Contents (Elt F)),
    unary main_v29 main_v30 (bitcastToFloat (F := F) .f32 : (⟨S64x1000000, .i32⟩ : BufTy).Contents (Elt F) → (⟨S64x1000000, .f32⟩ : BufTy).Contents (Elt F)),
    nullary main_cst (constant S_ .f32 0x3F800000#32),
    unary main_cst main_v31 (broadcastInDim S64x1000000 ![] bcast_S_S64x1000000 : (⟨S_, .f32⟩ : BufTy).Contents (Elt F) → (⟨S64x1000000, .f32⟩ : BufTy).Contents (Elt F)),
    binary main_v30 main_v31 main_v32 (subf : (⟨S64x1000000, .f32⟩ : BufTy).Contents (Elt F) → (⟨S64x1000000, .f32⟩ : BufTy).Contents (Elt F) → (⟨S64x1000000, .f32⟩ : BufTy).Contents (Elt F)),
    nullary main_cst_7 (constant S_ .f32 0x00800000#32),
    unary main_cst_7 main_v33 (broadcastInDim S64x1000000 ![] bcast_S_S64x1000000 : (⟨S_, .f32⟩ : BufTy).Contents (Elt F) → (⟨S64x1000000, .f32⟩ : BufTy).Contents (Elt F)),
    binary main_v33 main_v32 main_v34 (maximumf : (⟨S64x1000000, .f32⟩ : BufTy).Contents (Elt F) → (⟨S64x1000000, .f32⟩ : BufTy).Contents (Elt F) → (⟨S64x1000000, .f32⟩ : BufTy).Contents (Elt F)),
    unary main_v34 main_v35 (Host.log : (⟨S64x1000000, .f32⟩ : BufTy).Contents (Elt F) → (⟨S64x1000000, .f32⟩ : BufTy).Contents (Elt F)),
    unary main_v35 main_v36 (Host.negf : (⟨S64x1000000, .f32⟩ : BufTy).Contents (Elt F) → (⟨S64x1000000, .f32⟩ : BufTy).Contents (Elt F)),
    unary main_v36 main_v37 (Host.log : (⟨S64x1000000, .f32⟩ : BufTy).Contents (Elt F) → (⟨S64x1000000, .f32⟩ : BufTy).Contents (Elt F)),
    unary main_v37 main_v38 (Host.negf : (⟨S64x1000000, .f32⟩ : BufTy).Contents (Elt F) → (⟨S64x1000000, .f32⟩ : BufTy).Contents (Elt F)),
    binary main_v38 main_arg0 main_v39 (addf : (⟨S64x1000000, .f32⟩ : BufTy).Contents (Elt F) → (⟨S64x1000000, .f32⟩ : BufTy).Contents (Elt F) → (⟨S64x1000000, .f32⟩ : BufTy).Contents (Elt F)),
    TRef.nullary (TRef.of (T := ⟨S64x1000000, .i32⟩) main_call2_v0) (iotaInDim S64x1000000 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S64x1000000, .f32⟩) main_v39) (TRef.of (T := ⟨S64x1000000, .i32⟩) main_call2_v0) (TRef.of (T := ⟨S_, .f32⟩) main_call2_cst) (TRef.of (T := ⟨S_, .i32⟩) main_call2_c) (TRef.of (T := ⟨S64, .f32⟩) main_call2_v1_0) argMaxPart1,
    TRef.quaternary (TRef.of (T := ⟨S64x1000000, .f32⟩) main_v39) (TRef.of (T := ⟨S64x1000000, .i32⟩) main_call2_v0) (TRef.of (T := ⟨S_, .f32⟩) main_call2_cst) (TRef.of (T := ⟨S_, .i32⟩) main_call2_c) (TRef.of (T := ⟨S64, .i32⟩) main_v40) argMaxPart2,
    unary main_v40 main_v41 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S64x1, .i32⟩) main_call3_v0) (broadcastInDim S64x1 ![] bcast_S_S64x1),
    TRef.binary (TRef.of (T := ⟨S64x1, .i32⟩) main_v41) (TRef.of (T := ⟨S64x1, .i32⟩) main_call3_v0) (TRef.of (T := ⟨S64x1, .i1⟩) main_call3_v1) (cmpi .slt),
    TRef.nullary (TRef.of (T := ⟨S_, .i32⟩) main_call3_c_0) (constantI S_ 32 1000000#32),
    TRef.unary (TRef.of (T := ⟨S_, .i32⟩) main_call3_c_0) (TRef.of (T := ⟨S64x1, .i32⟩) main_call3_v2) (broadcastInDim S64x1 ![] bcast_S_S64x1),
    TRef.binary (TRef.of (T := ⟨S64x1, .i32⟩) main_v41) (TRef.of (T := ⟨S64x1, .i32⟩) main_call3_v2) (TRef.of (T := ⟨S64x1, .i32⟩) main_call3_v3) addi,
    TRef.ternary (TRef.of (T := ⟨S64x1, .i1⟩) main_call3_v1) (TRef.of (T := ⟨S64x1, .i32⟩) main_call3_v3) (TRef.of (T := ⟨S64x1, .i32⟩) main_v41) (TRef.of (T := ⟨S64x1, .i32⟩) main_call3_v4) select,
    TRef.reshape (TRef.of (T := ⟨S64x1, .i32⟩) main_call3_v4) (TRef.of (T := ⟨S64x1x1, .i32⟩) main_call3_v5) (rfl : (.i32 : EltTy) = .i32) shapeCasts_S64x1_S64x1x1,
    TRef.nullary (TRef.of (T := ⟨S1, .i32⟩) main_call3_c_1) (constantI S1 32 999999#32) ]

/-- @main's operations 301 … 318 of 318. -/
abbrev ops_10 : List (HloOp τ sig (Elt F)) :=
  [ TRef.nullary (TRef.of (T := ⟨S_, .i32⟩) main_call3_c_2) (constantI S_ 32 0#32),
    TRef.unary (TRef.of (T := ⟨S_, .i32⟩) main_call3_c_2) (TRef.of (T := ⟨S64x1x1, .i32⟩) main_call3_v6) (broadcastInDim S64x1x1 ![] bcast_S_S64x1x1),
    TRef.binary (TRef.of (T := ⟨S64x1x1, .i32⟩) main_call3_v5) (TRef.of (T := ⟨S64x1x1, .i32⟩) main_call3_v6) (TRef.of (T := ⟨S64x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S64x1x1, .i32⟩) main_call3_v9) (broadcastInDim S64x1x1 ![0, 1, 2] bcast_S1x1x1_S64x1x1_0_1_2),
    TRef.binary (TRef.of (T := ⟨S64x1x1, .i32⟩) main_call3_v5) (TRef.of (T := ⟨S64x1x1, .i32⟩) main_call3_v9) (TRef.of (T := ⟨S64x1x1, .i1⟩) main_call3_v10) (cmpi .sle),
    TRef.binary (TRef.of (T := ⟨S64x1x1, .i1⟩) main_call3_v7) (TRef.of (T := ⟨S64x1x1, .i1⟩) main_call3_v10) (TRef.of (T := ⟨S64x1x1, .i1⟩) main_call3_v11) andi,
    TRef.nullary (TRef.of (T := ⟨S_, .i1⟩) main_call3_c_3) (constantI S_ 1 1#1),
    TRef.binary (TRef.of (T := ⟨S64x1x1, .i1⟩) main_call3_v11) (TRef.of (T := ⟨S_, .i1⟩) main_call3_c_3) (TRef.of (T := ⟨S64x1, .i1⟩) main_call3_v12) (fun x v => Host.reduce IntOp.andi x v reducesTo_S64x1x1_S64x1_d2 h_S_),
    TRef.binary (TRef.of (T := ⟨S64x1000000, .f32⟩) main_v0) (TRef.of (T := ⟨S64x1x1, .i32⟩) main_call3_v5) (TRef.of (T := ⟨S64x1, .f32⟩) main_call3_v13) (fun x i => Host.gather gather_S64x1000000_S64x1x1_S64x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S64x1, .f32⟩) main_call3_v14) (broadcastInDim S64x1 ![] bcast_S_S64x1),
    TRef.ternary (TRef.of (T := ⟨S64x1, .i1⟩) main_call3_v12) (TRef.of (T := ⟨S64x1, .f32⟩) main_call3_v13) (TRef.of (T := ⟨S64x1, .f32⟩) main_call3_v14) (TRef.of (T := ⟨S64x1, .f32⟩) main_v42) select,
    reshape main_v42 main_v43 (rfl : (.f32 : EltTy) = .f32) shapeCasts_S64x1_S64,
    binary main_v1 main_v0 main_v44 (mulf : (⟨S64x1000000, .f32⟩ : BufTy).Contents (Elt F) → (⟨S64x1000000, .f32⟩ : BufTy).Contents (Elt F) → (⟨S64x1000000, .f32⟩ : BufTy).Contents (Elt F)),
    nullary main_cst_8 (constant S_ .f32 0x00000000#32),
    binary main_v44 main_cst_8 main_v45 ((fun x v => Host.reduceAdd x v reducesTo_S64x1000000_S64_d1 h_S_) : (⟨S64x1000000, .f32⟩ : BufTy).Contents (Elt F) → (⟨S_, .f32⟩ : BufTy).Contents (Elt F) → (⟨S64, .f32⟩ : BufTy).Contents (Elt F)),
    unary main_v45 main_v46 (Host.negf : (⟨S64, .f32⟩ : BufTy).Contents (Elt F) → (⟨S64, .f32⟩ : BufTy).Contents (Elt F)) ]

/-- @main's 318 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_0_sub : (ops_0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., nullary_bufs_sub .., binary_bufs_sub .., unary_bufs_sub .., unary_bufs_sub .., nullary_bufs_sub .., binary_bufs_sub .., unary_bufs_sub .., unary_bufs_sub .., binary_bufs_sub .., unary_bufs_sub .., reshape_bufs_sub .., unary_bufs_sub .., reshape_bufs_sub ..⟩
set_option maxRecDepth 8192 in
theorem ops_0_fresh : (ops_0 : List (HloOp τ sig (Elt F))).Forall fun op => op.fresh = ∅ :=
  by
  simp only [List.Forall]
  and_intros <;> rfl
set_option maxRecDepth 8192 in
theorem ops_1_sub : (ops_1 : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_1_fresh : (ops_1 : List (HloOp τ sig (Elt F))).Forall fun op => op.fresh = ∅ :=
  by
  simp only [List.Forall]
  and_intros <;> rfl
set_option maxRecDepth 8192 in
theorem ops_2_sub : (ops_2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub ..⟩
set_option maxRecDepth 8192 in
theorem ops_2_fresh : (ops_2 : List (HloOp τ sig (Elt F))).Forall fun op => op.fresh = ∅ :=
  by
  simp only [List.Forall]
  and_intros <;> rfl
set_option maxRecDepth 8192 in
theorem ops_3_sub : (ops_3 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_3_fresh : (ops_3 : List (HloOp τ sig (Elt F))).Forall fun op => op.fresh = ∅ :=
  by
  simp only [List.Forall]
  and_intros <;> rfl
set_option maxRecDepth 8192 in
theorem ops_4_sub : (ops_4 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_4_fresh : (ops_4 : List (HloOp τ sig (Elt F))).Forall fun op => op.fresh = ∅ :=
  by
  simp only [List.Forall]
  and_intros <;> rfl
set_option maxRecDepth 8192 in
theorem ops_5_sub : (ops_5 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
set_option maxRecDepth 8192 in
theorem ops_5_fresh : (ops_5 : List (HloOp τ sig (Elt F))).Forall fun op => op.fresh = ∅ :=
  by
  simp only [List.Forall]
  and_intros <;> rfl
set_option maxRecDepth 8192 in
theorem ops_6_sub : (ops_6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub ..⟩
set_option maxRecDepth 8192 in
theorem ops_6_fresh : (ops_6 : List (HloOp τ sig (Elt F))).Forall fun op => op.fresh = ∅ :=
  by
  simp only [List.Forall]
  and_intros <;> rfl
set_option maxRecDepth 8192 in
theorem ops_7_sub : (ops_7 : List (HloOp τ sig (Elt F))).Forall fun op => op.bufs ⊆ tcRefs τ sig :=
  ⟨binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_7_fresh : (ops_7 : List (HloOp τ sig (Elt F))).Forall fun op => op.fresh = ∅ :=
  by
  simp only [List.Forall]
  and_intros <;> rfl
set_option maxRecDepth 8192 in
theorem ops_8_sub : (ops_8 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩
set_option maxRecDepth 8192 in
theorem ops_8_fresh : (ops_8 : List (HloOp τ sig (Elt F))).Forall fun op => op.fresh = ∅ :=
  by
  simp only [List.Forall]
  and_intros <;> rfl
set_option maxRecDepth 8192 in
theorem ops_9_sub : (ops_9 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub ..⟩
set_option maxRecDepth 8192 in
theorem ops_9_fresh : (ops_9 : List (HloOp τ sig (Elt F))).Forall fun op => op.fresh = ∅ :=
  by
  simp only [List.Forall]
  and_intros <;> rfl
set_option maxRecDepth 8192 in
theorem ops_10_sub : (ops_10 : List (HloOp τ sig (Elt F))).Forall fun op => op.bufs ⊆ tcRefs τ sig :=
  ⟨nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., binary_bufs_sub .., unary_bufs_sub ..⟩
set_option maxRecDepth 8192 in
theorem ops_10_fresh : (ops_10 : List (HloOp τ sig (Elt F))).Forall fun op => op.fresh = ∅ :=
  by
  simp only [List.Forall]
  and_intros <;> rfl
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h]
theorem ops_fresh : ∀ op ∈ (ops : List (HloOp τ sig (Elt F))), op.fresh = ∅ := fun op h => by
    simp only [ops, List.mem_append] at h
    rcases h with h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h]

end Cert.ReferenceIdeal.RefRun

end
-- ==== Proof.RefVal.lean ====
/- The reference program's buffers at the end of its run, as terms of the argument. -/
module

public import proofs.«01_k».proof.Proof.RefOps
public import Idealize.ShloMosaic.Lib.Quiescent

@[expose] public section

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_call0_v5`'s composed term of the arguments (named: it is used 2 times). -/
def res_main_call0_v5 (V0 : Valuation τ sig (Elt F)) : (Proc.devRef .tc main_call0_v5 : DevRef τ sig).ty.Contents (Elt F) :=
  subf (V0 (Proc.devRef .tc main_arg0)) (broadcastInDim S64x1000000 ![0, 1] bcast_S64x1_S64x1000000_0_1 (broadcastInDim S64x1 ![0] bcast_S64_S64x1_0 (maximumf (broadcastInDim S64 ![] bcast_S_S64 (constant S_ .f32 0xFF800000#32)) (Host.reduce FloatOps.maximumf (V0 (Proc.devRef .tc main_arg0)) (constant S_ .f32 0xFF800000#32) reducesTo_S64x1000000_S64_d1 h_S_))))

set_option maxRecDepth 8192 in
/-- `main_v0`'s composed term of the arguments (named: it is used 3 times). -/
def res_main_v0 (V0 : Valuation τ sig (Elt F)) : (Proc.devRef .tc main_v0 : DevRef τ sig).ty.Contents (Elt F) :=
  subf (res_main_call0_v5 V0) (broadcastInDim S64x1000000 ![0, 1] bcast_S64x1_S64x1000000_0_1 (Host.log (broadcastInDim S64x1 ![0] bcast_S64_S64x1_0 (Host.reduceAdd (Host.exp (res_main_call0_v5 V0)) (constant S_ .f32 0x00000000#32) reducesTo_S64x1000000_S64_d1 h_S_))))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v8`'s composed term of the arguments (named: it is used 2 times). -/
def res_main_v8 (V0 : Valuation τ sig (Elt F)) : (Proc.devRef .tc main_v8 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_v10`'s composed term of the arguments (named: it is used 5 times). -/
def res_main_v10 (V0 : Valuation τ sig (Elt F)) : (Proc.devRef .tc main_v10 : DevRef τ sig).ty.Contents (Elt F) :=
  shapeCast _ (extractStridedSlice S1 ![0] (res_main_v8 V0) slices_S2_S1_0) shapeCasts_S1_S_

set_option maxRecDepth 8192 in
/-- `main_v12`'s composed term of the arguments (named: it is used 5 times). -/
def res_main_v12 (V0 : Valuation τ sig (Elt F)) : (Proc.devRef .tc main_v12 : DevRef τ sig).ty.Contents (Elt F) :=
  shapeCast _ (extractStridedSlice S1 ![1] (res_main_v8 V0) slices_S2_S1_1) shapeCasts_S1_S_

set_option maxRecDepth 8192 in
/-- `main_v19`'s composed term of the arguments (named: it is used 2 times). -/
def res_main_v19 (V0 : Valuation τ sig (Elt F)) : (Proc.devRef .tc main_v19 : DevRef τ sig).ty.Contents (Elt F) :=
  addi (muli (broadcastInDim S64x1000000 ![] bcast_S_S64x1000000 (constantI S_ 64 1000000#64)) (iotaInDim S64x1000000 64 0)) (muli (broadcastInDim S64x1000000 ![] bcast_S_S64x1000000 (constantI S_ 64 1#64)) (iotaInDim S64x1000000 64 1))

set_option maxRecDepth 8192 in
/-- `main_call1_v1`'s composed term of the arguments (named: it is used 4 times). -/
def res_main_call1_v1 (V0 : Valuation τ sig (Elt F)) : (Proc.devRef .tc main_call1_v1 : DevRef τ sig).ty.Contents (Elt F) :=
  xori (xori (res_main_v10 V0) (res_main_v12 V0)) (constantI S_ 32 466688986#32)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  addi (trunci 32 (res_main_v19 V0) natLt_32_64) (broadcastInDim S64x1000000 ![] bcast_S_S64x1000000 (res_main_v12 V0))

set_option maxRecDepth 8192 in
/-- `main_call1_v6`'s composed term of the arguments (named: it is used 2 times). -/
def res_main_call1_v6 (V0 : Valuation τ sig (Elt F)) : (Proc.devRef .tc main_call1_v6 : DevRef τ sig).ty.Contents (Elt F) :=
  addi (addi (trunci 32 (Host.shrui (res_main_v19 V0) (broadcastInDim S64x1000000 ![] bcast_S_S64x1000000 (constantI S_ 64 32#64))) natLt_32_64) (broadcastInDim S64x1000000 ![] bcast_S_S64x1000000 (res_main_v10 V0))) (res_main_call1_v5 V0)

set_option maxRecDepth 8192 in
/-- `main_call1_v12`'s composed term of the arguments (named: it is used 3 times). -/
def res_main_call1_v12 (V0 : Valuation τ sig (Elt F)) : (Proc.devRef .tc main_call1_v12 : DevRef τ sig).ty.Contents (Elt F) :=
  xori (res_main_call1_v6 V0) (ori (Host.shli (res_main_call1_v5 V0) (broadcastInDim S64x1000000 ![] bcast_S_S64x1000000 (constantI S_ 32 13#32))) (Host.shrui (res_main_call1_v5 V0) (broadcastInDim S64x1000000 ![] bcast_S_S64x1000000 (constantI S_ 32 19#32))))

set_option maxRecDepth 8192 in
/-- `main_call1_v13`'s composed term of the arguments (named: it is used 2 times). -/
def res_main_call1_v13 (V0 : Valuation τ sig (Elt F)) : (Proc.devRef .tc main_call1_v13 : DevRef τ sig).ty.Contents (Elt F) :=
  addi (res_main_call1_v6 V0) (res_main_call1_v12 V0)

set_option maxRecDepth 8192 in
/-- `main_call1_v19`'s composed term of the arguments (named: it is used 3 times). -/
def res_main_call1_v19 (V0 : Valuation τ sig (Elt F)) : (Proc.devRef .tc main_call1_v19 : DevRef τ sig).ty.Contents (Elt F) :=
  xori (res_main_call1_v13 V0) (ori (Host.shli (res_main_call1_v12 V0) (broadcastInDim S64x1000000 ![] bcast_S_S64x1000000 (constantI S_ 32 15#32))) (Host.shrui (res_main_call1_v12 V0) (broadcastInDim S64x1000000 ![] bcast_S_S64x1000000 (constantI S_ 32 17#32))))

set_option maxRecDepth 8192 in
/-- `main_call1_v20`'s composed term of the arguments (named: it is used 2 times). -/
def res_main_call1_v20 (V0 : Valuation τ sig (Elt F)) : (Proc.devRef .tc main_call1_v20 : DevRef τ sig).ty.Contents (Elt F) :=
  addi (res_main_call1_v13 V0) (res_main_call1_v19 V0)

set_option maxRecDepth 8192 in
/-- `main_call1_v26`'s composed term of the arguments (named: it is used 3 times). -/
def res_main_call1_v26 (V0 : Valuation τ sig (Elt F)) : (Proc.devRef .tc main_call1_v26 : DevRef τ sig).ty.Contents (Elt F) :=
  xori (res_main_call1_v20 V0) (ori (Host.shli (res_main_call1_v19 V0) (broadcastInDim S64x1000000 ![] bcast_S_S64x1000000 (constantI S_ 32 26#32))) (Host.shrui (res_main_call1_v19 V0) (broadcastInDim S64x1000000 ![] bcast_S_S64x1000000 (constantI S_ 32 6#32))))

set_option maxRecDepth 8192 in
/-- `main_call1_v27`'s composed term of the arguments (named: it is used 2 times). -/
def res_main_call1_v27 (V0 : Valuation τ sig (Elt F)) : (Proc.devRef .tc main_call1_v27 : DevRef τ sig).ty.Contents (Elt F) :=
  addi (res_main_call1_v20 V0) (res_main_call1_v26 V0)

set_option maxRecDepth 8192 in
/-- `main_call1_v39`'s composed term of the arguments (named: it is used 3 times). -/
def res_main_call1_v39 (V0 : Valuation τ sig (Elt F)) : (Proc.devRef .tc main_call1_v39 : DevRef τ sig).ty.Contents (Elt F) :=
  addi (addi (xori (res_main_call1_v27 V0) (ori (Host.shli (res_main_call1_v26 V0) (broadcastInDim S64x1000000 ![] bcast_S_S64x1000000 (constantI S_ 32 6#32))) (Host.shrui (res_main_call1_v26 V0) (broadcastInDim S64x1000000 ![] bcast_S_S64x1000000 (constantI S_ 32 26#32))))) (broadcastInDim S64x1000000 ![] bcast_S_S64x1000000 (res_main_call1_v1 V0))) (broadcastInDim S64x1000000 ![] bcast_S_S64x1000000 (constantI S_ 32 1#32))

set_option maxRecDepth 8192 in
/-- `main_call1_v40`'s composed term of the arguments (named: it is used 2 times). -/
def res_main_call1_v40 (V0 : Valuation τ sig (Elt F)) : (Proc.devRef .tc main_call1_v40 : DevRef τ sig).ty.Contents (Elt F) :=
  addi (addi (res_main_call1_v27 V0) (broadcastInDim S64x1000000 ![] bcast_S_S64x1000000 (res_main_v12 V0))) (res_main_call1_v39 V0)

set_option maxRecDepth 8192 in
/-- `main_call1_v46`'s composed term of the arguments (named: it is used 3 times). -/
def res_main_call1_v46 (V0 : Valuation τ sig (Elt F)) : (Proc.devRef .tc main_call1_v46 : DevRef τ sig).ty.Contents (Elt F) :=
  xori (res_main_call1_v40 V0) (ori (Host.shli (res_main_call1_v39 V0) (broadcastInDim S64x1000000 ![] bcast_S_S64x1000000 (constantI S_ 32 17#32))) (Host.shrui (res_main_call1_v39 V0) (broadcastInDim S64x1000000 ![] bcast_S_S64x1000000 (constantI S_ 32 15#32))))

set_option maxRecDepth 8192 in
/-- `main_call1_v47`'s composed term of the arguments (named: it is used 2 times). -/
def res_main_call1_v47 (V0 : Valuation τ sig (Elt F)) : (Proc.devRef .tc main_call1_v47 : DevRef τ sig).ty.Contents (Elt F) :=
  addi (res_main_call1_v40 V0) (res_main_call1_v46 V0)

set_option maxRecDepth 8192 in
/-- `main_call1_v53`'s composed term of the arguments (named: it is used 3 times). -/
def res_main_call1_v53 (V0 : Valuation τ sig (Elt F)) : (Proc.devRef .tc main_call1_v53 : DevRef τ sig).ty.Contents (Elt F) :=
  xori (res_main_call1_v47 V0) (ori (Host.shli (res_main_call1_v46 V0) (broadcastInDim S64x1000000 ![] bcast_S_S64x1000000 (constantI S_ 32 29#32))) (Host.shrui (res_main_call1_v46 V0) (broadcastInDim S64x1000000 ![] bcast_S_S64x1000000 (constantI S_ 32 3#32))))

set_option maxRecDepth 8192 in
/-- `main_call1_v54`'s composed term of the arguments (named: it is used 2 times). -/
def res_main_call1_v54 (V0 : Valuation τ sig (Elt F)) : (Proc.devRef .tc main_call1_v54 : DevRef τ sig).ty.Contents (Elt F) :=
  addi (res_main_call1_v47 V0) (res_main_call1_v53 V0)

set_option maxRecDepth 8192 in
/-- `main_call1_v60`'s composed term of the arguments (named: it is used 3 times). -/
def res_main_call1_v60 (V0 : Valuation τ sig (Elt F)) : (Proc.devRef .tc main_call1_v60 : DevRef τ sig).ty.Contents (Elt F) :=
  xori (res_main_call1_v54 V0) (ori (Host.shli (res_main_call1_v53 V0) (broadcastInDim S64x1000000 ![] bcast_S_S64x1000000 (constantI S_ 32 16#32))) (Host.shrui (res_main_call1_v53 V0) (broadcastInDim S64x1000000 ![] bcast_S_S64x1000000 (constantI S_ 32 16#32))))

set_option maxRecDepth 8192 in
/-- `main_call1_v61`'s composed term of the arguments (named: it is used 2 times). -/
def res_main_call1_v61 (V0 : Valuation τ sig (Elt F)) : (Proc.devRef .tc main_call1_v61 : DevRef τ sig).ty.Contents (Elt F) :=
  addi (res_main_call1_v54 V0) (res_main_call1_v60 V0)

set_option maxRecDepth 8192 in
/-- `main_call1_v73`'s composed term of the arguments (named: it is used 3 times). -/
def res_main_call1_v73 (V0 : Valuation τ sig (Elt F)) : (Proc.devRef .tc main_call1_v73 : DevRef τ sig).ty.Contents (Elt F) :=
  addi (addi (xori (res_main_call1_v61 V0) (ori (Host.shli (res_main_call1_v60 V0) (broadcastInDim S64x1000000 ![] bcast_S_S64x1000000 (constantI S_ 32 24#32))) (Host.shrui (res_main_call1_v60 V0) (broadcastInDim S64x1000000 ![] bcast_S_S64x1000000 (constantI S_ 32 8#32))))) (broadcastInDim S64x1000000 ![] bcast_S_S64x1000000 (res_main_v10 V0))) (broadcastInDim S64x1000000 ![] bcast_S_S64x1000000 (constantI S_ 32 2#32))

set_option maxRecDepth 8192 in
/-- `main_call1_v74`'s composed term of the arguments (named: it is used 2 times). -/
def res_main_call1_v74 (V0 : Valuation τ sig (Elt F)) : (Proc.devRef .tc main_call1_v74 : DevRef τ sig).ty.Contents (Elt F) :=
  addi (addi (res_main_call1_v61 V0) (broadcastInDim S64x1000000 ![] bcast_S_S64x1000000 (res_main_call1_v1 V0))) (res_main_call1_v73 V0)

set_option maxRecDepth 8192 in
/-- `main_call1_v80`'s composed term of the arguments (named: it is used 3 times). -/
def res_main_call1_v80 (V0 : Valuation τ sig (Elt F)) : (Proc.devRef .tc main_call1_v80 : DevRef τ sig).ty.Contents (Elt F) :=
  xori (res_main_call1_v74 V0) (ori (Host.shli (res_main_call1_v73 V0) (broadcastInDim S64x1000000 ![] bcast_S_S64x1000000 (constantI S_ 32 13#32))) (Host.shrui (res_main_call1_v73 V0) (broadcastInDim S64x1000000 ![] bcast_S_S64x1000000 (constantI S_ 32 19#32))))

set_option maxRecDepth 8192 in
/-- `main_call1_v81`'s composed term of the arguments (named: it is used 2 times). -/
def res_main_call1_v81 (V0 : Valuation τ sig (Elt F)) : (Proc.devRef .tc main_call1_v81 : DevRef τ sig).ty.Contents (Elt F) :=
  addi (res_main_call1_v74 V0) (res_main_call1_v80 V0)

set_option maxRecDepth 8192 in
/-- `main_call1_v87`'s composed term of the arguments (named: it is used 3 times). -/
def res_main_call1_v87 (V0 : Valuation τ sig (Elt F)) : (Proc.devRef .tc main_call1_v87 : DevRef τ sig).ty.Contents (Elt F) :=
  xori (res_main_call1_v81 V0) (ori (Host.shli (res_main_call1_v80 V0) (broadcastInDim S64x1000000 ![] bcast_S_S64x1000000 (constantI S_ 32 15#32))) (Host.shrui (res_main_call1_v80 V0) (broadcastInDim S64x1000000 ![] bcast_S_S64x1000000 (constantI S_ 32 17#32))))

set_option maxRecDepth 8192 in
/-- `main_call1_v88`'s composed term of the arguments (named: it is used 2 times). -/
def res_main_call1_v88 (V0 : Valuation τ sig (Elt F)) : (Proc.devRef .tc main_call1_v88 : DevRef τ sig).ty.Contents (Elt F) :=
  addi (res_main_call1_v81 V0) (res_main_call1_v87 V0)

set_option maxRecDepth 8192 in
/-- `main_call1_v94`'s composed term of the arguments (named: it is used 3 times). -/
def res_main_call1_v94 (V0 : Valuation τ sig (Elt F)) : (Proc.devRef .tc main_call1_v94 : DevRef τ sig).ty.Contents (Elt F) :=
  xori (res_main_call1_v88 V0) (ori (Host.shli (res_main_call1_v87 V0) (broadcastInDim S64x1000000 ![] bcast_S_S64x1000000 (constantI S_ 32 26#32))) (Host.shrui (res_main_call1_v87 V0) (broadcastInDim S64x1000000 ![] bcast_S_S64x1000000 (constantI S_ 32 6#32))))

set_option maxRecDepth 8192 in
/-- `main_call1_v95`'s composed term of the arguments (named: it is used 2 times). -/
def res_main_call1_v95 (V0 : Valuation τ sig (Elt F)) : (Proc.devRef .tc main_call1_v95 : DevRef τ sig).ty.Contents (Elt F) :=
  addi (res_main_call1_v88 V0) (res_main_call1_v94 V0)

set_option maxRecDepth 8192 in
/-- `main_call1_v107`'s composed term of the arguments (named: it is used 3 times). -/
def res_main_call1_v107 (V0 : Valuation τ sig (Elt F)) : (Proc.devRef .tc main_call1_v107 : DevRef τ sig).ty.Contents (Elt F) :=
  addi (addi (xori (res_main_call1_v95 V0) (ori (Host.shli (res_main_call1_v94 V0) (broadcastInDim S64x1000000 ![] bcast_S_S64x1000000 (constantI S_ 32 6#32))) (Host.shrui (res_main_call1_v94 V0) (broadcastInDim S64x1000000 ![] bcast_S_S64x1000000 (constantI S_ 32 26#32))))) (broadcastInDim S64x1000000 ![] bcast_S_S64x1000000 (res_main_v12 V0))) (broadcastInDim S64x1000000 ![] bcast_S_S64x1000000 (constantI S_ 32 3#32))

set_option maxRecDepth 8192 in
/-- `main_call1_v108`'s composed term of the arguments (named: it is used 2 times). -/
def res_main_call1_v108 (V0 : Valuation τ sig (Elt F)) : (Proc.devRef .tc main_call1_v108 : DevRef τ sig).ty.Contents (Elt F) :=
  addi (addi (res_main_call1_v95 V0) (broadcastInDim S64x1000000 ![] bcast_S_S64x1000000 (res_main_v10 V0))) (res_main_call1_v107 V0)

set_option maxRecDepth 8192 in
/-- `main_call1_v114`'s composed term of the arguments (named: it is used 3 times). -/
def res_main_call1_v114 (V0 : Valuation τ sig (Elt F)) : (Proc.devRef .tc main_call1_v114 : DevRef τ sig).ty.Contents (Elt F) :=
  xori (res_main_call1_v108 V0) (ori (Host.shli (res_main_call1_v107 V0) (broadcastInDim S64x1000000 ![] bcast_S_S64x1000000 (constantI S_ 32 17#32))) (Host.shrui (res_main_call1_v107 V0) (broadcastInDim S64x1000000 ![] bcast_S_S64x1000000 (constantI S_ 32 15#32))))

set_option maxRecDepth 8192 in
/-- `main_call1_v115`'s composed term of the arguments (named: it is used 2 times). -/
def res_main_call1_v115 (V0 : Valuation τ sig (Elt F)) : (Proc.devRef .tc main_call1_v115 : DevRef τ sig).ty.Contents (Elt F) :=
  addi (res_main_call1_v108 V0) (res_main_call1_v114 V0)

set_option maxRecDepth 8192 in
/-- `main_call1_v121`'s composed term of the arguments (named: it is used 3 times). -/
def res_main_call1_v121 (V0 : Valuation τ sig (Elt F)) : (Proc.devRef .tc main_call1_v121 : DevRef τ sig).ty.Contents (Elt F) :=
  xori (res_main_call1_v115 V0) (ori (Host.shli (res_main_call1_v114 V0) (broadcastInDim S64x1000000 ![] bcast_S_S64x1000000 (constantI S_ 32 29#32))) (Host.shrui (res_main_call1_v114 V0) (broadcastInDim S64x1000000 ![] bcast_S_S64x1000000 (constantI S_ 32 3#32))))

set_option maxRecDepth 8192 in
/-- `main_call1_v122`'s composed term of the arguments (named: it is used 2 times). -/
def res_main_call1_v122 (V0 : Valuation τ sig (Elt F)) : (Proc.devRef .tc main_call1_v122 : DevRef τ sig).ty.Contents (Elt F) :=
  addi (res_main_call1_v115 V0) (res_main_call1_v121 V0)

set_option maxRecDepth 8192 in
/-- `main_call1_v128`'s composed term of the arguments (named: it is used 3 times). -/
def res_main_call1_v128 (V0 : Valuation τ sig (Elt F)) : (Proc.devRef .tc main_call1_v128 : DevRef τ sig).ty.Contents (Elt F) :=
  xori (res_main_call1_v122 V0) (ori (Host.shli (res_main_call1_v121 V0) (broadcastInDim S64x1000000 ![] bcast_S_S64x1000000 (constantI S_ 32 16#32))) (Host.shrui (res_main_call1_v121 V0) (broadcastInDim S64x1000000 ![] bcast_S_S64x1000000 (constantI S_ 32 16#32))))

set_option maxRecDepth 8192 in
/-- `main_call1_v129`'s composed term of the arguments (named: it is used 2 times). -/
def res_main_call1_v129 (V0 : Valuation τ sig (Elt F)) : (Proc.devRef .tc main_call1_v129 : DevRef τ sig).ty.Contents (Elt F) :=
  addi (res_main_call1_v122 V0) (res_main_call1_v128 V0)

set_option maxRecDepth 8192 in
/-- `main_call1_v141`'s composed term of the arguments (named: it is used 3 times). -/
def res_main_call1_v141 (V0 : Valuation τ sig (Elt F)) : (Proc.devRef .tc main_call1_v141 : DevRef τ sig).ty.Contents (Elt F) :=
  addi (addi (xori (res_main_call1_v129 V0) (ori (Host.shli (res_main_call1_v128 V0) (broadcastInDim S64x1000000 ![] bcast_S_S64x1000000 (constantI S_ 32 24#32))) (Host.shrui (res_main_call1_v128 V0) (broadcastInDim S64x1000000 ![] bcast_S_S64x1000000 (constantI S_ 32 8#32))))) (broadcastInDim S64x1000000 ![] bcast_S_S64x1000000 (res_main_call1_v1 V0))) (broadcastInDim S64x1000000 ![] bcast_S_S64x1000000 (constantI S_ 32 4#32))

set_option maxRecDepth 8192 in
/-- `main_call1_v142`'s composed term of the arguments (named: it is used 2 times). -/
def res_main_call1_v142 (V0 : Valuation τ sig (Elt F)) : (Proc.devRef .tc main_call1_v142 : DevRef τ sig).ty.Contents (Elt F) :=
  addi (addi (res_main_call1_v129 V0) (broadcastInDim S64x1000000 ![] bcast_S_S64x1000000 (res_main_v12 V0))) (res_main_call1_v141 V0)

set_option maxRecDepth 8192 in
/-- `main_call1_v148`'s composed term of the arguments (named: it is used 3 times). -/
def res_main_call1_v148 (V0 : Valuation τ sig (Elt F)) : (Proc.devRef .tc main_call1_v148 : DevRef τ sig).ty.Contents (Elt F) :=
  xori (res_main_call1_v142 V0) (ori (Host.shli (res_main_call1_v141 V0) (broadcastInDim S64x1000000 ![] bcast_S_S64x1000000 (constantI S_ 32 13#32))) (Host.shrui (res_main_call1_v141 V0) (broadcastInDim S64x1000000 ![] bcast_S_S64x1000000 (constantI S_ 32 19#32))))

set_option maxRecDepth 8192 in
/-- `main_call1_v149`'s composed term of the arguments (named: it is used 2 times). -/
def res_main_call1_v149 (V0 : Valuation τ sig (Elt F)) : (Proc.devRef .tc main_call1_v149 : DevRef τ sig).ty.Contents (Elt F) :=
  addi (res_main_call1_v142 V0) (res_main_call1_v148 V0)

set_option maxRecDepth 8192 in
/-- `main_call1_v155`'s composed term of the arguments (named: it is used 3 times). -/
def res_main_call1_v155 (V0 : Valuation τ sig (Elt F)) : (Proc.devRef .tc main_call1_v155 : DevRef τ sig).ty.Contents (Elt F) :=
  xori (res_main_call1_v149 V0) (ori (Host.shli (res_main_call1_v148 V0) (broadcastInDim S64x1000000 ![] bcast_S_S64x1000000 (constantI S_ 32 15#32))) (Host.shrui (res_main_call1_v148 V0) (broadcastInDim S64x1000000 ![] bcast_S_S64x1000000 (constantI S_ 32 17#32))))

set_option maxRecDepth 8192 in
/-- `main_call1_v156`'s composed term of the arguments (named: it is used 2 times). -/
def res_main_call1_v156 (V0 : Valuation τ sig (Elt F)) : (Proc.devRef .tc main_call1_v156 : DevRef τ sig).ty.Contents (Elt F) :=
  addi (res_main_call1_v149 V0) (res_main_call1_v155 V0)

set_option maxRecDepth 8192 in
/-- `main_call1_v162`'s composed term of the arguments (named: it is used 3 times). -/
def res_main_call1_v162 (V0 : Valuation τ sig (Elt F)) : (Proc.devRef .tc main_call1_v162 : DevRef τ sig).ty.Contents (Elt F) :=
  xori (res_main_call1_v156 V0) (ori (Host.shli (res_main_call1_v155 V0) (broadcastInDim S64x1000000 ![] bcast_S_S64x1000000 (constantI S_ 32 26#32))) (Host.shrui (res_main_call1_v155 V0) (broadcastInDim S64x1000000 ![] bcast_S_S64x1000000 (constantI S_ 32 6#32))))

set_option maxRecDepth 8192 in
/-- `main_call1_v163`'s composed term of the arguments (named: it is used 2 times). -/
def res_main_call1_v163 (V0 : Valuation τ sig (Elt F)) : (Proc.devRef .tc main_call1_v163 : DevRef τ sig).ty.Contents (Elt F) :=
  addi (res_main_call1_v156 V0) (res_main_call1_v162 V0)

set_option maxRecDepth 8192 in
/-- `main_v39`'s composed term of the arguments (named: it is used 2 times). -/
def res_main_v39 (V0 : Valuation τ sig (Elt F)) : (Proc.devRef .tc main_v39 : DevRef τ sig).ty.Contents (Elt F) :=
  addf (Host.negf (Host.log (Host.negf (Host.log (maximumf (broadcastInDim S64x1000000 ![] bcast_S_S64x1000000 (constant S_ .f32 0x00800000#32)) (subf (bitcastToFloat (F := F) .f32 (ori (Host.shrui (xori (addi (res_main_call1_v163 V0) (broadcastInDim S64x1000000 ![] bcast_S_S64x1000000 (res_main_call1_v1 V0))) (addi (addi (xori (res_main_call1_v163 V0) (ori (Host.shli (res_main_call1_v162 V0) (broadcastInDim S64x1000000 ![] bcast_S_S64x1000000 (constantI S_ 32 6#32))) (Host.shrui (res_main_call1_v162 V0) (broadcastInDim S64x1000000 ![] bcast_S_S64x1000000 (constantI S_ 32 26#32))))) (broadcastInDim S64x1000000 ![] bcast_S_S64x1000000 (res_main_v10 V0))) (broadcastInDim S64x1000000 ![] bcast_S_S64x1000000 (constantI S_ 32 5#32)))) (broadcastInDim S64x1000000 ![] bcast_S_S64x1000000 (constantI S_ 32 9#32))) (broadcastInDim S64x1000000 ![] bcast_S_S64x1000000 (constantI S_ 32 1065353216#32)))) (broadcastInDim S64x1000000 ![] bcast_S_S64x1000000 (constant S_ .f32 0x3F800000#32)))))))) (V0 (Proc.devRef .tc main_arg0))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S64x1000000 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v41`'s composed term of the arguments (named: it is used 3 times). -/
def res_main_v41 (V0 : Valuation τ sig (Elt F)) : (Proc.devRef .tc main_v41 : DevRef τ sig).ty.Contents (Elt F) :=
  broadcastInDim S64x1 ![0] bcast_S64_S64x1_0 (argMaxPart2 (res_main_v39 V0) (res_main_call2_v0 V0) (res_main_call2_cst V0) (res_main_call2_c V0))

set_option maxRecDepth 8192 in
/-- `main_call3_v5`'s composed term of the arguments (named: it is used 3 times). -/
def res_main_call3_v5 (V0 : Valuation τ sig (Elt F)) : (Proc.devRef .tc main_call3_v5 : DevRef τ sig).ty.Contents (Elt F) :=
  shapeCast _ (select (cmpi .slt (res_main_v41 V0) (broadcastInDim S64x1 ![] bcast_S_S64x1 (constantI S_ 32 0#32))) (addi (res_main_v41 V0) (broadcastInDim S64x1 ![] bcast_S_S64x1 (constantI S_ 32 1000000#32))) (res_main_v41 V0)) shapeCasts_S64x1_S64x1x1

/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0, main_v1, main_c, main_c_0, main_v2, main_v3, main_v4, main_c_1, main_v5, main_v6, main_v7, main_v8, main_v9, main_v10, main_v11, main_v12]
set_option maxRecDepth 8192 in
theorem ops_0_writes : (ops_0 : List (HloOp τ sig (Elt F))).Forall fun op => op.writes ⊆ (ops_0_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_0, TRef.binary, TRef.nullary, TRef.unary, TRef.toBuf, TRef.ofBuf, cast_eq]
  after_results_simp
  simp only [val0_main_arg0] <;> rfl
set_option maxRecDepth 8192 in
set_option maxHeartbeats 2000000 in
theorem val0_1_main_v1 (V0 : Valuation τ sig (Elt F)) : val0_1 V0 (no_index (Proc.devRef .tc main_v1)) = Host.exp (res_main_v0 V0) := by
  unfold val0_1
  simp only [ops_0, TRef.binary, TRef.nullary, TRef.unary, TRef.toBuf, TRef.ofBuf, cast_eq]
  after_results_simp
  simp only [val0_main_arg0] <;> rfl
set_option maxRecDepth 8192 in
set_option maxHeartbeats 2000000 in
theorem val0_1_main_v10 (V0 : Valuation τ sig (Elt F)) : val0_1 V0 (no_index (Proc.devRef .tc main_v10)) = res_main_v10 V0 := by
  unfold val0_1
  simp only [ops_0, TRef.binary, TRef.nullary, TRef.unary, TRef.toBuf, TRef.ofBuf, cast_eq]
  after_results_simp
  all_goals rfl
set_option maxRecDepth 8192 in
set_option maxHeartbeats 2000000 in
theorem val0_1_main_v12 (V0 : Valuation τ sig (Elt F)) : val0_1 V0 (no_index (Proc.devRef .tc main_v12)) = res_main_v12 V0 := by
  unfold val0_1
  simp only [ops_0, TRef.binary, TRef.nullary, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_v13, main_v14, main_c_2, main_v15, main_v16, main_c_3, main_v17, main_v18, main_v19, main_c_4, main_v20, main_v21, main_v22, main_v23, main_call1_v0, main_call1_c, main_call1_v1, main_call1_v2, main_call1_v3, main_call1_v4, main_call1_v5, main_call1_v6, main_call1_c_0, main_call1_v7, main_call1_v8, main_call1_c_1, main_call1_v9, main_call1_v10, main_call1_v11, main_call1_v12]
set_option maxRecDepth 8192 in
theorem ops_1_writes : (ops_1 : List (HloOp τ sig (Elt F))).Forall fun op => op.writes ⊆ (ops_1_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_v0 (V0 : Valuation τ sig (Elt F)) : val0_2 V0 (no_index (Proc.devRef .tc main_v0)) = res_main_v0 V0 :=
  (val0_2_keep V0 main_v0 (by decide)).trans (val0_1_main_v0 V0)
theorem val0_2_main_v1 (V0 : Valuation τ sig (Elt F)) : val0_2 V0 (no_index (Proc.devRef .tc main_v1)) = Host.exp (res_main_v0 V0) :=
  (val0_2_keep V0 main_v1 (by decide)).trans (val0_1_main_v1 V0)
theorem val0_2_main_v10 (V0 : Valuation τ sig (Elt F)) : val0_2 V0 (no_index (Proc.devRef .tc main_v10)) = res_main_v10 V0 :=
  (val0_2_keep V0 main_v10 (by decide)).trans (val0_1_main_v10 V0)
theorem val0_2_main_v12 (V0 : Valuation τ sig (Elt F)) : val0_2 V0 (no_index (Proc.devRef .tc main_v12)) = res_main_v12 V0 :=
  (val0_2_keep V0 main_v12 (by decide)).trans (val0_1_main_v12 V0)
set_option maxRecDepth 8192 in
set_option maxHeartbeats 2000000 in
theorem val0_2_main_call1_v1 (V0 : Valuation τ sig (Elt F)) : val0_2 V0 (no_index (Proc.devRef .tc main_call1_v1)) = res_main_call1_v1 V0 := by
  unfold val0_2
  simp only [ops_1, TRef.binary, TRef.nullary, TRef.unary, TRef.toBuf, TRef.ofBuf, cast_eq]
  after_results_simp
  simp only [val0_1_main_v12, val0_1_main_v10] <;> rfl
set_option maxRecDepth 8192 in
set_option maxHeartbeats 2000000 in
theorem val0_2_main_call1_v6 (V0 : Valuation τ sig (Elt F)) : val0_2 V0 (no_index (Proc.devRef .tc main_call1_v6)) = res_main_call1_v6 V0 := by
  unfold val0_2
  simp only [ops_1, TRef.binary, TRef.nullary, TRef.unary, TRef.toBuf, TRef.ofBuf, cast_eq]
  after_results_simp
  simp only [val0_1_main_v12, val0_1_main_v10] <;> rfl
set_option maxRecDepth 8192 in
set_option maxHeartbeats 2000000 in
theorem val0_2_main_call1_v12 (V0 : Valuation τ sig (Elt F)) : val0_2 V0 (no_index (Proc.devRef .tc main_call1_v12)) = res_main_call1_v12 V0 := by
  unfold val0_2
  simp only [ops_1, TRef.binary, TRef.nullary, TRef.unary, TRef.toBuf, TRef.ofBuf, cast_eq]
  after_results_simp
  simp only [val0_1_main_v12, val0_1_main_v10] <;> rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call1_v13, main_call1_c_2, main_call1_v14, main_call1_v15, main_call1_c_3, main_call1_v16, main_call1_v17, main_call1_v18, main_call1_v19, main_call1_v20, main_call1_c_4, main_call1_v21, main_call1_v22, main_call1_c_5, main_call1_v23, main_call1_v24, main_call1_v25, main_call1_v26, main_call1_v27, main_call1_c_6, main_call1_v28, main_call1_v29, main_call1_c_7, main_call1_v30, main_call1_v31, main_call1_v32, main_call1_v33, main_call1_v34, main_call1_v35, main_call1_v36]
set_option maxRecDepth 8192 in
theorem ops_2_writes : (ops_2 : List (HloOp τ sig (Elt F))).Forall fun op => op.writes ⊆ (ops_2_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_v0 (V0 : Valuation τ sig (Elt F)) : val0_3 V0 (no_index (Proc.devRef .tc main_v0)) = res_main_v0 V0 :=
  (val0_3_keep V0 main_v0 (by decide)).trans (val0_2_main_v0 V0)
theorem val0_3_main_v1 (V0 : Valuation τ sig (Elt F)) : val0_3 V0 (no_index (Proc.devRef .tc main_v1)) = Host.exp (res_main_v0 V0) :=
  (val0_3_keep V0 main_v1 (by decide)).trans (val0_2_main_v1 V0)
theorem val0_3_main_v10 (V0 : Valuation τ sig (Elt F)) : val0_3 V0 (no_index (Proc.devRef .tc main_v10)) = res_main_v10 V0 :=
  (val0_3_keep V0 main_v10 (by decide)).trans (val0_2_main_v10 V0)
theorem val0_3_main_v12 (V0 : Valuation τ sig (Elt F)) : val0_3 V0 (no_index (Proc.devRef .tc main_v12)) = res_main_v12 V0 :=
  (val0_3_keep V0 main_v12 (by decide)).trans (val0_2_main_v12 V0)
theorem val0_3_main_call1_v1 (V0 : Valuation τ sig (Elt F)) : val0_3 V0 (no_index (Proc.devRef .tc main_call1_v1)) = res_main_call1_v1 V0 :=
  (val0_3_keep V0 main_call1_v1 (by decide)).trans (val0_2_main_call1_v1 V0)
set_option maxRecDepth 8192 in
set_option maxHeartbeats 2000000 in
theorem val0_3_main_call1_v33 (V0 : Valuation τ sig (Elt F)) : val0_3 V0 (no_index (Proc.devRef .tc main_call1_v33)) = xori (res_main_call1_v27 V0) (ori (Host.shli (res_main_call1_v26 V0) (broadcastInDim S64x1000000 ![] bcast_S_S64x1000000 (constantI S_ 32 6#32))) (Host.shrui (res_main_call1_v26 V0) (broadcastInDim S64x1000000 ![] bcast_S_S64x1000000 (constantI S_ 32 26#32)))) := by
  unfold val0_3
  simp only [ops_2, TRef.binary, TRef.nullary, TRef.unary, TRef.toBuf, TRef.ofBuf, cast_eq]
  after_results_simp
  simp only [val0_2_main_call1_v12, val0_2_main_call1_v6] <;> rfl
set_option maxRecDepth 8192 in
set_option maxHeartbeats 2000000 in
theorem val0_3_main_call1_v35 (V0 : Valuation τ sig (Elt F)) : val0_3 V0 (no_index (Proc.devRef .tc main_call1_v35)) = addi (res_main_call1_v27 V0) (broadcastInDim S64x1000000 ![] bcast_S_S64x1000000 (res_main_v12 V0)) := by
  unfold val0_3
  simp only [ops_2, TRef.binary, TRef.nullary, TRef.unary, TRef.toBuf, TRef.ofBuf, cast_eq]
  after_results_simp
  simp only [val0_2_main_v12, val0_2_main_call1_v12, val0_2_main_call1_v6] <;> rfl
set_option maxRecDepth 8192 in
set_option maxHeartbeats 2000000 in
theorem val0_3_main_call1_v36 (V0 : Valuation τ sig (Elt F)) : val0_3 V0 (no_index (Proc.devRef .tc main_call1_v36)) = broadcastInDim S64x1000000 ![] bcast_S_S64x1000000 (res_main_call1_v1 V0) := by
  unfold val0_3
  simp only [ops_2, TRef.binary, TRef.nullary, TRef.unary, TRef.toBuf, TRef.ofBuf, cast_eq]
  after_results_simp
  simp only [val0_2_main_call1_v1] <;> rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call1_v37, main_call1_c_8, main_call1_v38, main_call1_v39, main_call1_v40, main_call1_c_9, main_call1_v41, main_call1_v42, main_call1_c_10, main_call1_v43, main_call1_v44, main_call1_v45, main_call1_v46, main_call1_v47, main_call1_c_11, main_call1_v48, main_call1_v49, main_call1_c_12, main_call1_v50, main_call1_v51, main_call1_v52, main_call1_v53, main_call1_v54, main_call1_c_13, main_call1_v55, main_call1_v56, main_call1_c_14, main_call1_v57, main_call1_v58, main_call1_v59]
set_option maxRecDepth 8192 in
theorem ops_3_writes : (ops_3 : List (HloOp τ sig (Elt F))).Forall fun op => op.writes ⊆ (ops_3_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_v0 (V0 : Valuation τ sig (Elt F)) : val0_4 V0 (no_index (Proc.devRef .tc main_v0)) = res_main_v0 V0 :=
  (val0_4_keep V0 main_v0 (by decide)).trans (val0_3_main_v0 V0)
theorem val0_4_main_v1 (V0 : Valuation τ sig (Elt F)) : val0_4 V0 (no_index (Proc.devRef .tc main_v1)) = Host.exp (res_main_v0 V0) :=
  (val0_4_keep V0 main_v1 (by decide)).trans (val0_3_main_v1 V0)
theorem val0_4_main_v10 (V0 : Valuation τ sig (Elt F)) : val0_4 V0 (no_index (Proc.devRef .tc main_v10)) = res_main_v10 V0 :=
  (val0_4_keep V0 main_v10 (by decide)).trans (val0_3_main_v10 V0)
theorem val0_4_main_v12 (V0 : Valuation τ sig (Elt F)) : val0_4 V0 (no_index (Proc.devRef .tc main_v12)) = res_main_v12 V0 :=
  (val0_4_keep V0 main_v12 (by decide)).trans (val0_3_main_v12 V0)
theorem val0_4_main_call1_v1 (V0 : Valuation τ sig (Elt F)) : val0_4 V0 (no_index (Proc.devRef .tc main_call1_v1)) = res_main_call1_v1 V0 :=
  (val0_4_keep V0 main_call1_v1 (by decide)).trans (val0_3_main_call1_v1 V0)
set_option maxRecDepth 8192 in
set_option maxHeartbeats 2000000 in
theorem val0_4_main_call1_v54 (V0 : Valuation τ sig (Elt F)) : val0_4 V0 (no_index (Proc.devRef .tc main_call1_v54)) = res_main_call1_v54 V0 := by
  unfold val0_4
  simp only [ops_3, TRef.binary, TRef.nullary, TRef.unary, TRef.toBuf, TRef.ofBuf, cast_eq]
  after_results_simp
  simp only [val0_3_main_call1_v36, val0_3_main_call1_v33, val0_3_main_call1_v35] <;> rfl
set_option maxRecDepth 8192 in
set_option maxHeartbeats 2000000 in
theorem val0_4_main_call1_v59 (V0 : Valuation τ sig (Elt F)) : val0_4 V0 (no_index (Proc.devRef .tc main_call1_v59)) = ori (Host.shli (res_main_call1_v53 V0) (broadcastInDim S64x1000000 ![] bcast_S_S64x1000000 (constantI S_ 32 16#32))) (Host.shrui (res_main_call1_v53 V0) (broadcastInDim S64x1000000 ![] bcast_S_S64x1000000 (constantI S_ 32 16#32))) := by
  unfold val0_4
  simp only [ops_3, TRef.binary, TRef.nullary, TRef.unary, TRef.toBuf, TRef.ofBuf, cast_eq]
  after_results_simp
  simp only [val0_3_main_call1_v36, val0_3_main_call1_v33, val0_3_main_call1_v35] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call1_v60, main_call1_v61, main_call1_c_15, main_call1_v62, main_call1_v63, main_call1_c_16, main_call1_v64, main_call1_v65, main_call1_v66, main_call1_v67, main_call1_v68, main_call1_v69, main_call1_v70, main_call1_v71, main_call1_c_17, main_call1_v72, main_call1_v73, main_call1_v74, main_call1_c_18, main_call1_v75, main_call1_v76, main_call1_c_19, main_call1_v77, main_call1_v78, main_call1_v79, main_call1_v80, main_call1_v81, main_call1_c_20, main_call1_v82, main_call1_v83]
set_option maxRecDepth 8192 in
theorem ops_4_writes : (ops_4 : List (HloOp τ sig (Elt F))).Forall fun op => op.writes ⊆ (ops_4_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_v0 (V0 : Valuation τ sig (Elt F)) : val0_5 V0 (no_index (Proc.devRef .tc main_v0)) = res_main_v0 V0 :=
  (val0_5_keep V0 main_v0 (by decide)).trans (val0_4_main_v0 V0)
theorem val0_5_main_v1 (V0 : Valuation τ sig (Elt F)) : val0_5 V0 (no_index (Proc.devRef .tc main_v1)) = Host.exp (res_main_v0 V0) :=
  (val0_5_keep V0 main_v1 (by decide)).trans (val0_4_main_v1 V0)
theorem val0_5_main_v10 (V0 : Valuation τ sig (Elt F)) : val0_5 V0 (no_index (Proc.devRef .tc main_v10)) = res_main_v10 V0 :=
  (val0_5_keep V0 main_v10 (by decide)).trans (val0_4_main_v10 V0)
theorem val0_5_main_v12 (V0 : Valuation τ sig (Elt F)) : val0_5 V0 (no_index (Proc.devRef .tc main_v12)) = res_main_v12 V0 :=
  (val0_5_keep V0 main_v12 (by decide)).trans (val0_4_main_v12 V0)
theorem val0_5_main_call1_v1 (V0 : Valuation τ sig (Elt F)) : val0_5 V0 (no_index (Proc.devRef .tc main_call1_v1)) = res_main_call1_v1 V0 :=
  (val0_5_keep V0 main_call1_v1 (by decide)).trans (val0_4_main_call1_v1 V0)
set_option maxRecDepth 8192 in
set_option maxHeartbeats 2000000 in
theorem val0_5_main_call1_v80 (V0 : Valuation τ sig (Elt F)) : val0_5 V0 (no_index (Proc.devRef .tc main_call1_v80)) = res_main_call1_v80 V0 := by
  unfold val0_5
  simp only [ops_4, TRef.binary, TRef.nullary, TRef.unary, TRef.toBuf, TRef.ofBuf, cast_eq]
  after_results_simp
  simp only [val0_4_main_v10, val0_4_main_call1_v59, val0_4_main_call1_v54, val0_4_main_call1_v1] <;> rfl
set_option maxRecDepth 8192 in
set_option maxHeartbeats 2000000 in
theorem val0_5_main_call1_v81 (V0 : Valuation τ sig (Elt F)) : val0_5 V0 (no_index (Proc.devRef .tc main_call1_v81)) = res_main_call1_v81 V0 := by
  unfold val0_5
  simp only [ops_4, TRef.binary, TRef.nullary, TRef.unary, TRef.toBuf, TRef.ofBuf, cast_eq]
  after_results_simp
  simp only [val0_4_main_v10, val0_4_main_call1_v59, val0_4_main_call1_v54, val0_4_main_call1_v1] <;> rfl
set_option maxRecDepth 8192 in
set_option maxHeartbeats 2000000 in
theorem val0_5_main_call1_v83 (V0 : Valuation τ sig (Elt F)) : val0_5 V0 (no_index (Proc.devRef .tc main_call1_v83)) = Host.shli (res_main_call1_v80 V0) (broadcastInDim S64x1000000 ![] bcast_S_S64x1000000 (constantI S_ 32 15#32)) := by
  unfold val0_5
  simp only [ops_4, TRef.binary, TRef.nullary, TRef.unary, TRef.toBuf, TRef.ofBuf, cast_eq]
  after_results_simp
  simp only [val0_4_main_v10, val0_4_main_call1_v59, val0_4_main_call1_v54, val0_4_main_call1_v1] <;> rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call1_c_21, main_call1_v84, main_call1_v85, main_call1_v86, main_call1_v87, main_call1_v88, main_call1_c_22, main_call1_v89, main_call1_v90, main_call1_c_23, main_call1_v91, main_call1_v92, main_call1_v93, main_call1_v94, main_call1_v95, main_call1_c_24, main_call1_v96, main_call1_v97, main_call1_c_25, main_call1_v98, main_call1_v99, main_call1_v100, main_call1_v101, main_call1_v102, main_call1_v103, main_call1_v104, main_call1_v105, main_call1_c_26, main_call1_v106, main_call1_v107]
set_option maxRecDepth 8192 in
theorem ops_5_writes : (ops_5 : List (HloOp τ sig (Elt F))).Forall fun op => op.writes ⊆ (ops_5_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_v0 (V0 : Valuation τ sig (Elt F)) : val0_6 V0 (no_index (Proc.devRef .tc main_v0)) = res_main_v0 V0 :=
  (val0_6_keep V0 main_v0 (by decide)).trans (val0_5_main_v0 V0)
theorem val0_6_main_v1 (V0 : Valuation τ sig (Elt F)) : val0_6 V0 (no_index (Proc.devRef .tc main_v1)) = Host.exp (res_main_v0 V0) :=
  (val0_6_keep V0 main_v1 (by decide)).trans (val0_5_main_v1 V0)
theorem val0_6_main_v10 (V0 : Valuation τ sig (Elt F)) : val0_6 V0 (no_index (Proc.devRef .tc main_v10)) = res_main_v10 V0 :=
  (val0_6_keep V0 main_v10 (by decide)).trans (val0_5_main_v10 V0)
theorem val0_6_main_v12 (V0 : Valuation τ sig (Elt F)) : val0_6 V0 (no_index (Proc.devRef .tc main_v12)) = res_main_v12 V0 :=
  (val0_6_keep V0 main_v12 (by decide)).trans (val0_5_main_v12 V0)
theorem val0_6_main_call1_v1 (V0 : Valuation τ sig (Elt F)) : val0_6 V0 (no_index (Proc.devRef .tc main_call1_v1)) = res_main_call1_v1 V0 :=
  (val0_6_keep V0 main_call1_v1 (by decide)).trans (val0_5_main_call1_v1 V0)
set_option maxRecDepth 8192 in
set_option maxHeartbeats 2000000 in
theorem val0_6_main_call1_v103 (V0 : Valuation τ sig (Elt F)) : val0_6 V0 (no_index (Proc.devRef .tc main_call1_v103)) = addi (res_main_call1_v95 V0) (broadcastInDim S64x1000000 ![] bcast_S_S64x1000000 (res_main_v10 V0)) := by
  unfold val0_6
  simp only [ops_5, TRef.binary, TRef.nullary, TRef.unary, TRef.toBuf, TRef.ofBuf, cast_eq]
  after_results_simp
  simp only [val0_5_main_v10, val0_5_main_call1_v80, val0_5_main_call1_v83, val0_5_main_call1_v81] <;> rfl
set_option maxRecDepth 8192 in
set_option maxHeartbeats 2000000 in
theorem val0_6_main_call1_v107 (V0 : Valuation τ sig (Elt F)) : val0_6 V0 (no_index (Proc.devRef .tc main_call1_v107)) = res_main_call1_v107 V0 := by
  unfold val0_6
  simp only [ops_5, TRef.binary, TRef.nullary, TRef.unary, TRef.toBuf, TRef.ofBuf, cast_eq]
  after_results_simp
  simp only [val0_5_main_v12, val0_5_main_call1_v80, val0_5_main_call1_v83, val0_5_main_call1_v81] <;> rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call1_v108, main_call1_c_27, main_call1_v109, main_call1_v110, main_call1_c_28, main_call1_v111, main_call1_v112, main_call1_v113, main_call1_v114, main_call1_v115, main_call1_c_29, main_call1_v116, main_call1_v117, main_call1_c_30, main_call1_v118, main_call1_v119, main_call1_v120, main_call1_v121, main_call1_v122, main_call1_c_31, main_call1_v123, main_call1_v124, main_call1_c_32, main_call1_v125, main_call1_v126, main_call1_v127, main_call1_v128, main_call1_v129, main_call1_c_33, main_call1_v130]
set_option maxRecDepth 8192 in
theorem ops_6_writes : (ops_6 : List (HloOp τ sig (Elt F))).Forall fun op => op.writes ⊆ (ops_6_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_v0 (V0 : Valuation τ sig (Elt F)) : val0_7 V0 (no_index (Proc.devRef .tc main_v0)) = res_main_v0 V0 :=
  (val0_7_keep V0 main_v0 (by decide)).trans (val0_6_main_v0 V0)
theorem val0_7_main_v1 (V0 : Valuation τ sig (Elt F)) : val0_7 V0 (no_index (Proc.devRef .tc main_v1)) = Host.exp (res_main_v0 V0) :=
  (val0_7_keep V0 main_v1 (by decide)).trans (val0_6_main_v1 V0)
theorem val0_7_main_v10 (V0 : Valuation τ sig (Elt F)) : val0_7 V0 (no_index (Proc.devRef .tc main_v10)) = res_main_v10 V0 :=
  (val0_7_keep V0 main_v10 (by decide)).trans (val0_6_main_v10 V0)
theorem val0_7_main_v12 (V0 : Valuation τ sig (Elt F)) : val0_7 V0 (no_index (Proc.devRef .tc main_v12)) = res_main_v12 V0 :=
  (val0_7_keep V0 main_v12 (by decide)).trans (val0_6_main_v12 V0)
theorem val0_7_main_call1_v1 (V0 : Valuation τ sig (Elt F)) : val0_7 V0 (no_index (Proc.devRef .tc main_call1_v1)) = res_main_call1_v1 V0 :=
  (val0_7_keep V0 main_call1_v1 (by decide)).trans (val0_6_main_call1_v1 V0)
set_option maxRecDepth 8192 in
set_option maxHeartbeats 2000000 in
theorem val0_7_main_call1_v128 (V0 : Valuation τ sig (Elt F)) : val0_7 V0 (no_index (Proc.devRef .tc main_call1_v128)) = res_main_call1_v128 V0 := by
  unfold val0_7
  simp only [ops_6, TRef.binary, TRef.nullary, TRef.unary, TRef.toBuf, TRef.ofBuf, cast_eq]
  after_results_simp
  simp only [val0_6_main_call1_v107, val0_6_main_call1_v103] <;> rfl
set_option maxRecDepth 8192 in
set_option maxHeartbeats 2000000 in
theorem val0_7_main_call1_v129 (V0 : Valuation τ sig (Elt F)) : val0_7 V0 (no_index (Proc.devRef .tc main_call1_v129)) = res_main_call1_v129 V0 := by
  unfold val0_7
  simp only [ops_6, TRef.binary, TRef.nullary, TRef.unary, TRef.toBuf, TRef.ofBuf, cast_eq]
  after_results_simp
  simp only [val0_6_main_call1_v107, val0_6_main_call1_v103] <;> rfl
set_option maxRecDepth 8192 in
set_option maxHeartbeats 2000000 in
theorem val0_7_main_call1_v130 (V0 : Valuation τ sig (Elt F)) : val0_7 V0 (no_index (Proc.devRef .tc main_call1_v130)) = broadcastInDim S64x1000000 ![] bcast_S_S64x1000000 (constantI S_ 32 24#32) := by
  unfold val0_7
  simp only [ops_6, TRef.binary, TRef.nullary, TRef.unary, TRef.toBuf, TRef.ofBuf, cast_eq]
  after_results_simp
  all_goals rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call1_v131, main_call1_c_34, main_call1_v132, main_call1_v133, main_call1_v134, main_call1_v135, main_call1_v136, main_call1_v137, main_call1_v138, main_call1_v139, main_call1_c_35, main_call1_v140, main_call1_v141, main_call1_v142, main_call1_c_36, main_call1_v143, main_call1_v144, main_call1_c_37, main_call1_v145, main_call1_v146, main_call1_v147, main_call1_v148, main_call1_v149, main_call1_c_38, main_call1_v150, main_call1_v151, main_call1_c_39, main_call1_v152, main_call1_v153, main_call1_v154]
set_option maxRecDepth 8192 in
theorem ops_7_writes : (ops_7 : List (HloOp τ sig (Elt F))).Forall fun op => op.writes ⊆ (ops_7_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_v0 (V0 : Valuation τ sig (Elt F)) : val0_8 V0 (no_index (Proc.devRef .tc main_v0)) = res_main_v0 V0 :=
  (val0_8_keep V0 main_v0 (by decide)).trans (val0_7_main_v0 V0)
theorem val0_8_main_v1 (V0 : Valuation τ sig (Elt F)) : val0_8 V0 (no_index (Proc.devRef .tc main_v1)) = Host.exp (res_main_v0 V0) :=
  (val0_8_keep V0 main_v1 (by decide)).trans (val0_7_main_v1 V0)
theorem val0_8_main_v10 (V0 : Valuation τ sig (Elt F)) : val0_8 V0 (no_index (Proc.devRef .tc main_v10)) = res_main_v10 V0 :=
  (val0_8_keep V0 main_v10 (by decide)).trans (val0_7_main_v10 V0)
theorem val0_8_main_call1_v1 (V0 : Valuation τ sig (Elt F)) : val0_8 V0 (no_index (Proc.devRef .tc main_call1_v1)) = res_main_call1_v1 V0 :=
  (val0_8_keep V0 main_call1_v1 (by decide)).trans (val0_7_main_call1_v1 V0)
set_option maxRecDepth 8192 in
set_option maxHeartbeats 2000000 in
theorem val0_8_main_call1_v149 (V0 : Valuation τ sig (Elt F)) : val0_8 V0 (no_index (Proc.devRef .tc main_call1_v149)) = res_main_call1_v149 V0 := by
  unfold val0_8
  simp only [ops_7, TRef.binary, TRef.nullary, TRef.unary, TRef.toBuf, TRef.ofBuf, cast_eq]
  after_results_simp
  simp only [val0_7_main_call1_v1, val0_7_main_call1_v128, val0_7_main_call1_v130, val0_7_main_call1_v129, val0_7_main_v12] <;> rfl
set_option maxRecDepth 8192 in
set_option maxHeartbeats 2000000 in
theorem val0_8_main_call1_v154 (V0 : Valuation τ sig (Elt F)) : val0_8 V0 (no_index (Proc.devRef .tc main_call1_v154)) = ori (Host.shli (res_main_call1_v148 V0) (broadcastInDim S64x1000000 ![] bcast_S_S64x1000000 (constantI S_ 32 15#32))) (Host.shrui (res_main_call1_v148 V0) (broadcastInDim S64x1000000 ![] bcast_S_S64x1000000 (constantI S_ 32 17#32))) := by
  unfold val0_8
  simp only [ops_7, TRef.binary, TRef.nullary, TRef.unary, TRef.toBuf, TRef.ofBuf, cast_eq]
  after_results_simp
  simp only [val0_7_main_call1_v1, val0_7_main_call1_v128, val0_7_main_call1_v130, val0_7_main_call1_v129, val0_7_main_v12] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call1_v155, main_call1_v156, main_call1_c_40, main_call1_v157, main_call1_v158, main_call1_c_41, main_call1_v159, main_call1_v160, main_call1_v161, main_call1_v162, main_call1_v163, main_call1_c_42, main_call1_v164, main_call1_v165, main_call1_c_43, main_call1_v166, main_call1_v167, main_call1_v168, main_call1_v169, main_call1_v170, main_v24_0, main_call1_v172, main_call1_v173, main_call1_c_44, main_call1_v174, main_v24_1, main_v25, main_c_5, main_v26, main_v27]
set_option maxRecDepth 8192 in
theorem ops_8_writes : (ops_8 : List (HloOp τ sig (Elt F))).Forall fun op => op.writes ⊆ (ops_8_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_v0 (V0 : Valuation τ sig (Elt F)) : val0_9 V0 (no_index (Proc.devRef .tc main_v0)) = res_main_v0 V0 :=
  (val0_9_keep V0 main_v0 (by decide)).trans (val0_8_main_v0 V0)
theorem val0_9_main_v1 (V0 : Valuation τ sig (Elt F)) : val0_9 V0 (no_index (Proc.devRef .tc main_v1)) = Host.exp (res_main_v0 V0) :=
  (val0_9_keep V0 main_v1 (by decide)).trans (val0_8_main_v1 V0)
set_option maxRecDepth 8192 in
set_option maxHeartbeats 2000000 in
theorem val0_9_main_v27 (V0 : Valuation τ sig (Elt F)) : val0_9 V0 (no_index (Proc.devRef .tc main_v27)) = Host.shrui (xori (addi (res_main_call1_v163 V0) (broadcastInDim S64x1000000 ![] bcast_S_S64x1000000 (res_main_call1_v1 V0))) (addi (addi (xori (res_main_call1_v163 V0) (ori (Host.shli (res_main_call1_v162 V0) (broadcastInDim S64x1000000 ![] bcast_S_S64x1000000 (constantI S_ 32 6#32))) (Host.shrui (res_main_call1_v162 V0) (broadcastInDim S64x1000000 ![] bcast_S_S64x1000000 (constantI S_ 32 26#32))))) (broadcastInDim S64x1000000 ![] bcast_S_S64x1000000 (res_main_v10 V0))) (broadcastInDim S64x1000000 ![] bcast_S_S64x1000000 (constantI S_ 32 5#32)))) (broadcastInDim S64x1000000 ![] bcast_S_S64x1000000 (constantI S_ 32 9#32)) := by
  unfold val0_9
  simp only [ops_8, TRef.binary, TRef.nullary, TRef.unary, TRef.toBuf, TRef.ofBuf, cast_eq]
  after_results_simp
  simp only [val0_8_main_v10, val0_8_main_call1_v154, val0_8_main_call1_v149, val0_8_main_call1_v1] <;> rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_c_6, main_v28, main_v29, main_v30, main_cst, main_v31, main_v32, main_cst_7, main_v33, main_v34, main_v35, main_v36, main_v37, main_v38, main_v39, main_call2_v0, main_call2_cst, main_call2_c, main_call2_v1_0, main_v40, main_v41, main_call3_c, main_call3_v0, main_call3_v1, main_call3_c_0, main_call3_v2, main_call3_v3, main_call3_v4, main_call3_v5, main_call3_c_1]
set_option maxRecDepth 8192 in
theorem ops_9_writes : (ops_9 : List (HloOp τ sig (Elt F))).Forall fun op => op.writes ⊆ (ops_9_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_v0 (V0 : Valuation τ sig (Elt F)) : val0_10 V0 (no_index (Proc.devRef .tc main_v0)) = res_main_v0 V0 :=
  (val0_10_keep V0 main_v0 (by decide)).trans (val0_9_main_v0 V0)
theorem val0_10_main_v1 (V0 : Valuation τ sig (Elt F)) : val0_10 V0 (no_index (Proc.devRef .tc main_v1)) = Host.exp (res_main_v0 V0) :=
  (val0_10_keep V0 main_v1 (by decide)).trans (val0_9_main_v1 V0)
set_option maxRecDepth 8192 in
set_option maxHeartbeats 2000000 in
theorem val0_10_main_v40 (V0 : Valuation τ sig (Elt F)) : val0_10 V0 (no_index (Proc.devRef .tc main_v40)) = argMaxPart2 (res_main_v39 V0) (res_main_call2_v0 V0) (res_main_call2_cst V0) (res_main_call2_c V0) := by
  unfold val0_10
  simp only [ops_9, TRef.binary, TRef.nullary, TRef.quaternary, TRef.reshape, TRef.ternary, TRef.unary, TRef.toBuf, TRef.ofBuf, cast_eq]
  after_results_simp
  simp only [val0_9_main_arg0, val0_9_main_v27] <;> rfl
set_option maxRecDepth 8192 in
set_option maxHeartbeats 2000000 in
theorem val0_10_main_call3_v5 (V0 : Valuation τ sig (Elt F)) : val0_10 V0 (no_index (Proc.devRef .tc main_call3_v5)) = res_main_call3_v5 V0 := by
  unfold val0_10
  simp only [ops_9, TRef.binary, TRef.nullary, TRef.quaternary, TRef.reshape, TRef.ternary, TRef.unary, TRef.toBuf, TRef.ofBuf, cast_eq]
  after_results_simp
  simp only [val0_9_main_arg0, val0_9_main_v27] <;> rfl
set_option maxRecDepth 8192 in
set_option maxHeartbeats 2000000 in
theorem val0_10_main_call3_c_1 (V0 : Valuation τ sig (Elt F)) : val0_10 V0 (no_index (Proc.devRef .tc main_call3_c_1)) = constantI S1 32 999999#32 := by
  unfold val0_10
  simp only [ops_9, TRef.binary, TRef.nullary, TRef.quaternary, TRef.reshape, TRef.ternary, TRef.unary, TRef.toBuf, TRef.ofBuf, cast_eq]
  after_results_simp
  all_goals rfl

/-- The device's buffer contents after @main's 318 operations. -/
def val1 (V0 : Valuation τ sig (Elt F)) : Valuation τ sig (Elt F) := after ops_10 (val0_10 V0)
/-- The buffers that window `ops_10`'s operations write. -/
abbrev ops_10_W : List (Ref sig .tc) := [main_call3_c_2, main_call3_v6, main_call3_v7, main_call3_v8, main_call3_v9, main_call3_v10, main_call3_v11, main_call3_c_3, main_call3_v12, main_call3_v13, main_call3_cst, main_call3_v14, main_v42, main_v43, main_v44, main_cst_8, main_v45, main_v46]
set_option maxRecDepth 8192 in
theorem ops_10_writes : (ops_10 : List (HloOp τ sig (Elt F))).Forall fun op => op.writes ⊆ (ops_10_W.map (Proc.devRef (τ := τ) .tc)).toFinset := by
  simp only [List.Forall]
  and_intros <;> (simp only [nullary_writes, unary_writes, binary_writes, ternary_writes, quaternary_writes, reshape_writes, Finset.singleton_subset_iff, List.mem_toFinset]; exact List.mem_map_of_mem (by decide))
/-- A buffer that window `ops_10` does not write keeps its contents through it. -/
theorem val1_keep (V0 : Valuation τ sig (Elt F)) (r : Ref sig .tc) (h : r ∉ ops_10_W) :
    val1 V0 (Proc.devRef .tc r) = val0_10 V0 (Proc.devRef .tc r) :=
  after_of_writes_sub ops_10 _ ops_10_writes h
theorem val1_main_arg0 (V0 : Valuation τ sig (Elt F)) : val1 V0 (no_index (Proc.devRef .tc main_arg0)) = V0 (Proc.devRef .tc main_arg0) :=
  (val1_keep V0 main_arg0 (by decide)).trans (val0_10_main_arg0 V0)
theorem val1_main_v40 (V0 : Valuation τ sig (Elt F)) : val1 V0 (no_index (Proc.devRef .tc main_v40)) = argMaxPart2 (res_main_v39 V0) (res_main_call2_v0 V0) (res_main_call2_cst V0) (res_main_call2_c V0) :=
  (val1_keep V0 main_v40 (by decide)).trans (val0_10_main_v40 V0)
set_option maxRecDepth 8192 in
set_option maxHeartbeats 1800000 in
theorem val1_main_v43 (V0 : Valuation τ sig (Elt F)) : val1 V0 (no_index (Proc.devRef .tc main_v43)) = shapeCast _ (select (Host.reduce IntOp.andi (andi (cmpi .sge (res_main_call3_v5 V0) (broadcastInDim S64x1x1 ![] bcast_S_S64x1x1 (constantI S_ 32 0#32))) (cmpi .sle (res_main_call3_v5 V0) (broadcastInDim S64x1x1 ![0, 1, 2] bcast_S1x1x1_S64x1x1_0_1_2 (broadcastInDim S1x1x1 ![2] bcast_S1_S1x1x1_2 (constantI S1 32 999999#32))))) (constantI S_ 1 1#1) reducesTo_S64x1x1_S64x1_d2 h_S_) (Host.gather gather_S64x1000000_S64x1x1_S64x1_n_1_0_0_1_2_11 (res_main_v0 V0) (res_main_call3_v5 V0)) (broadcastInDim S64x1 ![] bcast_S_S64x1 (constant S_ .f32 0x7FC00000#32))) shapeCasts_S64x1_S64 := by
  unfold val1
  simp only [ops_10, TRef.binary, TRef.nullary, TRef.ternary, TRef.unary, TRef.toBuf, TRef.ofBuf, cast_eq]
  after_results_simp
  simp only [val0_10_main_call3_v5, val0_10_main_v0, val0_10_main_call3_c_1] <;> rfl
set_option maxRecDepth 8192 in
set_option maxHeartbeats 1800000 in
theorem val1_main_v46 (V0 : Valuation τ sig (Elt F)) : val1 V0 (no_index (Proc.devRef .tc main_v46)) = Host.negf (Host.reduceAdd (mulf (Host.exp (res_main_v0 V0)) (res_main_v0 V0)) (constant S_ .f32 0x00000000#32) reducesTo_S64x1000000_S64_d1 h_S_) := by
  unfold val1
  simp only [ops_10, TRef.binary, TRef.nullary, TRef.ternary, TRef.unary, TRef.toBuf, TRef.ofBuf, cast_eq]
  after_results_simp
  simp only [val0_10_main_v0, val0_10_main_v1] <;> rfl

theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = argMaxPart2 (res_main_v39 (launchContents m c)) (res_main_call2_v0 (launchContents m c)) (res_main_call2_cst (launchContents m c)) (res_main_call2_c (launchContents m c))
      ∧ r.2.mem ((c.tc : Thread nD τ).loc main_v43) = shapeCast _ (select (Host.reduce IntOp.andi (andi (cmpi .sge (res_main_call3_v5 (launchContents m c)) (broadcastInDim S64x1x1 ![] bcast_S_S64x1x1 (constantI S_ 32 0#32))) (cmpi .sle (res_main_call3_v5 (launchContents m c)) (broadcastInDim S64x1x1 ![0, 1, 2] bcast_S1x1x1_S64x1x1_0_1_2 (broadcastInDim S1x1x1 ![2] bcast_S1_S1x1x1_2 (constantI S1 32 999999#32))))) (constantI S_ 1 1#1) reducesTo_S64x1x1_S64x1_d2 h_S_) (Host.gather gather_S64x1000000_S64x1x1_S64x1_n_1_0_0_1_2_11 (res_main_v0 (launchContents m c)) (res_main_call3_v5 (launchContents m c))) (broadcastInDim S64x1 ![] bcast_S_S64x1 (constant S_ .f32 0x7FC00000#32))) shapeCasts_S64x1_S64
      ∧ r.2.mem ((c.tc : Thread nD τ).loc main_v46) = Host.negf (Host.reduceAdd (mulf (Host.exp (res_main_v0 (launchContents m c))) (res_main_v0 (launchContents m c))) (constant S_ .f32 0x00000000#32) reducesTo_S64x1000000_S64_d1 h_S_)
      ∧ r.2.mem ((c.tc : Thread nD τ).loc main_arg0) = m ((c.tc : Thread nD τ).loc main_arg0) :=
  (θ_run defs _ _).mono (fun _ h c => ⟨(h c main_v40).trans ((congrFun (after_ops (launchContents m c)) (Proc.devRef .tc main_v40)).trans (val1_main_v40 (launchContents m c))),
      (h c main_v43).trans ((congrFun (after_ops (launchContents m c)) (Proc.devRef .tc main_v43)).trans (val1_main_v43 (launchContents m c))),
      (h c main_v46).trans ((congrFun (after_ops (launchContents m c)) (Proc.devRef .tc main_v46)).trans (val1_main_v46 (launchContents m c))),
      (h c main_arg0).trans ((congrFun (after_ops (launchContents m c)) (Proc.devRef .tc main_arg0)).trans (val1_main_arg0 (launchContents m c)))⟩)
    (run_seq scopedRefs_eq scopedSems_eq defs main (fun _ => ops) main_eq (fun _ => ops_sub) m ρ fun _ => ops_fresh)

/-- Every run of the reference ends, with its argument as it was and every counter at zero. -/
theorem frame_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)) ∧ r.2.sem = fun _ => 0 :=
  (θ_run defs _ _).mono (fun r h => ⟨fun c => (h c).2.2.2, sem_eq_zero_of_no_sems (by decide) r.2⟩) (run m ρ)

end Cert.ReferenceIdeal.RefRun

end
-- ==== Proof.MainOut.lean ====
/- The first region: its outputs point by point, as one step over the running values. -/
module

public import proofs.«01_k».proof.Proof.MainData
public import proofs.«01_k».proof.Proof.Whole

@[expose] public section

set_option maxRecDepth 16384

noncomputable section

namespace Cert.KernelIdeal.Reg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The uniform words of a block of the first region, as floats on [1, 2): the generator run on the flat index `x1 + 1920 i`. -/
def mainRaw (i : grid0.Coords) (x1 : Vec F S64x1920 .i32) : FVec F S64x1920 .f32 :=
  let v37 := k0_pay14 i x1
  let v39 := k0_pay15 i x1
  let v81 := k0_pay27 v37 v39 466689009#32
  let v83 := k0_pay28 v37 v39 466689009#32
  let v85 := k0_pay29 v37 v39 466689009#32
  let v127 := k0_pay41 v81 v83 v85
  let v129 := k0_pay42 v81 v83 v85
  let v131 := k0_pay43 v81 v83 v85
  k0_pay44 v127 v129 v131

/-- One point of the first region: the running sum, weighted sum, maximum and column, from those before it. -/
def mainStep (i : grid0.Coords) (x0 : Vec F S64x1920 .f32) (x1 x2 : Vec F S64x1920 .i32)
    (o : Vec F S64x1 .f32 × Vec F S64x1 .f32 × Vec F S64x1 .f32 × Vec F S64x1 .i32) :
    Vec F S64x1 .f32 × Vec F S64x1 .f32 × Vec F S64x1 .f32 × Vec F S64x1 .i32 :=
  (k0_pay47 x0 o.1, k0_pay48 x0 o.2.1,
    k0_pay1 (k0_pay50 x0 (mainRaw i x1) k0_pay45) (k0_pay52 x0 (mainRaw i x1) k0_pay45 o.2.2.1) o.2.2.1,
    k0_pay2 (Scalar.muli (BitVec.ofNat 32 (i 0).val) 1920#32) (k0_pay51 x0 (mainRaw i x1) k0_pay45 x2)
      (k0_pay52 x0 (mainRaw i x1) k0_pay45 o.2.2.1) o.2.2.2)

/-- The running values the first point starts from: zero, zero, minus infinity and column zero. -/
def mainInit : Vec F S64x1 .f32 × Vec F S64x1 .f32 × Vec F S64x1 .f32 × Vec F S64x1 .i32 :=
  (k0_pay3, k0_pay4, k0_pay5, k0_pay6)

theorem out0_A_3_eq (c : Dev nD) (i : grid0.Coords) a1 h1 a2 h2 a3 h3 a4 h4 a5 h5 a6 h6 a7 h7 (hc0 : cond0_0 i) (x0 : Vec F S64x1920 .f32) (x1 : Vec F S64x1920 .i32) (x2 : Vec F S64x1920 .i32) :
    out0_A_3 c i a1 h1 a2 h2 a3 h3 a4 h4 a5 h5 a6 h6 a7 h7 hc0 x0 x1 x2 = (mainStep i x0 x1 x2 mainInit).1 := by
  unfold out0_A_3 kernelRun0_A
  dsimp only
  refine (View.read_writes_junk_eq_canon _ _).trans ((View.canon_cons_unit_lit _ _ _ zero2).trans ?_)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v4, kernelRun0_A.sl.v187, kernelRun0_A.sl.v193, kernelRun0_A.sl.v211, kernelRun0_A.sl.v214, kernelRun0_A.sl.v220, kernelRun0_A.sl.H3_1, kernelRun0_A.sl.H4_1, kernelRun0_A.sl.H5_1, kernelRun0_A.sl.H6_1, View.readCov_cons_toLoadRect, load_block, load_column]
  rfl

theorem out0_A_4_eq (c : Dev nD) (i : grid0.Coords) a1 h1 a2 h2 a3 h3 a4 h4 a5 h5 a6 h6 a7 h7 (hc0 : cond0_0 i) (x0 : Vec F S64x1920 .f32) (x1 : Vec F S64x1920 .i32) (x2 : Vec F S64x1920 .i32) :
    out0_A_4 c i a1 h1 a2 h2 a3 h3 a4 h4 a5 h5 a6 h6 a7 h7 hc0 x0 x1 x2 = (mainStep i x0 x1 x2 mainInit).2.1 := by
  unfold out0_A_4 kernelRun0_A
  dsimp only
  refine (View.read_writes_junk_eq_canon _ _).trans ((View.canon_cons_unit_lit _ _ _ zero2).trans ?_)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v4, kernelRun0_A.sl.v187, kernelRun0_A.sl.v193, kernelRun0_A.sl.v211, kernelRun0_A.sl.v214, kernelRun0_A.sl.v220, kernelRun0_A.sl.H3_1, kernelRun0_A.sl.H4_1, kernelRun0_A.sl.H5_1, kernelRun0_A.sl.H6_1, View.readCov_cons_toLoadRect, load_block, load_column]
  rfl

theorem out0_A_5_eq (c : Dev nD) (i : grid0.Coords) a1 h1 a2 h2 a3 h3 a4 h4 a5 h5 a6 h6 a7 h7 (hc0 : cond0_0 i) (x0 : Vec F S64x1920 .f32) (x1 : Vec F S64x1920 .i32) (x2 : Vec F S64x1920 .i32) :
    out0_A_5 c i a1 h1 a2 h2 a3 h3 a4 h4 a5 h5 a6 h6 a7 h7 hc0 x0 x1 x2 = (mainStep i x0 x1 x2 mainInit).2.2.1 := by
  unfold out0_A_5 kernelRun0_A
  dsimp only
  refine (View.read_writes_junk_eq_canon _ _).trans ((View.canon_cons_unit_lit _ _ _ zero2).trans ?_)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v4, kernelRun0_A.sl.v187, kernelRun0_A.sl.v193, kernelRun0_A.sl.v211, kernelRun0_A.sl.v214, kernelRun0_A.sl.v220, kernelRun0_A.sl.H3_1, kernelRun0_A.sl.H4_1, kernelRun0_A.sl.H5_1, kernelRun0_A.sl.H6_1, View.readCov_cons_toLoadRect, load_block, load_column]
  rfl

theorem out0_A_6_eq (c : Dev nD) (i : grid0.Coords) a1 h1 a2 h2 a3 h3 a4 h4 a5 h5 a6 h6 a7 h7 (hc0 : cond0_0 i) (x0 : Vec F S64x1920 .f32) (x1 : Vec F S64x1920 .i32) (x2 : Vec F S64x1920 .i32) :
    out0_A_6 c i a1 h1 a2 h2 a3 h3 a4 h4 a5 h5 a6 h6 a7 h7 hc0 x0 x1 x2 = (mainStep i x0 x1 x2 mainInit).2.2.2 := by
  unfold out0_A_6 kernelRun0_A
  dsimp only
  refine (View.read_writes_junk_eq_canon _ _).trans ((View.canon_cons_unit_lit _ _ _ zero2).trans ?_)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.v4, kernelRun0_A.sl.v187, kernelRun0_A.sl.v193, kernelRun0_A.sl.v211, kernelRun0_A.sl.v214, kernelRun0_A.sl.v220, kernelRun0_A.sl.H3_1, kernelRun0_A.sl.H4_1, kernelRun0_A.sl.H5_1, kernelRun0_A.sl.H6_1, View.readCov_cons_toLoadRect, load_block, load_column]
  rfl

theorem out0_B_3_eq (c : Dev nD) (i : grid0.Coords) a1 h1 a2 h2 a3 h3 a4 h4 a5 h5 a6 h6 a7 h7 (hc0 : ¬cond0_0 i) (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) :
    out0_B_3 c i a1 h1 a2 h2 a3 h3 a4 h4 a5 h5 a6 h6 a7 h7 hc0 x0 x1 x2 xo3 xo4 xo5 xo6 = (mainStep i x0 x1 x2 (xo3, xo4, xo5, xo6)).1 := by
  unfold out0_B_3 kernelRun0_B
  dsimp only
  refine (View.read_writes_junk_eq_canon _ _).trans ((View.canon_cons_unit_lit _ _ _ zero2).trans ?_)
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.v4, load_block, load_column]
  rfl

theorem out0_B_4_eq (c : Dev nD) (i : grid0.Coords) a1 h1 a2 h2 a3 h3 a4 h4 a5 h5 a6 h6 a7 h7 (hc0 : ¬cond0_0 i) (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) :
    out0_B_4 c i a1 h1 a2 h2 a3 h3 a4 h4 a5 h5 a6 h6 a7 h7 hc0 x0 x1 x2 xo3 xo4 xo5 xo6 = (mainStep i x0 x1 x2 (xo3, xo4, xo5, xo6)).2.1 := by
  unfold out0_B_4 kernelRun0_B
  dsimp only
  refine (View.read_writes_junk_eq_canon _ _).trans ((View.canon_cons_unit_lit _ _ _ zero2).trans ?_)
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.v4, load_block, load_column]
  rfl

theorem out0_B_5_eq (c : Dev nD) (i : grid0.Coords) a1 h1 a2 h2 a3 h3 a4 h4 a5 h5 a6 h6 a7 h7 (hc0 : ¬cond0_0 i) (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) :
    out0_B_5 c i a1 h1 a2 h2 a3 h3 a4 h4 a5 h5 a6 h6 a7 h7 hc0 x0 x1 x2 xo3 xo4 xo5 xo6 = (mainStep i x0 x1 x2 (xo3, xo4, xo5, xo6)).2.2.1 := by
  unfold out0_B_5 kernelRun0_B
  dsimp only
  refine (View.read_writes_junk_eq_canon _ _).trans ((View.canon_cons_unit_lit _ _ _ zero2).trans ?_)
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.v4, load_block, load_column]
  rfl

theorem out0_B_6_eq (c : Dev nD) (i : grid0.Coords) a1 h1 a2 h2 a3 h3 a4 h4 a5 h5 a6 h6 a7 h7 (hc0 : ¬cond0_0 i) (x0 : Vec F S64x1920 .f32) (x1 : Vec F S64x1920 .i32) (x2 : Vec F S64x1920 .i32) (xo3 : Vec F S64x1 .f32) (xo4 : Vec F S64x1 .f32) (xo5 : Vec F S64x1 .f32) (xo6 : Vec F S64x1 .i32) :
    out0_B_6 c i a1 h1 a2 h2 a3 h3 a4 h4 a5 h5 a6 h6 a7 h7 hc0 x0 x1 x2 xo3 xo4 xo5 xo6 = (mainStep i x0 x1 x2 (xo3, xo4, xo5, xo6)).2.2.2 := by
  unfold out0_B_6 kernelRun0_B
  dsimp only
  refine (View.read_writes_junk_eq_canon _ _).trans ((View.canon_cons_unit_lit _ _ _ zero2).trans ?_)
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.v4, load_block, load_column]
  rfl

variable (W : (c : Dev nD) → (b : Ref sig .tc) → Buf (Elt F) ((c : Thread nD τ).loc b))

/-- The first point, as one step from the initial values. -/
theorem outsAt0_zero (c : Dev nD) (t : Fin cfg0.N) (h0 : t.val % 520 = 0) :
    outsAt0 W c t.val t.isLt = mainStep (grid0.coords t) (X0_0 W c t) (iblk0 W c 1 t) (iblk0 W c 2 t) mainInit := by
  rw [outsAt0_A W c t h0]
  simp only [out0_A_3_eq, out0_A_4_eq, out0_A_5_eq, out0_A_6_eq]

/-- A later point, as one step from the point before. -/
theorem outsAt0_succ (c : Dev nD) (t : Fin cfg0.N) (h0 : ¬t.val % 520 = 0) :
    outsAt0 W c t.val t.isLt = mainStep (grid0.coords t) (X0_0 W c t) (iblk0 W c 1 t) (iblk0 W c 2 t)
      (outsAt0 W c (t.val - 1) (Nat.lt_of_le_of_lt (Nat.sub_le _ _) t.isLt)) := by
  rw [outsAt0_B W c t h0]
  simp only [out0_B_3_eq, out0_B_4_eq, out0_B_5_eq, out0_B_6_eq]

end Cert.KernelIdeal.Reg

end
-- ==== Proof.Maths.lean ====
/- Facts about one row over the extended reals: the first index of a largest entry, block by block; sums of
   exponentials; the logarithm of a shifted sum; the entropy. -/
module

public import Idealize.ShloMosaic.PureOps.Ideal.Laws

@[expose] public section

noncomputable section

namespace Cert.Maths

open Idealize.ShloMosaic

/-- Among the first `n` entries of `z`, `m` is a largest value and `i` its first index; with no entry they
    are the bottom value and zero. -/
structure First (z : ℕ → EReal) (n : ℕ) (m : EReal) (i : ℕ) : Prop where
  le : ∀ c, c < n → z c ≤ m
  lt : ∀ c, c < i → z c < m
  at_ : 0 < n → i < n ∧ z i = m
  none : n = 0 → m = ⊥ ∧ i = 0

/-- Before any entry. -/
theorem First.zero (z : ℕ → EReal) : First z 0 ⊥ 0 :=
  ⟨fun c h => absurd h (Nat.not_lt_zero c), fun c h => absurd h (Nat.not_lt_zero c), fun h => absurd h (lt_irrefl 0), fun _ => ⟨rfl, rfl⟩⟩

/-- Taking in a block of `b` entries whose largest value is `m'`, first met at offset `j`: the block wins
    exactly if its largest value is strictly larger. -/
theorem First.step {z : ℕ → EReal} {n : ℕ} {m : EReal} {i : ℕ} (h : First z n m i) {b : ℕ} (hb : 0 < b) {m' : EReal} {j : ℕ}
    (hle : ∀ c, c < b → z (n + c) ≤ m')
    (hat : m < m' → j < b ∧ z (n + j) = m' ∧ ∀ c, c < j → z (n + c) < m') :
    First z (n + b) (if m < m' then m' else m) (if m < m' then n + j else i) := by
  by_cases hm : m < m'
  · obtain ⟨h1, h2, h3⟩ := hat hm
    rw [if_pos hm, if_pos hm]
    refine ⟨fun c hc => ?_, fun c hc => ?_, fun _ => ⟨by omega, h2⟩, fun h0 => by omega⟩
    · by_cases hcn : c < n
      · exact (h.le c hcn).trans hm.le
      · have := hle (c - n) (by omega)
        rwa [Nat.add_sub_cancel' (by omega)] at this
    · by_cases hcn : c < n
      · exact (h.le c hcn).trans_lt hm
      · have := h3 (c - n) (by omega)
        rwa [Nat.add_sub_cancel' (by omega)] at this
  · rw [if_neg hm, if_neg hm]
    have hm' : m' ≤ m := not_lt.mp hm
    refine ⟨fun c hc => ?_, h.lt, fun _ => ?_, fun h0 => by omega⟩
    · by_cases hcn : c < n
      · exact h.le c hcn
      · have := hle (c - n) (by omega)
        rw [Nat.add_sub_cancel' (by omega)] at this
        exact this.trans hm'
    · by_cases hn : 0 < n
      · exact ⟨by have := (h.at_ hn).1; omega, (h.at_ hn).2⟩
      · have hn0 : n = 0 := by omega
        obtain ⟨e1, e2⟩ := h.none hn0
        refine ⟨by omega, ?_⟩
        have := hle 0 hb
        rw [hn0, Nat.add_zero] at this
        rw [e2, e1]
        exact le_bot_iff.mp ((this.trans hm').trans_eq e1)

/-- The first index of a largest entry is unique. -/
theorem First.unique {z : ℕ → EReal} {n : ℕ} {m m' : EReal} {i i' : ℕ} (hn : 0 < n) (h : First z n m i) (h' : First z n m' i') :
    m = m' ∧ i = i' := by
  obtain ⟨a1, a2⟩ := h.at_ hn
  obtain ⟨b1, b2⟩ := h'.at_ hn
  have hm : m = m' := le_antisymm (a2 ▸ h'.le i a1) (b2 ▸ h.le i' b1)
  subst hm
  refine ⟨rfl, ?_⟩
  rcases lt_trichotomy i i' with hl | hl | hl
  · exact absurd a2 (h'.lt i hl).ne
  · exact hl
  · exact absurd b2 (h.lt i' hl).ne

/-- A sum of reals, summed as extended reals. -/
theorem coe_sum (f : ℕ → ℝ) (n : ℕ) : ∑ c ∈ Finset.range n, (f c : EReal) = ((∑ c ∈ Finset.range n, f c : ℝ) : EReal) := by
  induction n with
  | zero => simp
  | succ n ih => rw [Finset.sum_range_succ, Finset.sum_range_succ, ih, EReal.coe_add]

/-- The exponential of an entry, as a real. -/
def wR (a : EReal) : ℝ := if a = ⊥ then 0 else Real.exp a.toReal

/-- An entry times its exponential, as a real: zero at the bottom value. -/
def vR (a : EReal) : ℝ := if a = ⊥ then 0 else a.toReal * Real.exp a.toReal

/-- The exponential of an entry below the top value is that real. -/
theorem exp_eq {a : EReal} (h : a < ⊤) : Ideal.exp a = (wR a : EReal) := by
  induction a with
  | bot => simp [wR]
  | top => exact absurd h (lt_irrefl _)
  | coe r => simp [wR]

/-- An entry below the top value, times its exponential, is that real. -/
theorem mul_exp_eq {a : EReal} (h : a < ⊤) : a * Ideal.exp a = (vR a : EReal) := by
  induction a with
  | bot => simp [vR]
  | top => exact absurd h (lt_irrefl _)
  | coe r => simp [vR, EReal.coe_mul]

/-- An entry's exponential is not negative. -/
theorem wR_nonneg (a : EReal) : 0 ≤ wR a := by
  unfold wR
  split_ifs
  · exact le_rfl
  · exact (Real.exp_pos _).le

/-- An entry above the bottom value has a positive exponential. -/
theorem wR_pos {a : EReal} (h : ⊥ < a) : 0 < wR a := by
  unfold wR
  rw [if_neg h.ne']
  exact Real.exp_pos _

section Row

variable (x : ℕ → EReal) (n : ℕ)

/-- The sum of a row's exponentials, as a real. -/
def S : ℝ := ∑ c ∈ Finset.range n, wR (x c)

/-- The sum of a row's entries times their exponentials, as a real. -/
def T : ℝ := ∑ c ∈ Finset.range n, vR (x c)

variable {x n}

/-- The sum of a row's exponentials. -/
theorem sum_exp (h : ∀ c, c < n → x c < ⊤) : ∑ c ∈ Finset.range n, Ideal.exp (x c) = (S x n : EReal) := by
  rw [S, ← coe_sum]
  exact Finset.sum_congr rfl fun c hc => exp_eq (h c (Finset.mem_range.mp hc))

/-- The sum of a row's entries times their exponentials. -/
theorem sum_mul_exp (h : ∀ c, c < n → x c < ⊤) : ∑ c ∈ Finset.range n, x c * Ideal.exp (x c) = (T x n : EReal) := by
  rw [T, ← coe_sum]
  exact Finset.sum_congr rfl fun c hc => mul_exp_eq (h c (Finset.mem_range.mp hc))

/-- A row with an entry above the bottom value has a positive sum of exponentials. -/
theorem S_pos (h : ∃ c, c < n ∧ ⊥ < x c) : 0 < S x n := by
  obtain ⟨c, hc, hx⟩ := h
  exact Finset.sum_pos' (fun c _ => wR_nonneg _) ⟨c, Finset.mem_range.mpr hc, wR_pos hx⟩

/-- The exponential of an entry shifted by a real. -/
theorem exp_sub {a : EReal} (h : a < ⊤) (m : ℝ) : Ideal.exp (a - (m : EReal)) = ((wR a * Real.exp (-m) : ℝ) : EReal) := by
  induction a with
  | bot => simp [wR]
  | top => exact absurd h (lt_irrefl _)
  | coe r =>
    rw [← EReal.coe_sub, Ideal.exp_coe, sub_eq_add_neg, Real.exp_add]
    simp [wR]

/-- The logarithm of the shifted sum of exponentials. -/
theorem log_shift (h : ∀ c, c < n → x c < ⊤) (hp : ∃ c, c < n ∧ ⊥ < x c) (m : ℝ) :
    Ideal.log (∑ c ∈ Finset.range n, Ideal.exp (x c - (m : EReal))) = ((Real.log (S x n) - m : ℝ) : EReal) := by
  have e : ∑ c ∈ Finset.range n, Ideal.exp (x c - (m : EReal)) = ((S x n * Real.exp (-m) : ℝ) : EReal) := by
    rw [S, Finset.sum_mul, ← coe_sum]
    exact Finset.sum_congr rfl fun c hc => exp_sub (h c (Finset.mem_range.mp hc)) m
  have hs := S_pos hp
  have hs' : 0 < S x n * Real.exp (-m) := mul_pos hs (Real.exp_pos _)
  rw [e, Ideal.log_coe, if_neg (not_le.mpr hs'), Real.log_mul hs.ne' (Real.exp_pos _).ne', Real.log_exp]
  rfl

/-- A log-probability: the shift by `m` cancels. -/
theorem logp_shift {a : EReal} (h : a < ⊤) (m l : ℝ) : (a - (m : EReal)) - ((l - m : ℝ) : EReal) = a - (l : EReal) := by
  induction a with
  | bot => simp
  | top => exact absurd h (lt_irrefl _)
  | coe r =>
    rw [← EReal.coe_sub, ← EReal.coe_sub, ← EReal.coe_sub]
    congr 1
    ring

/-- One term of the entropy. -/
theorem term_eq {a : EReal} (h : a < ⊤) {s : ℝ} (hs : 0 < s) :
    Ideal.exp (a - (Real.log s : EReal)) * (a - (Real.log s : EReal)) = ((vR a / s - wR a / s * Real.log s : ℝ) : EReal) := by
  induction a with
  | bot => simp [wR, vR]
  | top => exact absurd h (lt_irrefl _)
  | coe r =>
    rw [← EReal.coe_sub, Ideal.exp_coe, ← EReal.coe_mul]
    congr 1
    rw [Real.exp_sub, Real.exp_log hs]
    simp only [wR, vR, EReal.coe_ne_bot, if_false, EReal.toReal_coe]
    field_simp

/-- The entropy, from the log-probabilities. -/
theorem entropy_eq (h : ∀ c, c < n → x c < ⊤) (hp : ∃ c, c < n ∧ ⊥ < x c) :
    -(∑ c ∈ Finset.range n, Ideal.exp (x c - (Real.log (S x n) : EReal)) * (x c - (Real.log (S x n) : EReal)))
      = ((Real.log (S x n) - T x n / S x n : ℝ) : EReal) := by
  have hs := S_pos hp
  have e : ∑ c ∈ Finset.range n, Ideal.exp (x c - (Real.log (S x n) : EReal)) * (x c - (Real.log (S x n) : EReal))
      = ((T x n / S x n - Real.log (S x n) : ℝ) : EReal) := by
    have e1 : T x n / S x n - Real.log (S x n) = ∑ c ∈ Finset.range n, (vR (x c) / S x n - wR (x c) / S x n * Real.log (S x n)) := by
      rw [Finset.sum_sub_distrib, ← Finset.sum_mul, ← Finset.sum_div, ← Finset.sum_div]
      have e2 : (∑ c ∈ Finset.range n, wR (x c)) = S x n := rfl
      have e3 : (∑ c ∈ Finset.range n, vR (x c)) = T x n := rfl
      rw [e2, e3, div_self hs.ne', one_mul]
    rw [e1, ← coe_sum]
    exact Finset.sum_congr rfl fun c hc => term_eq (h c (Finset.mem_range.mp hc)) hs
  rw [e, ← EReal.coe_neg]
  congr 1
  ring

/-- The logarithm of a positive real. -/
theorem log_pos_real {s : ℝ} (hs : 0 < s) : Ideal.log (s : EReal) = (Real.log s : EReal) := by
  rw [Ideal.log_coe, if_neg (not_le.mpr hs)]

/-- The entropy, from the two sums. -/
theorem entropy_sums {s t : ℝ} (hs : 0 < s) : (Real.log s : EReal) - Ideal.div (t : EReal) (s : EReal) = ((Real.log s - t / s : ℝ) : EReal) := by
  rw [Ideal.div_coe hs.ne', ← EReal.coe_mul, ← EReal.coe_sub]
  congr 1
  ring

/-- Taking the noise off the winning value leaves the entry. -/
theorem take_off (a : EReal) (g : ℝ) : (a + (g : EReal)) - (g : EReal) = a := by
  induction a with
  | bot => simp
  | top => simp
  | coe r =>
    rw [← EReal.coe_add, ← EReal.coe_sub]
    congr 1
    ring

end Row

end Cert.Maths

end
-- ==== Proof.BlockVal.lean ====
/- One row of a block over the extended reals: its sum, its largest entry, and that entry's first column. -/
module

public import proofs.«01_k».proof.Proof.MainOut
public import proofs.«01_k».proof.Proof.Maths
public import Idealize.ShloMosaic.Lib.ValueLayoutCasts
public import Idealize.ShloMosaic.Lib.Pointwise.Reduce
public import Idealize.ShloMosaic.Lib.Pointwise.Tactic
public import Idealize.ShloMosaic.PureOps.Ideal.Laws

@[expose] public section

set_option maxRecDepth 16384

noncomputable section

namespace Cert.KernelIdeal.Reg

open Cert.KernelIdeal Cert.KernelIdeal.Gen Idealize.ShloMosaic Idealize.ShloMosaic.TcCoe

/-- The entry of a block in the row of `j` and column `k`. -/
def blk (j : S64x1.Idx) (k : Fin 1920) : S64x1920.Idx := ValueIdx.ix2 (n0 := 64) (n1 := 1920) (j 0) k

/-- A column vector read back from one entry per row. -/
theorem col_apply {α : Type} (v : S64.Idx → α) (h : S64.ShapeCasts S64x1) (j : S64x1.Idx) :
    shapeCast S64x1 v h j = v (ValueIdx.ix1 (n := 64) (j 0)) := by
  conv_lhs => rw [ValueIdx.eq_ix2 j]
  exact ValueIdx.shapeCast_a_a1_apply v h (j 0) (j 1)

/-- A row's sum. -/
theorem row_sum (v : FVec Ideal S64x1920 .f32) (j : S64x1.Idx) (f : ℕ → EReal) (hf : ∀ k : Fin 1920, v (blk j k) = f k) :
    shapeCast S64x1 (multiReduction .add [1] S64 v 0x00000000#32 reduces_S64x1920_S64 (.inl rfl) rfl) shapeCasts_S64_S64x1 j
      = ∑ c ∈ Finset.range 1920, f c := by
  rw [col_apply]
  refine (Ideal.reduceAdd_r2_a1 reduces_S64x1920_S64 v _).trans ?_
  rw [Finset.sum_range]
  exact Finset.sum_congr rfl fun k _ => hf k

/-- A row's maximum, as a fold. -/
theorem row_max (v : FVec Ideal S64x1920 .f32) (j : S64x1.Idx) :
    shapeCast S64x1 (multiReduction .maximumf [1] S64 v 0xFF800000#32 reduces_S64x1920_S64 (.inl rfl) rfl) shapeCasts_S64_S64x1 j
      = (Finset.univ : Finset (Fin 1920)).fold max (Ideal.ofBits .f32 0xFF800000#32) fun k => v (blk j k) := by
  rw [col_apply]
  refine (multiReduction_maximumf_eq_fold v _ reduces_S64x1920_S64 _ _ _).trans ?_
  refine (Shape.Reduces.fold_fiber_r2_a1 reduces_S64x1920_S64 _ _ _ v).trans ?_
  rfl

/-- A row's smallest signed word, as a fold. -/
theorem row_min (v : IVec S64x1920 32) (j : S64x1.Idx) :
    shapeCast S64x1 (multiReductionI .minsi [1] S64 v 2147483647#32 reduces_S64x1920_S64 rfl) shapeCasts_S64_S64x1 j
      = (Finset.univ : Finset (Fin 1920)).fold IntOp.minsi 2147483647#32 fun k => v (blk j k) := by
  rw [col_apply]
  refine (multiReductionI_eq_fold .minsi v _ reduces_S64x1920_S64 _ _).trans ?_
  refine (Shape.Reduces.fold_fiber_r2_a1 reduces_S64x1920_S64 _ _ _ v).trans ?_
  rfl

/-- The smaller of two words that are not negative. -/
theorem minsi_nat {x y : BitVec 32} (hx : x.toNat < 2147483648) (hy : y.toNat < 2147483648) :
    IntOp.minsi x y = if x.toNat < y.toNat then x else y := by
  unfold IntOp.minsi
  have : x.slt y = decide (x.toNat < y.toNat) := by
    rw [BitVec.slt, BitVec.toInt_eq_toNat_of_lt (by omega), BitVec.toInt_eq_toNat_of_lt (by omega)]
    simp
  rw [this]
  simp

/-- The smallest of words that are not negative, from the largest such word. -/
theorem fold_min {n : ℕ} (s : Finset (Fin n)) (h : Fin n → BitVec 32) (hh : ∀ k, (h k).toNat < 2147483648) :
    (s.fold IntOp.minsi 2147483647#32 h).toNat < 2147483648 ∧ (∀ k ∈ s, (s.fold IntOp.minsi 2147483647#32 h).toNat ≤ (h k).toNat) ∧
      (s.fold IntOp.minsi 2147483647#32 h = 2147483647#32 ∨ ∃ k ∈ s, s.fold IntOp.minsi 2147483647#32 h = h k) := by
  classical
  induction s using Finset.induction_on with
  | empty => exact ⟨by simp, by simp, Or.inl (by simp)⟩
  | insert a s ha ih =>
    obtain ⟨i1, i2, i3⟩ := ih
    rw [Finset.fold_insert ha, minsi_nat (hh a) i1]
    by_cases hl : (h a).toNat < (s.fold IntOp.minsi 2147483647#32 h).toNat
    · rw [if_pos hl]
      refine ⟨hh a, fun k hk => ?_, Or.inr ⟨a, Finset.mem_insert_self a s, rfl⟩⟩
      rcases Finset.mem_insert.mp hk with rfl | hk
      · exact le_rfl
      · exact hl.le.trans (i2 k hk)
    · rw [if_neg hl]
      refine ⟨i1, fun k hk => ?_, ?_⟩
      · rcases Finset.mem_insert.mp hk with rfl | hk
        · exact not_lt.mp hl
        · exact i2 k hk
      · rcases i3 with e | ⟨k, hk, e⟩
        · exact Or.inl e
        · exact Or.inr ⟨k, Finset.mem_insert_of_mem hk, e⟩

/-- The largest of a row of extended reals is one of them. -/
theorem fold_max {n : ℕ} (hn : 0 < n) (f : Fin n → EReal) :
    (∀ k, f k ≤ (Finset.univ : Finset (Fin n)).fold max ⊥ f) ∧ ∃ k, f k = (Finset.univ : Finset (Fin n)).fold max ⊥ f := by
  have hle : ∀ k, f k ≤ (Finset.univ : Finset (Fin n)).fold max ⊥ f := fun k =>
    (Finset.le_fold_max _).mpr (Or.inr ⟨k, Finset.mem_univ k, le_rfl⟩)
  refine ⟨hle, ?_⟩
  rcases (Finset.le_fold_max _).mp (le_refl ((Finset.univ : Finset (Fin n)).fold max ⊥ f)) with h | ⟨k, _, h⟩
  · exact ⟨⟨0, hn⟩, le_antisymm (hle _) (h.trans bot_le)⟩
  · exact ⟨k, le_antisymm (hle k) h⟩

/-- The first column of a row at which it has a given value that it takes. -/
theorem row_first (zb : FVec Ideal S64x1920 .f32) (col : IVec S64x1920 32) (M : FVec Ideal S64x1 .f32) (j : S64x1.Idx) (f : ℕ → EReal)
    (hcol : ∀ k : Fin 1920, col (blk j k) = BitVec.ofNat 32 k.val) (hf : ∀ k : Fin 1920, zb (blk j k) = f k) (hM : ∃ k : Fin 1920, f k = M j) :
    ∃ c, c < 1920 ∧ f c = M j ∧ (∀ c', c' < c → f c' ≠ M j) ∧
      shapeCast S64x1 (multiReductionI .minsi [1] S64 (select (cmpf .oeq zb (broadcastTo S64x1920 M broadcasts_S64x1_S64x1920)) col (broadcast S64x1920 2147483647#32))
        2147483647#32 reduces_S64x1920_S64 rfl) shapeCasts_S64_S64x1 j = BitVec.ofNat 32 c := by
  rw [row_min]
  have hM' : ∀ k : Fin 1920, broadcastTo S64x1920 M broadcasts_S64x1_S64x1920 (blk j k) = M j := fun k => by
    refine congrArg M (funext fun a => ?_)
    match a with
    | ⟨0, _⟩ => rfl
    | ⟨1, _⟩ => exact Fin.ext (by have : (j 1).val < 1 := (j 1).isLt; simp; omega)
  have hval : ∀ k : Fin 1920, select (cmpf .oeq zb (broadcastTo S64x1920 M broadcasts_S64x1_S64x1920)) col (broadcast S64x1920 2147483647#32) (blk j k)
      = if f k = M j then BitVec.ofNat 32 k.val else 2147483647#32 := fun k => by
    have e : select (cmpf .oeq zb (broadcastTo S64x1920 M broadcasts_S64x1_S64x1920)) col (broadcast S64x1920 2147483647#32) (blk j k)
        = Scalar.select (Ideal.cmp .oeq (zb (blk j k)) (broadcastTo S64x1920 M broadcasts_S64x1_S64x1920 (blk j k))) (col (blk j k)) 2147483647#32 := rfl
    rw [e, hM', hcol, hf]
    unfold Scalar.select Ideal.cmp
    by_cases hk : f k = M j
    · simp [hk]
    · simp [hk]
  rw [show (fun k : Fin 1920 => select (cmpf .oeq zb (broadcastTo S64x1920 M broadcasts_S64x1_S64x1920)) col (broadcast S64x1920 2147483647#32) (blk j k))
    = fun k : Fin 1920 => if f k = M j then BitVec.ofNat 32 k.val else 2147483647#32 from funext hval]
  have hlt : ∀ k : Fin 1920, ((fun k : Fin 1920 => if f k = M j then BitVec.ofNat 32 k.val else 2147483647#32) k).toNat < 2147483648 := fun k => by
    have := k.isLt
    beta_reduce
    split_ifs
    · rw [BitVec.toNat_ofNat]
      omega
    · decide
  obtain ⟨h1, h2, h3⟩ := fold_min Finset.univ _ hlt
  obtain ⟨k0, hk0⟩ := hM
  have hk0' := h2 k0 (Finset.mem_univ _)
  have hb := k0.isLt
  rw [if_pos hk0, BitVec.toNat_ofNat] at hk0'
  rcases h3 with e | ⟨k, _, e⟩
  · rw [e] at hk0'
    have : (2147483647#32).toNat = 2147483647 := rfl
    omega
  · by_cases hk : f k = M j
    · rw [if_pos hk] at e
      have hkl := k.isLt
      refine ⟨k.val, k.isLt, hk, fun c' hc' hE => ?_, e⟩
      have hc := h2 ⟨c', by omega⟩ (Finset.mem_univ _)
      rw [e, if_pos hE, BitVec.toNat_ofNat, BitVec.toNat_ofNat] at hc
      change k.val % 2 ^ 32 ≤ c' % 2 ^ 32 at hc
      rw [Nat.mod_eq_of_lt (by omega), Nat.mod_eq_of_lt (by omega)] at hc
      omega
    · rw [if_neg hk] at e
      rw [e] at hk0'
      have : (2147483647#32).toNat = 2147483647 := rfl
      omega

/-- A row's largest value and its first column. -/
theorem row_arg (zb : FVec Ideal S64x1920 .f32) (col : IVec S64x1920 32) (j : S64x1.Idx) (f : ℕ → EReal)
    (hcol : ∀ k : Fin 1920, col (blk j k) = BitVec.ofNat 32 k.val) (hf : ∀ k : Fin 1920, zb (blk j k) = f k)
    (M : FVec Ideal S64x1 .f32) (hMd : M = shapeCast S64x1 (multiReduction .maximumf [1] S64 zb 0xFF800000#32 reduces_S64x1920_S64 (.inl rfl) rfl) shapeCasts_S64_S64x1) :
    (∀ c, c < 1920 → f c ≤ M j) ∧ ∃ c, c < 1920 ∧ f c = M j ∧ (∀ c', c' < c → f c' < M j) ∧
      shapeCast S64x1 (multiReductionI .minsi [1] S64 (select (cmpf .oeq zb (broadcastTo S64x1920 M broadcasts_S64x1_S64x1920)) col (broadcast S64x1920 2147483647#32))
        2147483647#32 reduces_S64x1920_S64 rfl) shapeCasts_S64_S64x1 j = BitVec.ofNat 32 c := by
  have hb : Ideal.ofBits .f32 0xFF800000#32 = (⊥ : EReal) := by
    unfold Ideal.ofBits Ideal.ieee
    simp
  have hMj : M j = (Finset.univ : Finset (Fin 1920)).fold max ⊥ fun k => zb (blk j k) := by rw [hMd, row_max, hb]
  obtain ⟨h1, k, hk⟩ := fold_max (by norm_num : 0 < 1920) fun k : Fin 1920 => zb (blk j k)
  have hle : ∀ c, c < 1920 → f c ≤ M j := fun c hc => by
    have := h1 ⟨c, hc⟩
    rw [hMj]
    rwa [hf ⟨c, hc⟩] at this
  obtain ⟨c, hc, e1, e2, e3⟩ := row_first zb col M j f hcol hf ⟨k, by rw [hMj, ← hk, hf]⟩
  exact ⟨hle, c, hc, e1, fun c' hc' => lt_of_le_of_ne (hle c' (by omega)) (e2 c' hc'), e3⟩

end Cert.KernelIdeal.Reg

end
-- ==== Proof.Word.lean ====
/- The random word of one entry: the twenty rounds of the generator with key (0, 42), at a flat index. -/
module

public import Idealize.ShloMosaic.PureOps

@[expose] public section

set_option maxRecDepth 16384

namespace Cert.Noise

/-- One round: add, rotate left by `a` (right by `b`), exclusive or. -/
def rnd (a b : BitVec 32) (p : BitVec 32 × BitVec 32) : BitVec 32 × BitVec 32 :=
  (p.1 + p.2, (p.2 <<< a ||| p.2 >>> b) ^^^ (p.1 + p.2))

/-- One injection of key words. -/
def inj (a b : BitVec 32) (p : BitVec 32 × BitVec 32) : BitVec 32 × BitVec 32 := (p.1 + a, p.2 + b)

/-- The state after the first round, from a zero high word and the low word `n`. -/
def s1 (n : BitVec 32) : BitVec 32 × BitVec 32 :=
  (n + 42#32, ((n + 42#32) <<< 13#32 ||| (n + 42#32) >>> 19#32) ^^^ (n + 42#32))
/-- The state after 2 rounds. -/
def s2 (n : BitVec 32) : BitVec 32 × BitVec 32 := rnd 15#32 17#32 (s1 n)
/-- The state after 3 rounds. -/
def s3 (n : BitVec 32) : BitVec 32 × BitVec 32 := rnd 26#32 6#32 (s2 n)
/-- The state after 4 rounds. -/
def s4 (n : BitVec 32) : BitVec 32 × BitVec 32 := rnd 6#32 26#32 (s3 n)
/-- The state after 4 rounds and injection 1. -/
def t0 (n : BitVec 32) : BitVec 32 × BitVec 32 := inj 42#32 466689009#32 (s4 n)
/-- The state after 5 rounds. -/
def s5 (n : BitVec 32) : BitVec 32 × BitVec 32 := rnd 17#32 15#32 (t0 n)
/-- The state after 6 rounds. -/
def s6 (n : BitVec 32) : BitVec 32 × BitVec 32 := rnd 29#32 3#32 (s5 n)
/-- The state after 7 rounds. -/
def s7 (n : BitVec 32) : BitVec 32 × BitVec 32 := rnd 16#32 16#32 (s6 n)
/-- The state after 8 rounds. -/
def s8 (n : BitVec 32) : BitVec 32 × BitVec 32 := rnd 24#32 8#32 (s7 n)
/-- The state after 8 rounds and injection 2. -/
def t1 (n : BitVec 32) : BitVec 32 × BitVec 32 := inj 466689008#32 2#32 (s8 n)
/-- The state after 9 rounds. -/
def s9 (n : BitVec 32) : BitVec 32 × BitVec 32 := rnd 13#32 19#32 (t1 n)
/-- The state after 10 rounds. -/
def s10 (n : BitVec 32) : BitVec 32 × BitVec 32 := rnd 15#32 17#32 (s9 n)
/-- The state after 11 rounds. -/
def s11 (n : BitVec 32) : BitVec 32 × BitVec 32 := rnd 26#32 6#32 (s10 n)
/-- The state after 12 rounds. -/
def s12 (n : BitVec 32) : BitVec 32 × BitVec 32 := rnd 6#32 26#32 (s11 n)
/-- The state after 12 rounds and injection 3. -/
def t2 (n : BitVec 32) : BitVec 32 × BitVec 32 := inj 0#32 45#32 (s12 n)
/-- The state after 13 rounds. -/
def s13 (n : BitVec 32) : BitVec 32 × BitVec 32 := rnd 17#32 15#32 (t2 n)
/-- The state after 14 rounds. -/
def s14 (n : BitVec 32) : BitVec 32 × BitVec 32 := rnd 29#32 3#32 (s13 n)
/-- The state after 15 rounds. -/
def s15 (n : BitVec 32) : BitVec 32 × BitVec 32 := rnd 16#32 16#32 (s14 n)
/-- The state after 16 rounds. -/
def s16 (n : BitVec 32) : BitVec 32 × BitVec 32 := rnd 24#32 8#32 (s15 n)
/-- The state after 16 rounds and injection 4. -/
def t3 (n : BitVec 32) : BitVec 32 × BitVec 32 := inj 42#32 466689012#32 (s16 n)
/-- The state after 17 rounds. -/
def s17 (n : BitVec 32) : BitVec 32 × BitVec 32 := rnd 13#32 19#32 (t3 n)
/-- The state after 18 rounds. -/
def s18 (n : BitVec 32) : BitVec 32 × BitVec 32 := rnd 15#32 17#32 (s17 n)
/-- The state after 19 rounds. -/
def s19 (n : BitVec 32) : BitVec 32 × BitVec 32 := rnd 26#32 6#32 (s18 n)
/-- The state after 20 rounds. -/
def s20 (n : BitVec 32) : BitVec 32 × BitVec 32 := rnd 6#32 26#32 (s19 n)
/-- The state after the last injection. -/
def t4 (n : BitVec 32) : BitVec 32 × BitVec 32 := inj 466689008#32 5#32 (s20 n)

/-- The random word: the two halves, exclusive or. -/
def bits (n : BitVec 32) : BitVec 32 := (t4 n).1 ^^^ (t4 n).2

/-- The word of a float on [1, 2): the upper 23 bits under the exponent of one. -/
def mant (n : BitVec 32) : BitVec 32 := bits n >>> 9#32 ||| 1065353216#32

end Cert.Noise
-- ==== Proof.Noise.lean ====
/- The noise of one entry over the extended reals: a real number, the same from either program's operations. -/
module

public import proofs.«01_k».proof.Proof.Word
public import Idealize.ShloMosaic.PureOps.Ideal.Laws

@[expose] public section

noncomputable section

namespace Cert.Noise

open Idealize.ShloMosaic

/-- The 23 random bits of an entry. -/
def frac (n : BitVec 32) : ℕ := (bits n).toNat / 512

/-- There are 23 of them. -/
theorem frac_lt (n : BitVec 32) : frac n < 8388608 := by
  have := (bits n).isLt
  unfold frac
  omega

/-- The word of the float on [1, 2), as a number. -/
theorem mant_toNat (n : BitVec 32) : (mant n).toNat = 1065353216 + frac n := by
  have h1 : (bits n >>> 9#32).toNat = frac n := by
    rw [BitVec.ushiftRight_eq', BitVec.toNat_ushiftRight, Nat.shiftRight_eq_div_pow]
    rfl
  have h2 : (mant n).toNat = frac n ||| 1065353216 := by
    unfold mant
    rw [BitVec.toNat_or, h1]
    rfl
  have h3 := Nat.two_pow_add_eq_or_of_lt (i := 23) (b := frac n) (frac_lt n) 127
  have h4 : 2 ^ 23 * 127 = 1065353216 := by norm_num
  rw [h4] at h3
  rw [h2, Nat.or_comm]
  exact h3.symm

/-- A word with exponent of one denotes one plus its fraction. -/
theorem ofBits_unit (b : BitVec 32) (f : ℕ) (hf : f < 8388608) (h : b.toNat = 1065353216 + f) :
    Ideal.ofBits .f32 b = ((1 + (f : ℝ) / 8388608 : ℝ) : EReal) := by
  have e1 : b.extractLsb' (8 + 23) 1 = 0#1 := by
    apply BitVec.eq_of_toNat_eq
    rw [BitVec.extractLsb'_toNat, h, Nat.shiftRight_eq_div_pow]
    have : (1065353216 + f) / 2 ^ (8 + 23) = 0 := by omega
    rw [this]
    rfl
  have e2 : (b.extractLsb' 23 8).toNat = 127 := by
    rw [BitVec.extractLsb'_toNat, h, Nat.shiftRight_eq_div_pow]
    omega
  have e3 : (b.extractLsb' 0 23).toNat = f := by
    rw [BitVec.extractLsb'_toNat, h, Nat.shiftRight_eq_div_pow]
    omega
  unfold Ideal.ofBits Ideal.ieee
  simp only [e1, e2, e3]
  norm_num
  have : ((1 + (f : ℝ) / 8388608 : ℝ)) = (8388608 + (f : ℝ)) * (1 / 8388608) := by field_simp
  norm_num at this ⊢
  norm_cast at this ⊢
  simp_all

/-- The smallest normal float, as a real. -/
def tinyR : ℝ := (2 : ℝ) ^ (-126 : ℤ)

/-- The word of the smallest normal float. -/
theorem ofBits_tiny : Ideal.ofBits .f32 0x00800000#32 = (tinyR : EReal) := by
  unfold Ideal.ofBits Ideal.ieee tinyR
  simp
  norm_num
  rw [← EReal.coe_mul]
  congr 1
  norm_num

/-- The word of one. -/
theorem ofBits_one : Ideal.ofBits .f32 0x3F800000#32 = ((1 : ℝ) : EReal) := by
  have := ofBits_unit 0x3F800000#32 0 (by norm_num) rfl
  rw [this]
  norm_num

/-- The word of minus infinity. -/
theorem ofBits_ninf : Ideal.ofBits .f32 0xFF800000#32 = (⊥ : EReal) := by
  unfold Ideal.ofBits Ideal.ieee
  simp

/-- The word of infinity. -/
theorem ofBits_inf : Ideal.ofBits .f32 0x7F800000#32 = (⊤ : EReal) := by
  unfold Ideal.ofBits Ideal.ieee
  simp

/-- The uniform number of an entry. -/
def uR (n : BitVec 32) : ℝ := max tinyR ((frac n : ℝ) / 8388608)

/-- It is positive. -/
theorem uR_pos (n : BitVec 32) : 0 < uR n := lt_max_of_lt_left (by unfold tinyR; positivity)

/-- It is below one. -/
theorem uR_lt (n : BitVec 32) : uR n < 1 := by
  refine max_lt ?_ ?_
  · unfold tinyR
    norm_num
  · rw [div_lt_one (by norm_num)]
    exact_mod_cast frac_lt n

/-- The uniform number, as both programs make it. -/
theorem uniform_eq (n : BitVec 32) : max (Ideal.ofBits .f32 0x00800000#32) (Ideal.ofBits .f32 (mant n) - Ideal.ofBits .f32 0x3F800000#32) = (uR n : EReal) := by
  rw [ofBits_tiny, ofBits_one, ofBits_unit _ _ (frac_lt n) (mant_toNat n), ← EReal.coe_sub, uR, EReal.coe_strictMono.monotone.map_max]
  congr 2
  ring

/-- The noise of an entry: a Gumbel number. -/
def gR (n : BitVec 32) : ℝ := -Real.log (-Real.log (uR n))

/-- The negated logarithm of the uniform number is positive. -/
theorem neg_log_pos (n : BitVec 32) : 0 < -Real.log (uR n) := neg_pos.mpr (Real.log_neg (uR_pos n) (uR_lt n))

/-- The noise by negations. -/
theorem gumbel_neg (n : BitVec 32) : -(Ideal.log (-(Ideal.log (uR n : EReal)))) = (gR n : EReal) := by
  rw [Ideal.log_coe, if_neg (not_le.mpr (uR_pos n)), ← EReal.coe_neg, Ideal.log_coe, if_neg (not_le.mpr (neg_log_pos n)), ← EReal.coe_neg]
  rfl

/-- The noise by subtractions from zero. -/
theorem gumbel_sub (n : BitVec 32) : (0 : EReal) - Ideal.log ((0 : EReal) - Ideal.log (uR n : EReal)) = (gR n : EReal) := by
  rw [zero_sub, zero_sub, gumbel_neg]

end Cert.Noise

end
-- ==== Proof.PreVal.lean ====
/- What the precondition says of an array of logits. -/
module

public import proofs.«01_k».proof.Pre_proper_logits
public import proofs.«01_k».proof.Proof.BlockVal
public import proofs.«01_k».proof.Proof.Noise
public import Idealize.ShloMosaic.Lib.ReduceAll

@[expose] public section

set_option maxRecDepth 16384

noncomputable section

namespace Cert.Pre_proper_logits

open Idealize.ShloMosaic Cert.Noise

theorem fact_bcast_big : S_.BroadcastsInDim S64x1000000 (![] : Fin 0 → Fin S64x1000000.rank) := by decide
theorem fact_all : S64x1000000.ReducesTo [0, 1] S_ := by decide
theorem fact_unit : 0 < S_.numel := by decide
theorem fact_row : S64x1000000.ReducesTo [1] S64 := by decide
theorem fact_bcast_row : S_.BroadcastsInDim S64 (![] : Fin 0 → Fin S64.rank) := by decide
theorem fact_rows : S64.ReducesTo [0] S_ := by decide

/-- The side conditions of the precondition's operations. -/
theorem facts : Facts where
  bcast_S_S64x1000000 := fact_bcast_big
  reducesTo_S64x1000000_S_d0_1 := fact_all
  h_S_ := fact_unit
  reducesTo_S64x1000000_S64_d1 := fact_row
  bcast_S_S64 := fact_bcast_row
  reducesTo_S64_S_d0 := fact_rows

/-- A fold by the larger of two over a row. -/
theorem row_fold (a : S64x1000000.Idx → EReal) (u : S_.Idx → EReal) (j : S64.Idx) :
    Host.reduce (max : EReal → EReal → EReal) a u fact_row fact_unit j
      = (Finset.univ : Finset (Fin 1000000)).fold max (u (Shape.Idx.first fact_unit)) fun k => a (ValueIdx.ix2 (n0 := 64) (n1 := 1000000) (j 0) k) :=
  (Host.reduce_eq_fold (max : EReal → EReal → EReal) a u fact_row fact_unit j).trans
    (Shape.ReducesTo.fold_fiber_r2_a1 fact_row j (max : EReal → EReal → EReal) (u (Shape.Idx.first fact_unit)) a)

/-- The same, for the operation as printed. -/
theorem row_fold_op (a : FVec Ideal S64x1000000 .f32) (u : FVec Ideal S_ .f32) (j : S64.Idx) :
    Host.reduce (FloatOps.maximumf (F := Ideal) (φ := .f32)) a u fact_row fact_unit j
      = (Finset.univ : Finset (Fin 1000000)).fold max (u (Shape.Idx.first fact_unit)) fun k => a (ValueIdx.ix2 (n0 := 64) (n1 := 1000000) (j 0) k) := by
  have e : (FloatOps.maximumf (F := Ideal) (φ := .f32)) = (max : EReal → EReal → EReal) := rfl
  rw [e]
  exact row_fold a u j

/-- A vector compared with the word of the bottom value. -/
theorem above_at (v : FVec Ideal S64 .f32) (j : S64.Idx) :
    cmpf .ogt v (broadcastInDim S64 ![] fact_bcast_row (constant (F := Ideal) S_ .f32 0xFF800000#32)) j = BitVec.ofBool (decide (Ideal.ofBits .f32 0xFF800000#32 < v j)) := rfl

/-- A bit made of a decision is set exactly where it holds. -/
theorem ofBool_one {p : Prop} [Decidable p] (h : BitVec.ofBool (decide p) = 1#1) : p := by
  by_contra hn
  rw [decide_eq_false hn] at h
  exact absurd h (by decide)

/-- No logit is infinite above, and each row holds one that is not infinite below. -/
theorem read (a : FVec Ideal S64x1000000 .f32) (h : @fn facts Ideal _ a = fun _ => 1#1) :
    (∀ i, a i < ⊤) ∧ ∀ r : Fin 64, ∃ k : Fin 1000000, ⊥ < a (ValueIdx.ix2 (n0 := 64) (n1 := 1000000) r k) := by
  have h0 := congrFun h (fun b : Fin 0 => b.elim0)
  obtain ⟨h1, h2⟩ := IntOp.andi_eq_one.1 h0
  haveI : Subsingleton S_.Idx := ⟨fun x y => funext fun b : Fin 0 => b.elim0⟩
  refine ⟨fun i => ?_, fun r => ?_⟩
  · have k := Host.reduce_andi_all _ _ _ _ _ h1 i
    have k' : BitVec.ofBool (decide (a i < Ideal.ofBits .f32 0x7F800000#32)) = 1#1 := k
    rw [ofBits_inf] at k'
    exact ofBool_one k'
  · have k := Host.reduce_andi_all _ _ _ _ _ h2 (ValueIdx.ix1 (n := 64) r)
    have k' := (above_at _ _).symm.trans k
    have k2 := (ofBool_one k').trans_eq (row_fold_op a (constant (F := Ideal) S_ .f32 0xFF800000#32) (ValueIdx.ix1 (n := 64) r))
    have e : (constant (F := Ideal) S_ .f32 0xFF800000#32) (Shape.Idx.first fact_unit) = ⊥ := ofBits_ninf
    rw [e, ofBits_ninf] at k2
    obtain ⟨c, hc⟩ := (Cert.KernelIdeal.Reg.fold_max (n := 1000000) (by norm_num) fun k => a (ValueIdx.ix2 (n0 := 64) (n1 := 1000000) r k)).2
    exact ⟨c, k2.trans_eq hc.symm⟩

end Cert.Pre_proper_logits

end
-- ==== Proof.WordMain.lean ====
/- The float words of the first region: each entry has the word of its flat index. -/
module

public import proofs.«01_k».proof.Proof.Word
public import Idealize.ShloMosaic.PureOps.Ideal.Laws
public import Idealize.ShloMosaic.Lib.Pipeline.Value
public import proofs.«01_k».proof.Proof.MainOut

@[expose] public section

set_option maxRecDepth 16384

noncomputable section

namespace Cert.KernelIdeal.Reg

open Cert.KernelIdeal.Gen
open Idealize.ShloMosaic Idealize.ShloMosaic.TcCoe
open Cert.Noise

/-- `k0_pay7` at an entry is `(s1 n).1` at its flat index. -/
theorem wk0_pay7 {i : grid0.Coords} {v5 : Vec Ideal S64x1920 .i32} {j : S64x1920.Idx} {n : BitVec 32} (h : v5 j + BitVec.ofNat 32 (i 0).val * 1920#32 = n) : k0_pay7 (F := Ideal) i v5 j = (s1 n).1 := by
  subst h
  change (((shapeCast S64x1920 v5 shapeCasts_S64x1920_S64x1920 j) + (BitVec.ofNat 32 (i 0).val * 1920#32)) + (42#32)) = _
  rw [shapeCast_self]
  rfl
/-- `k0_pay8` at an entry is `(s1 n).2` at its flat index. -/
theorem wk0_pay8 {i : grid0.Coords} {v5 : Vec Ideal S64x1920 .i32} {j : S64x1920.Idx} {n : BitVec 32} (h : v5 j + BitVec.ofNat 32 (i 0).val * 1920#32 = n) : k0_pay8 (F := Ideal) i v5 j = (s1 n).2 := by
  change ((((k0_pay7 (F := Ideal) i v5 j) <<< (13#32)) ||| ((k0_pay7 (F := Ideal) i v5 j) >>> (19#32))) ^^^ (k0_pay7 (F := Ideal) i v5 j)) = _
  rw [wk0_pay7 h]
  rfl
/-- `k0_pay9` at an entry is `(s2 n).1` at its flat index. -/
theorem wk0_pay9 {i : grid0.Coords} {v5 : Vec Ideal S64x1920 .i32} {j : S64x1920.Idx} {n : BitVec 32} (h : v5 j + BitVec.ofNat 32 (i 0).val * 1920#32 = n) : k0_pay9 (F := Ideal) i v5 j = (s2 n).1 := by
  change ((k0_pay7 (F := Ideal) i v5 j) + (k0_pay8 (F := Ideal) i v5 j)) = _
  rw [wk0_pay7 h, wk0_pay8 h]
  rfl
/-- `k0_pay10` at an entry is `(s2 n).2` at its flat index. -/
theorem wk0_pay10 {i : grid0.Coords} {v5 : Vec Ideal S64x1920 .i32} {j : S64x1920.Idx} {n : BitVec 32} (h : v5 j + BitVec.ofNat 32 (i 0).val * 1920#32 = n) : k0_pay10 (F := Ideal) i v5 j = (s2 n).2 := by
  change ((((k0_pay8 (F := Ideal) i v5 j) <<< (15#32)) ||| ((k0_pay8 (F := Ideal) i v5 j) >>> (17#32))) ^^^ (k0_pay9 (F := Ideal) i v5 j)) = _
  rw [wk0_pay8 h, wk0_pay9 h]
  rfl
/-- `k0_pay11` at an entry is `(s3 n).1` at its flat index. -/
theorem wk0_pay11 {i : grid0.Coords} {v5 : Vec Ideal S64x1920 .i32} {j : S64x1920.Idx} {n : BitVec 32} (h : v5 j + BitVec.ofNat 32 (i 0).val * 1920#32 = n) : k0_pay11 (F := Ideal) i v5 j = (s3 n).1 := by
  change ((k0_pay9 (F := Ideal) i v5 j) + (k0_pay10 (F := Ideal) i v5 j)) = _
  rw [wk0_pay9 h, wk0_pay10 h]
  rfl
/-- `k0_pay12` at an entry is `(s3 n).2` at its flat index. -/
theorem wk0_pay12 {i : grid0.Coords} {v5 : Vec Ideal S64x1920 .i32} {j : S64x1920.Idx} {n : BitVec 32} (h : v5 j + BitVec.ofNat 32 (i 0).val * 1920#32 = n) : k0_pay12 (F := Ideal) i v5 j = (s3 n).2 := by
  change ((((k0_pay10 (F := Ideal) i v5 j) <<< (26#32)) ||| ((k0_pay10 (F := Ideal) i v5 j) >>> (6#32))) ^^^ (k0_pay11 (F := Ideal) i v5 j)) = _
  rw [wk0_pay10 h, wk0_pay11 h]
  rfl
/-- `k0_pay13` at an entry is `(s4 n).1` at its flat index. -/
theorem wk0_pay13 {i : grid0.Coords} {v5 : Vec Ideal S64x1920 .i32} {j : S64x1920.Idx} {n : BitVec 32} (h : v5 j + BitVec.ofNat 32 (i 0).val * 1920#32 = n) : k0_pay13 (F := Ideal) i v5 j = (s4 n).1 := by
  change ((k0_pay11 (F := Ideal) i v5 j) + (k0_pay12 (F := Ideal) i v5 j)) = _
  rw [wk0_pay11 h, wk0_pay12 h]
  rfl
/-- `k0_pay14` at an entry is `(s4 n).2` at its flat index. -/
theorem wk0_pay14 {i : grid0.Coords} {v5 : Vec Ideal S64x1920 .i32} {j : S64x1920.Idx} {n : BitVec 32} (h : v5 j + BitVec.ofNat 32 (i 0).val * 1920#32 = n) : k0_pay14 (F := Ideal) i v5 j = (s4 n).2 := by
  change ((((k0_pay12 (F := Ideal) i v5 j) <<< (6#32)) ||| ((k0_pay12 (F := Ideal) i v5 j) >>> (26#32))) ^^^ (k0_pay13 (F := Ideal) i v5 j)) = _
  rw [wk0_pay12 h, wk0_pay13 h]
  rfl
/-- `k0_pay15` at an entry is `(t0 n).1` at its flat index. -/
theorem wk0_pay15 {i : grid0.Coords} {v5 : Vec Ideal S64x1920 .i32} {j : S64x1920.Idx} {n : BitVec 32} (h : v5 j + BitVec.ofNat 32 (i 0).val * 1920#32 = n) : k0_pay15 (F := Ideal) i v5 j = (t0 n).1 := by
  change ((k0_pay13 (F := Ideal) i v5 j) + (42#32)) = _
  rw [wk0_pay13 h]
  rfl
/-- `k0_pay16` at an entry is `(t0 n).2` at its flat index. -/
theorem wk0_pay16 {v37 v39 : IVec S64x1920 32} {j : S64x1920.Idx} {n : BitVec 32} (h37 : v37 j = (s4 n).2) (h39 : v39 j = (t0 n).1) : k0_pay16 v37 466689009#32 j = (t0 n).2 := by
  change ((v37 j) + (466689009#32)) = _
  rw [h37]
  rfl
/-- `k0_pay17` at an entry is `(s5 n).1` at its flat index. -/
theorem wk0_pay17 {v37 v39 : IVec S64x1920 32} {j : S64x1920.Idx} {n : BitVec 32} (h37 : v37 j = (s4 n).2) (h39 : v39 j = (t0 n).1) : k0_pay17 v37 v39 466689009#32 j = (s5 n).1 := by
  change ((v39 j) + (k0_pay16 v37 466689009#32 j)) = _
  rw [h39, wk0_pay16 h37 h39]
  rfl
/-- `k0_pay18` at an entry is `(s5 n).2` at its flat index. -/
theorem wk0_pay18 {v37 v39 : IVec S64x1920 32} {j : S64x1920.Idx} {n : BitVec 32} (h37 : v37 j = (s4 n).2) (h39 : v39 j = (t0 n).1) : k0_pay18 v37 v39 466689009#32 j = (s5 n).2 := by
  change ((((k0_pay16 v37 466689009#32 j) <<< (17#32)) ||| ((k0_pay16 v37 466689009#32 j) >>> (15#32))) ^^^ (k0_pay17 v37 v39 466689009#32 j)) = _
  rw [wk0_pay16 h37 h39, wk0_pay17 h37 h39]
  rfl
/-- `k0_pay19` at an entry is `(s6 n).1` at its flat index. -/
theorem wk0_pay19 {v37 v39 : IVec S64x1920 32} {j : S64x1920.Idx} {n : BitVec 32} (h37 : v37 j = (s4 n).2) (h39 : v39 j = (t0 n).1) : k0_pay19 v37 v39 466689009#32 j = (s6 n).1 := by
  change ((k0_pay17 v37 v39 466689009#32 j) + (k0_pay18 v37 v39 466689009#32 j)) = _
  rw [wk0_pay17 h37 h39, wk0_pay18 h37 h39]
  rfl
/-- `k0_pay20` at an entry is `(s6 n).2` at its flat index. -/
theorem wk0_pay20 {v37 v39 : IVec S64x1920 32} {j : S64x1920.Idx} {n : BitVec 32} (h37 : v37 j = (s4 n).2) (h39 : v39 j = (t0 n).1) : k0_pay20 v37 v39 466689009#32 j = (s6 n).2 := by
  change ((((k0_pay18 v37 v39 466689009#32 j) <<< (29#32)) ||| ((k0_pay18 v37 v39 466689009#32 j) >>> (3#32))) ^^^ (k0_pay19 v37 v39 466689009#32 j)) = _
  rw [wk0_pay18 h37 h39, wk0_pay19 h37 h39]
  rfl
/-- `k0_pay21` at an entry is `(s7 n).1` at its flat index. -/
theorem wk0_pay21 {v37 v39 : IVec S64x1920 32} {j : S64x1920.Idx} {n : BitVec 32} (h37 : v37 j = (s4 n).2) (h39 : v39 j = (t0 n).1) : k0_pay21 v37 v39 466689009#32 j = (s7 n).1 := by
  change ((k0_pay19 v37 v39 466689009#32 j) + (k0_pay20 v37 v39 466689009#32 j)) = _
  rw [wk0_pay19 h37 h39, wk0_pay20 h37 h39]
  rfl
/-- `k0_pay22` at an entry is `(s7 n).2` at its flat index. -/
theorem wk0_pay22 {v37 v39 : IVec S64x1920 32} {j : S64x1920.Idx} {n : BitVec 32} (h37 : v37 j = (s4 n).2) (h39 : v39 j = (t0 n).1) : k0_pay22 v37 v39 466689009#32 j = (s7 n).2 := by
  change ((((k0_pay20 v37 v39 466689009#32 j) <<< (16#32)) ||| ((k0_pay20 v37 v39 466689009#32 j) >>> (16#32))) ^^^ (k0_pay21 v37 v39 466689009#32 j)) = _
  rw [wk0_pay20 h37 h39, wk0_pay21 h37 h39]
  rfl
/-- `k0_pay23` at an entry is `(s8 n).1` at its flat index. -/
theorem wk0_pay23 {v37 v39 : IVec S64x1920 32} {j : S64x1920.Idx} {n : BitVec 32} (h37 : v37 j = (s4 n).2) (h39 : v39 j = (t0 n).1) : k0_pay23 v37 v39 466689009#32 j = (s8 n).1 := by
  change ((k0_pay21 v37 v39 466689009#32 j) + (k0_pay22 v37 v39 466689009#32 j)) = _
  rw [wk0_pay21 h37 h39, wk0_pay22 h37 h39]
  rfl
/-- `k0_pay24` at an entry is `(t1 n).2` at its flat index. -/
theorem wk0_pay24 {v37 v39 : IVec S64x1920 32} {j : S64x1920.Idx} {n : BitVec 32} (h37 : v37 j = (s4 n).2) (h39 : v39 j = (t0 n).1) : k0_pay24 v37 v39 466689009#32 j = (t1 n).2 := by
  change (((((k0_pay22 v37 v39 466689009#32 j) <<< (24#32)) ||| ((k0_pay22 v37 v39 466689009#32 j) >>> (8#32))) ^^^ (k0_pay23 v37 v39 466689009#32 j)) + (2#32)) = _
  rw [wk0_pay22 h37 h39, wk0_pay23 h37 h39]
  rfl
/-- `k0_pay25` at an entry is `(s9 n).1` at its flat index. -/
theorem wk0_pay25 {v37 v39 : IVec S64x1920 32} {j : S64x1920.Idx} {n : BitVec 32} (h37 : v37 j = (s4 n).2) (h39 : v39 j = (t0 n).1) : k0_pay25 v37 v39 466689009#32 j = (s9 n).1 := by
  change (((k0_pay23 v37 v39 466689009#32 j) + (466689008#32)) + (k0_pay24 v37 v39 466689009#32 j)) = _
  rw [wk0_pay23 h37 h39, wk0_pay24 h37 h39]
  rfl
/-- `k0_pay26` at an entry is `(s9 n).2` at its flat index. -/
theorem wk0_pay26 {v37 v39 : IVec S64x1920 32} {j : S64x1920.Idx} {n : BitVec 32} (h37 : v37 j = (s4 n).2) (h39 : v39 j = (t0 n).1) : k0_pay26 v37 v39 466689009#32 j = (s9 n).2 := by
  change ((((k0_pay24 v37 v39 466689009#32 j) <<< (13#32)) ||| ((k0_pay24 v37 v39 466689009#32 j) >>> (19#32))) ^^^ (k0_pay25 v37 v39 466689009#32 j)) = _
  rw [wk0_pay24 h37 h39, wk0_pay25 h37 h39]
  rfl
/-- `k0_pay27` at an entry is `(s10 n).1` at its flat index. -/
theorem wk0_pay27 {v37 v39 : IVec S64x1920 32} {j : S64x1920.Idx} {n : BitVec 32} (h37 : v37 j = (s4 n).2) (h39 : v39 j = (t0 n).1) : k0_pay27 v37 v39 466689009#32 j = (s10 n).1 := by
  change ((k0_pay25 v37 v39 466689009#32 j) + (k0_pay26 v37 v39 466689009#32 j)) = _
  rw [wk0_pay25 h37 h39, wk0_pay26 h37 h39]
  rfl
/-- `k0_pay28` at an entry is `(s9 n).2 <<< 15#32` at its flat index. -/
theorem wk0_pay28 {v37 v39 : IVec S64x1920 32} {j : S64x1920.Idx} {n : BitVec 32} (h37 : v37 j = (s4 n).2) (h39 : v39 j = (t0 n).1) : k0_pay28 v37 v39 466689009#32 j = (s9 n).2 <<< 15#32 := by
  change ((k0_pay26 v37 v39 466689009#32 j) <<< (15#32)) = _
  rw [wk0_pay26 h37 h39]
/-- `k0_pay29` at an entry is `(s9 n).2 >>> 17#32` at its flat index. -/
theorem wk0_pay29 {v37 v39 : IVec S64x1920 32} {j : S64x1920.Idx} {n : BitVec 32} (h37 : v37 j = (s4 n).2) (h39 : v39 j = (t0 n).1) : k0_pay29 v37 v39 466689009#32 j = (s9 n).2 >>> 17#32 := by
  change ((k0_pay26 v37 v39 466689009#32 j) >>> (17#32)) = _
  rw [wk0_pay26 h37 h39]
/-- `k0_pay30` at an entry is `(s10 n).2` at its flat index. -/
theorem wk0_pay30 {v81 v83 v85 : IVec S64x1920 32} {j : S64x1920.Idx} {n : BitVec 32} (h81 : v81 j = (s10 n).1) (h83 : v83 j = (s9 n).2 <<< 15#32) (h85 : v85 j = (s9 n).2 >>> 17#32) : k0_pay30 v81 v83 v85 j = (s10 n).2 := by
  change (((v83 j) ||| (v85 j)) ^^^ (v81 j)) = _
  rw [h83, h85, h81]
  rfl
/-- `k0_pay31` at an entry is `(s11 n).1` at its flat index. -/
theorem wk0_pay31 {v81 v83 v85 : IVec S64x1920 32} {j : S64x1920.Idx} {n : BitVec 32} (h81 : v81 j = (s10 n).1) (h83 : v83 j = (s9 n).2 <<< 15#32) (h85 : v85 j = (s9 n).2 >>> 17#32) : k0_pay31 v81 v83 v85 j = (s11 n).1 := by
  change ((v81 j) + (k0_pay30 v81 v83 v85 j)) = _
  rw [h81, wk0_pay30 h81 h83 h85]
  rfl
/-- `k0_pay32` at an entry is `(s11 n).2` at its flat index. -/
theorem wk0_pay32 {v81 v83 v85 : IVec S64x1920 32} {j : S64x1920.Idx} {n : BitVec 32} (h81 : v81 j = (s10 n).1) (h83 : v83 j = (s9 n).2 <<< 15#32) (h85 : v85 j = (s9 n).2 >>> 17#32) : k0_pay32 v81 v83 v85 j = (s11 n).2 := by
  change ((((k0_pay30 v81 v83 v85 j) <<< (26#32)) ||| ((k0_pay30 v81 v83 v85 j) >>> (6#32))) ^^^ (k0_pay31 v81 v83 v85 j)) = _
  rw [wk0_pay30 h81 h83 h85, wk0_pay31 h81 h83 h85]
  rfl
/-- `k0_pay33` at an entry is `(s12 n).1` at its flat index. -/
theorem wk0_pay33 {v81 v83 v85 : IVec S64x1920 32} {j : S64x1920.Idx} {n : BitVec 32} (h81 : v81 j = (s10 n).1) (h83 : v83 j = (s9 n).2 <<< 15#32) (h85 : v85 j = (s9 n).2 >>> 17#32) : k0_pay33 v81 v83 v85 j = (s12 n).1 := by
  change ((k0_pay31 v81 v83 v85 j) + (k0_pay32 v81 v83 v85 j)) = _
  rw [wk0_pay31 h81 h83 h85, wk0_pay32 h81 h83 h85]
  rfl
/-- `k0_pay34` at an entry is `(t2 n).2` at its flat index. -/
theorem wk0_pay34 {v81 v83 v85 : IVec S64x1920 32} {j : S64x1920.Idx} {n : BitVec 32} (h81 : v81 j = (s10 n).1) (h83 : v83 j = (s9 n).2 <<< 15#32) (h85 : v85 j = (s9 n).2 >>> 17#32) : k0_pay34 v81 v83 v85 j = (t2 n).2 := by
  change (((((k0_pay32 v81 v83 v85 j) <<< (6#32)) ||| ((k0_pay32 v81 v83 v85 j) >>> (26#32))) ^^^ (k0_pay33 v81 v83 v85 j)) + (45#32)) = _
  rw [wk0_pay32 h81 h83 h85, wk0_pay33 h81 h83 h85]
  rfl
/-- `k0_pay35` at an entry is `(s13 n).1` at its flat index. -/
theorem wk0_pay35 {v81 v83 v85 : IVec S64x1920 32} {j : S64x1920.Idx} {n : BitVec 32} (h81 : v81 j = (s10 n).1) (h83 : v83 j = (s9 n).2 <<< 15#32) (h85 : v85 j = (s9 n).2 >>> 17#32) : k0_pay35 v81 v83 v85 j = (s13 n).1 := by
  change (((k0_pay33 v81 v83 v85 j) + (0#32)) + (k0_pay34 v81 v83 v85 j)) = _
  rw [wk0_pay33 h81 h83 h85, wk0_pay34 h81 h83 h85]
  rfl
/-- `k0_pay36` at an entry is `(s13 n).2` at its flat index. -/
theorem wk0_pay36 {v81 v83 v85 : IVec S64x1920 32} {j : S64x1920.Idx} {n : BitVec 32} (h81 : v81 j = (s10 n).1) (h83 : v83 j = (s9 n).2 <<< 15#32) (h85 : v85 j = (s9 n).2 >>> 17#32) : k0_pay36 v81 v83 v85 j = (s13 n).2 := by
  change ((((k0_pay34 v81 v83 v85 j) <<< (17#32)) ||| ((k0_pay34 v81 v83 v85 j) >>> (15#32))) ^^^ (k0_pay35 v81 v83 v85 j)) = _
  rw [wk0_pay34 h81 h83 h85, wk0_pay35 h81 h83 h85]
  rfl
/-- `k0_pay37` at an entry is `(s14 n).1` at its flat index. -/
theorem wk0_pay37 {v81 v83 v85 : IVec S64x1920 32} {j : S64x1920.Idx} {n : BitVec 32} (h81 : v81 j = (s10 n).1) (h83 : v83 j = (s9 n).2 <<< 15#32) (h85 : v85 j = (s9 n).2 >>> 17#32) : k0_pay37 v81 v83 v85 j = (s14 n).1 := by
  change ((k0_pay35 v81 v83 v85 j) + (k0_pay36 v81 v83 v85 j)) = _
  rw [wk0_pay35 h81 h83 h85, wk0_pay36 h81 h83 h85]
  rfl
/-- `k0_pay38` at an entry is `(s14 n).2` at its flat index. -/
theorem wk0_pay38 {v81 v83 v85 : IVec S64x1920 32} {j : S64x1920.Idx} {n : BitVec 32} (h81 : v81 j = (s10 n).1) (h83 : v83 j = (s9 n).2 <<< 15#32) (h85 : v85 j = (s9 n).2 >>> 17#32) : k0_pay38 v81 v83 v85 j = (s14 n).2 := by
  change ((((k0_pay36 v81 v83 v85 j) <<< (29#32)) ||| ((k0_pay36 v81 v83 v85 j) >>> (3#32))) ^^^ (k0_pay37 v81 v83 v85 j)) = _
  rw [wk0_pay36 h81 h83 h85, wk0_pay37 h81 h83 h85]
  rfl
/-- `k0_pay39` at an entry is `(s15 n).1` at its flat index. -/
theorem wk0_pay39 {v81 v83 v85 : IVec S64x1920 32} {j : S64x1920.Idx} {n : BitVec 32} (h81 : v81 j = (s10 n).1) (h83 : v83 j = (s9 n).2 <<< 15#32) (h85 : v85 j = (s9 n).2 >>> 17#32) : k0_pay39 v81 v83 v85 j = (s15 n).1 := by
  change ((k0_pay37 v81 v83 v85 j) + (k0_pay38 v81 v83 v85 j)) = _
  rw [wk0_pay37 h81 h83 h85, wk0_pay38 h81 h83 h85]
  rfl
/-- `k0_pay40` at an entry is `(s15 n).2` at its flat index. -/
theorem wk0_pay40 {v81 v83 v85 : IVec S64x1920 32} {j : S64x1920.Idx} {n : BitVec 32} (h81 : v81 j = (s10 n).1) (h83 : v83 j = (s9 n).2 <<< 15#32) (h85 : v85 j = (s9 n).2 >>> 17#32) : k0_pay40 v81 v83 v85 j = (s15 n).2 := by
  change ((((k0_pay38 v81 v83 v85 j) <<< (16#32)) ||| ((k0_pay38 v81 v83 v85 j) >>> (16#32))) ^^^ (k0_pay39 v81 v83 v85 j)) = _
  rw [wk0_pay38 h81 h83 h85, wk0_pay39 h81 h83 h85]
  rfl
/-- `k0_pay41` at an entry is `(s16 n).1` at its flat index. -/
theorem wk0_pay41 {v81 v83 v85 : IVec S64x1920 32} {j : S64x1920.Idx} {n : BitVec 32} (h81 : v81 j = (s10 n).1) (h83 : v83 j = (s9 n).2 <<< 15#32) (h85 : v85 j = (s9 n).2 >>> 17#32) : k0_pay41 v81 v83 v85 j = (s16 n).1 := by
  change ((k0_pay39 v81 v83 v85 j) + (k0_pay40 v81 v83 v85 j)) = _
  rw [wk0_pay39 h81 h83 h85, wk0_pay40 h81 h83 h85]
  rfl
/-- `k0_pay42` at an entry is `(s15 n).2 <<< 24#32` at its flat index. -/
theorem wk0_pay42 {v81 v83 v85 : IVec S64x1920 32} {j : S64x1920.Idx} {n : BitVec 32} (h81 : v81 j = (s10 n).1) (h83 : v83 j = (s9 n).2 <<< 15#32) (h85 : v85 j = (s9 n).2 >>> 17#32) : k0_pay42 v81 v83 v85 j = (s15 n).2 <<< 24#32 := by
  change ((k0_pay40 v81 v83 v85 j) <<< (24#32)) = _
  rw [wk0_pay40 h81 h83 h85]
/-- `k0_pay43` at an entry is `(s15 n).2 >>> 8#32` at its flat index. -/
theorem wk0_pay43 {v81 v83 v85 : IVec S64x1920 32} {j : S64x1920.Idx} {n : BitVec 32} (h81 : v81 j = (s10 n).1) (h83 : v83 j = (s9 n).2 <<< 15#32) (h85 : v85 j = (s9 n).2 >>> 17#32) : k0_pay43 v81 v83 v85 j = (s15 n).2 >>> 8#32 := by
  change ((k0_pay40 v81 v83 v85 j) >>> (8#32)) = _
  rw [wk0_pay40 h81 h83 h85]

/-- The float word of a block's entry, after the last rounds. -/
theorem wk0_pay44 {v127 v129 v131 : IVec S64x1920 32} {j : S64x1920.Idx} {n : BitVec 32}
    (h1 : v127 j = (s16 n).1) (h2 : v129 j = (s15 n).2 <<< 24#32) (h3 : v131 j = (s15 n).2 >>> 8#32) :
    k0_pay44 (F := Ideal) v127 v129 v131 j = FloatOps.ofBits .f32 (mant n) := by
  have e : k0_pay44 (F := Ideal) v127 v129 v131 j = FloatOps.ofBits .f32
      (let q := inj 466689008#32 5#32 (rnd 6#32 26#32 (rnd 26#32 6#32 (rnd 15#32 17#32 (rnd 13#32 19#32 (inj 42#32 466689012#32 (v127 j, (v129 j ||| v131 j) ^^^ v127 j))))))
      (q.1 ^^^ q.2) >>> 9#32 ||| 1065353216#32) := rfl
  rw [e, h1, h2, h3]
  rfl

/-- Entry `j` of a block of the first region has the float word of its flat index. -/
theorem mainRaw_apply {i : grid0.Coords} {v5 : Vec Ideal S64x1920 .i32} {j : S64x1920.Idx} {n : BitVec 32}
    (h : v5 j + BitVec.ofNat 32 (i 0).val * 1920#32 = n) : mainRaw (F := Ideal) i v5 j = FloatOps.ofBits .f32 (mant n) := by
  have a := wk0_pay14 h
  have b := wk0_pay15 h
  have c := wk0_pay27 a b
  have d := wk0_pay28 a b
  have e := wk0_pay29 a b
  exact wk0_pay44 (wk0_pay41 c d e) (wk0_pay42 c d e) (wk0_pay43 c d e)

end Cert.KernelIdeal.Reg

end
-- ==== Proof.StepVal.lean ====
/- One grid point of the first region over the extended reals: it takes the next 1920 columns into the running
   sums, the running maximum and its first column. -/
module

public import proofs.«01_k».proof.Proof.BlockVal
public import proofs.«01_k».proof.Proof.WordMain
public import proofs.«01_k».proof.Proof.Noise

@[expose] public section

set_option maxRecDepth 16384

noncomputable section

namespace Cert.KernelIdeal.Reg

open Cert.KernelIdeal Cert.KernelIdeal.Gen Idealize.ShloMosaic Idealize.ShloMosaic.TcCoe
open Cert.Maths Cert.Noise

/-- The flat index of a row's column, as a word. -/
def flat (r k : ℕ) : BitVec 32 := BitVec.ofNat 32 (r * 1000000 + k)

/-- A row of logits with its noise added. -/
def pert (x : ℕ → EReal) (r : ℕ) (k : ℕ) : EReal := x k + (gR (flat r k) : EReal)

/-- After `n` columns of the row of `j` the four accumulators hold the two sums, the largest perturbed logit, and
    its first column. -/
def Inv (x : ℕ → EReal) (n : ℕ) (o : Vec Ideal S64x1 .f32 × Vec Ideal S64x1 .f32 × Vec Ideal S64x1 .f32 × Vec Ideal S64x1 .i32) (j : S64x1.Idx) : Prop :=
  o.1 j = ∑ c ∈ Finset.range n, Ideal.exp (x c) ∧ o.2.1 j = ∑ c ∈ Finset.range n, x c * Ideal.exp (x c) ∧
    ∃ i, First (pert x (j 0).val) n (o.2.2.1 j) i ∧ o.2.2.2 j = BitVec.ofNat 32 i

/-- The noise that both regions make of a word on [1, 2), by subtractions from the word of zero. -/
theorem noise_eq (n : BitVec 32) (a : EReal) (h : a = Ideal.ofBits .f32 (mant n)) :
    Ideal.ofBits .f32 0x00000000#32 - Ideal.log (Ideal.ofBits .f32 0x00000000#32 - Ideal.log (max (Ideal.ofBits .f32 0x00800000#32) (a - Ideal.ofBits .f32 0x3F800000#32)))
      = (gR n : EReal) := by
  rw [h, uniform_eq, Ideal.ofBits_zero_f32, gumbel_sub]

/-- An entry of the perturbed block. -/
theorem pay49_apply (x0 : Vec Ideal S64x1920 .f32) (raw : FVec Ideal S64x1920 .f32) (j : S64x1920.Idx) :
    k0_pay49 (F := Ideal) x0 raw k0_pay45 j = x0 j + (Ideal.ofBits .f32 0x00000000#32 - Ideal.log (Ideal.ofBits .f32 0x00000000#32
      - Ideal.log (max (Ideal.ofBits .f32 0x00800000#32) (raw j - Ideal.ofBits .f32 0x3F800000#32)))) := rfl

/-- The first accumulator's step. -/
theorem pay47_apply (x0 : Vec Ideal S64x1920 .f32) (o : Vec Ideal S64x1 .f32) (j : S64x1.Idx) (x : ℕ → EReal) (n : ℕ)
    (hx : ∀ k : Fin 1920, x0 (blk j k) = x (n + k)) :
    k0_pay47 x0 o j = o j + ∑ c ∈ Finset.range 1920, Ideal.exp (x (n + c)) := by
  unfold k0_pay47
  dsimp only
  rw [shapeCast_self]
  exact congrArg (o j + ·) (row_sum (k0_pay46 x0) j (fun c => Ideal.exp (x (n + c))) (fun k => by rw [← hx k]; rfl))

/-- The second accumulator's step. -/
theorem pay48_apply (x0 : Vec Ideal S64x1920 .f32) (o : Vec Ideal S64x1 .f32) (j : S64x1.Idx) (x : ℕ → EReal) (n : ℕ)
    (hx : ∀ k : Fin 1920, x0 (blk j k) = x (n + k)) :
    k0_pay48 x0 o j = o j + ∑ c ∈ Finset.range 1920, x (n + c) * Ideal.exp (x (n + c)) := by
  unfold k0_pay48
  dsimp only
  rw [shapeCast_self]
  exact congrArg (o j + ·) (row_sum (mulf x0 (k0_pay46 x0)) j (fun c => x (n + c) * Ideal.exp (x (n + c))) (fun k => by rw [← hx k]; rfl))

/-- The choice by a strictly larger value. -/
theorem select_gt {α : Type} (a b : EReal) (p q : α) : Scalar.select (Ideal.cmp .ogt a b) p q = if b < a then p else q := by
  unfold Scalar.select Ideal.cmp
  by_cases h : b < a
  · simp [h]
  · simp [h]

/-- The third accumulator's step. -/
theorem pay1_apply (x0 : Vec Ideal S64x1920 .f32) (raw : FVec Ideal S64x1920 .f32) (o : Vec Ideal S64x1 .f32) (j : S64x1.Idx) :
    k0_pay1 (k0_pay50 x0 raw k0_pay45) (k0_pay52 x0 raw k0_pay45 o) o j
      = if o j < k0_pay50 (F := Ideal) x0 raw k0_pay45 j then k0_pay50 (F := Ideal) x0 raw k0_pay45 j else o j := by
  unfold k0_pay1 k0_pay52
  dsimp only
  rw [shapeCast_self]
  generalize k0_pay50 (F := Ideal) x0 raw k0_pay45 = M
  exact select_gt (M j) (o j) (M j) (o j)

/-- The fourth accumulator's step. -/
theorem pay2_apply (x0 : Vec Ideal S64x1920 .f32) (raw : FVec Ideal S64x1920 .f32) (o : Vec Ideal S64x1 .f32) (off : BitVec 32) (bi : IVec S64x1 32) (q : Vec Ideal S64x1 .i32) (j : S64x1.Idx) :
    k0_pay2 (F := Ideal) off bi (k0_pay52 x0 raw k0_pay45 o) q j
      = if o j < k0_pay50 (F := Ideal) x0 raw k0_pay45 j then bi j + off else q j := by
  unfold k0_pay2 k0_pay52
  dsimp only
  rw [shapeCast_self, shapeCast_self]
  generalize k0_pay50 (F := Ideal) x0 raw k0_pay45 = M
  exact select_gt (M j) (o j) (bi j + off) (q j)

/-- A grid point's four results, one by one. -/
theorem mainStep_parts {F : FTy → Type} [FloatOps F] (i : grid0.Coords) (x0 : Vec F S64x1920 .f32) (x1 x2 : Vec F S64x1920 .i32)
    (o : Vec F S64x1 .f32 × Vec F S64x1 .f32 × Vec F S64x1 .f32 × Vec F S64x1 .i32) :
    (mainStep i x0 x1 x2 o).1 = k0_pay47 x0 o.1 ∧ (mainStep i x0 x1 x2 o).2.1 = k0_pay48 x0 o.2.1 ∧
    (mainStep i x0 x1 x2 o).2.2.1 = k0_pay1 (k0_pay50 x0 (mainRaw i x1) k0_pay45) (k0_pay52 x0 (mainRaw i x1) k0_pay45 o.2.2.1) o.2.2.1 ∧
    (mainStep i x0 x1 x2 o).2.2.2 = k0_pay2 (BitVec.ofNat 32 (i 0).val * 1920#32) (k0_pay51 x0 (mainRaw i x1) k0_pay45 x2) (k0_pay52 x0 (mainRaw i x1) k0_pay45 o.2.2.1) o.2.2.2 :=
  ⟨rfl, rfl, rfl, rfl⟩

/-- The first column at which a block has its maximum. -/
theorem pay51_eq {F : FTy → Type} [FloatOps F] (x0 : Vec F S64x1920 .f32) (raw : FVec F S64x1920 .f32) (x2 : Vec F S64x1920 .i32) :
    k0_pay51 x0 raw k0_pay45 x2 = shapeCast S64x1 (multiReductionI .minsi [1] S64 (select (cmpf .oeq (k0_pay49 x0 raw k0_pay45)
      (broadcastTo S64x1920 (k0_pay50 x0 raw k0_pay45) broadcasts_S64x1_S64x1920)) x2 (broadcast S64x1920 2147483647#32))
        2147483647#32 reduces_S64x1920_S64 rfl) shapeCasts_S64_S64x1 := by
  unfold k0_pay51
  dsimp only
  rw [shapeCast_self]

/-- One grid point takes the next 1920 columns in. -/
theorem mainStep_inv (i : grid0.Coords) (x0 : Vec Ideal S64x1920 .f32) (x1 x2 : Vec Ideal S64x1920 .i32)
    (o : Vec Ideal S64x1 .f32 × Vec Ideal S64x1 .f32 × Vec Ideal S64x1 .f32 × Vec Ideal S64x1 .i32) (j : S64x1.Idx) (x : ℕ → EReal)
    (hx : ∀ k : Fin 1920, x0 (blk j k) = x ((i 0).val * 1920 + k)) (hn : (i 0).val < 520)
    (h1 : ∀ k : Fin 1920, x1 (blk j k) = flat (j 0).val k) (h2 : ∀ k : Fin 1920, x2 (blk j k) = BitVec.ofNat 32 k.val)
    (h : Inv x ((i 0).val * 1920) o j) : Inv x ((i 0).val * 1920 + 1920) (mainStep i x0 x1 x2 o) j := by
  obtain ⟨e1, e2, w, e3, e4⟩ := h
  have hz : ∀ k : Fin 1920, k0_pay49 (F := Ideal) x0 (mainRaw i x1) k0_pay45 (blk j k) = pert x (j 0).val ((i 0).val * 1920 + k) := fun k => by
    rw [pay49_apply, noise_eq (flat (j 0).val ((i 0).val * 1920 + k)), hx]
    · rfl
    · refine mainRaw_apply ?_
      rw [h1]
      have : (j 0).val < 64 := (j 0).isLt
      have := k.isLt
      unfold flat
      apply BitVec.eq_of_toNat_eq
      simp only [BitVec.toNat_add, BitVec.toNat_mul, BitVec.toNat_ofNat]
      omega
  obtain ⟨a1, c, a2, a3, a4, a5⟩ := row_arg (k0_pay49 (F := Ideal) x0 (mainRaw i x1) k0_pay45) x2 j (fun c => pert x (j 0).val ((i 0).val * 1920 + c)) h2 hz
    (k0_pay50 x0 (mainRaw i x1) k0_pay45) rfl
  obtain ⟨p1, p2, p3, p4⟩ := mainStep_parts i x0 x1 x2 o
  rw [← pay51_eq] at a5
  unfold Inv
  rw [p1, p2, p3, p4, pay1_apply, pay2_apply, pay47_apply x0 o.1 j x _ hx, pay48_apply x0 o.2.1 j x _ hx, a5]
  generalize k0_pay50 (F := Ideal) x0 (mainRaw i x1) k0_pay45 = M at *
  refine ⟨?_, ?_, (if o.2.2.1 j < M j then (i 0).val * 1920 + c else w), ?_, ?_⟩
  · rw [Finset.sum_range_add, ← e1]
  · rw [Finset.sum_range_add, ← e2]
  · exact e3.step (b := 1920) (by norm_num) a1 fun _ => ⟨a2, a3, a4⟩
  · by_cases hg : o.2.2.1 j < M j
    · rw [if_pos hg, if_pos hg]
      apply BitVec.eq_of_toNat_eq
      simp only [BitVec.toNat_add, BitVec.toNat_mul, BitVec.toNat_ofNat]
      omega
    · rw [if_neg hg, if_neg hg]
      exact e4

/-- Before any column. -/
theorem mainInit_inv (x : ℕ → EReal) (j : S64x1.Idx) : Inv x 0 (mainInit (F := Ideal)) j := by
  refine ⟨?_, ?_, 0, ?_, rfl⟩
  · rw [Finset.sum_range_zero]
    exact Ideal.ofBits_zero_f32
  · rw [Finset.sum_range_zero]
    exact Ideal.ofBits_zero_f32
  · have : (mainInit (F := Ideal)).2.2.1 j = (⊥ : EReal) := ofBits_ninf
    rw [this]
    exact First.zero _

end Cert.KernelIdeal.Reg

end
-- ==== Proof.MainVal.lean ====
/- The first region over the extended reals: after its last point the accumulators hold the row's first 998400 columns. -/
module

public import proofs.«01_k».proof.Proof.StepVal
public import proofs.«01_k».proof.Proof.Blocks

@[expose] public section

set_option maxRecDepth 16384

noncomputable section

namespace Cert.KernelIdeal.Reg

open Cert.KernelIdeal Cert.KernelIdeal.Gen Idealize.ShloMosaic Idealize.ShloMosaic.TcCoe
open Cert.Maths Cert.Noise

/-- A row of an array of logits; the bottom value past its end. -/
def rowAt (a : FVec Ideal S64x1000000 .f32) (r : Fin 64) (k : ℕ) : EReal :=
  if h : k < 1000000 then a (ValueIdx.ix2 (n0 := 64) (n1 := 1000000) r ⟨k, h⟩) else ⊥

/-- Inside the array. -/
theorem rowAt_lt (a : FVec Ideal S64x1000000 .f32) (r : Fin 64) (k : ℕ) (h : k < 1000000) :
    rowAt a r k = a (ValueIdx.ix2 (n0 := 64) (n1 := 1000000) r ⟨k, h⟩) := dif_pos h

variable (W : (c : Dev nD) → (b : Ref sig .tc) → Buf (Elt Ideal) ((c : Thread nD τ).loc b))

/-- The grid's one coordinate is the point's number. -/
theorem coords0 : ∀ t : Fin cfg0.N, (grid0.coords t 0).val = t.val := by decide +kernel

/-- A point's block of logits. -/
theorem X0_row (c : Dev nD) (t : Fin cfg0.N) (j : S64x1.Idx) (k : Fin 1920) :
    X0_0 W c t (blk j k) = rowAt (W c main_arg0) (j 0) (t.val * 1920 + k.val) := by
  have ht : t.val < 520 := by have h := t.isLt; have hN : cfg0.N = 520 := N_0; omega
  have hk := k.isLt
  refine ((X0_0_apply W c t (blk j k)).trans ?_).trans (rowAt_lt (W c main_arg0) (j 0) _ (by omega)).symm
  refine congrArg (W c main_arg0) (funext fun a => ?_)
  match a with
  | ⟨0, _⟩ => rfl
  | ⟨1, _⟩ => rfl

/-- After point `k` the accumulators hold the first `(k + 1) * 1920` columns. -/
theorem outs_inv (c : Dev nD) (j : S64x1.Idx)
    (h5 : ∀ k : Fin 1920, W c main_v5 (blk j k) = flat (j 0).val k) (h0 : ∀ k : Fin 1920, W c main_v0 (blk j k) = BitVec.ofNat 32 k.val) :
    ∀ (k : ℕ) (hk : k < cfg0.N), Inv (rowAt (W c main_arg0) (j 0)) (k * 1920 + 1920) (outsAt0 W c k hk) j := by
  have step : ∀ (t : Fin cfg0.N) (o : Vec Ideal S64x1 .f32 × Vec Ideal S64x1 .f32 × Vec Ideal S64x1 .f32 × Vec Ideal S64x1 .i32),
      Inv (rowAt (W c main_arg0) (j 0)) (t.val * 1920) o j →
      Inv (rowAt (W c main_arg0) (j 0)) (t.val * 1920 + 1920) (mainStep (grid0.coords t) (X0_0 W c t) (iblk0 W c 1 t) (iblk0 W c 2 t) o) j := fun t o h => by
    have ht : t.val < 520 := by have h := t.isLt; have hN : cfg0.N = 520 := N_0; omega
    have e := coords0 t
    rw [iblk0_1, iblk0_2]
    rw [← e] at h ⊢
    exact mainStep_inv (grid0.coords t) (X0_0 W c t) (W c main_v5) (W c main_v0) o j _ (fun k => by rw [e]; exact X0_row W c t j k) (by rw [e]; exact ht) h5 h0 h
  intro k
  induction k with
  | zero =>
    intro hk
    rw [outsAt0_zero W c ⟨0, hk⟩ rfl]
    refine step ⟨0, hk⟩ mainInit ?_
    have e : (⟨0, hk⟩ : Fin cfg0.N).val * 1920 = 0 := Nat.zero_mul _
    rw [e]
    exact mainInit_inv _ j
  | succ k ih =>
    intro hk
    have hN : cfg0.N = 520 := N_0
    rw [outsAt0_succ W c ⟨k + 1, hk⟩ (by show ¬(k + 1) % 520 = 0; omega)]
    refine step ⟨k + 1, hk⟩ _ ?_
    have e : (⟨k + 1, hk⟩ : Fin cfg0.N).val * 1920 = k * 1920 + 1920 := by show (k + 1) * 1920 = _; ring
    rw [e]
    exact ih (by omega)

/-- At the end of the first region. -/
theorem main_inv (c : Dev nD) (j : S64x1.Idx)
    (h5 : ∀ k : Fin 1920, W c main_v5 (blk j k) = flat (j 0).val k) (h0 : ∀ k : Fin 1920, W c main_v0 (blk j k) = BitVec.ofNat 32 k.val) :
    Inv (rowAt (W c main_arg0) (j 0)) 998400 (outsAt0 W c 519 tLast0.isLt) j :=
  outs_inv W c j h5 h0 519 tLast0.isLt

end Cert.KernelIdeal.Reg

end
-- ==== Proof.WordTail.lean ====
/- The float words of the last block and of the winning entry: each has the word of its flat index. -/
module

public import proofs.«01_k».proof.Proof.Word
public import Idealize.ShloMosaic.PureOps.Ideal.Laws
public import Idealize.ShloMosaic.Lib.Pipeline.Value
public import proofs.«01_k».proof.Proof.TailOut

@[expose] public section

set_option maxRecDepth 16384

noncomputable section

namespace Cert.KernelIdeal.Reg

open Cert.KernelIdeal.Gen
open Idealize.ShloMosaic Idealize.ShloMosaic.TcCoe
open Cert.Noise

/-- `k1_pay6` at an entry is `(s1 n).1` at its flat index. -/
theorem wk1_pay6 {v5 : Vec Ideal S64x1920 .i32} {j : S64x1920.Idx} {n : BitVec 32} (h : v5 j + 998400#32 = n) : k1_pay6 (F := Ideal) v5 j = (s1 n).1 := by
  subst h
  change (((shapeCast S64x1920 v5 shapeCasts_S64x1920_S64x1920 j) + (998400#32)) + (42#32)) = _
  rw [shapeCast_self]
  rfl
/-- `k1_pay7` at an entry is `(s1 n).2` at its flat index. -/
theorem wk1_pay7 {v5 : Vec Ideal S64x1920 .i32} {j : S64x1920.Idx} {n : BitVec 32} (h : v5 j + 998400#32 = n) : k1_pay7 (F := Ideal) v5 j = (s1 n).2 := by
  change ((((k1_pay6 (F := Ideal) v5 j) <<< (13#32)) ||| ((k1_pay6 (F := Ideal) v5 j) >>> (19#32))) ^^^ (k1_pay6 (F := Ideal) v5 j)) = _
  rw [wk1_pay6 h]
  rfl
/-- `k1_pay8` at an entry is `(s2 n).1` at its flat index. -/
theorem wk1_pay8 {v5 : Vec Ideal S64x1920 .i32} {j : S64x1920.Idx} {n : BitVec 32} (h : v5 j + 998400#32 = n) : k1_pay8 (F := Ideal) v5 j = (s2 n).1 := by
  change ((k1_pay6 (F := Ideal) v5 j) + (k1_pay7 (F := Ideal) v5 j)) = _
  rw [wk1_pay6 h, wk1_pay7 h]
  rfl
/-- `k1_pay9` at an entry is `(s2 n).2` at its flat index. -/
theorem wk1_pay9 {v5 : Vec Ideal S64x1920 .i32} {j : S64x1920.Idx} {n : BitVec 32} (h : v5 j + 998400#32 = n) : k1_pay9 (F := Ideal) v5 j = (s2 n).2 := by
  change ((((k1_pay7 (F := Ideal) v5 j) <<< (15#32)) ||| ((k1_pay7 (F := Ideal) v5 j) >>> (17#32))) ^^^ (k1_pay8 (F := Ideal) v5 j)) = _
  rw [wk1_pay7 h, wk1_pay8 h]
  rfl
/-- `k1_pay10` at an entry is `(s3 n).1` at its flat index. -/
theorem wk1_pay10 {v5 : Vec Ideal S64x1920 .i32} {j : S64x1920.Idx} {n : BitVec 32} (h : v5 j + 998400#32 = n) : k1_pay10 (F := Ideal) v5 j = (s3 n).1 := by
  change ((k1_pay8 (F := Ideal) v5 j) + (k1_pay9 (F := Ideal) v5 j)) = _
  rw [wk1_pay8 h, wk1_pay9 h]
  rfl
/-- `k1_pay11` at an entry is `(s3 n).2` at its flat index. -/
theorem wk1_pay11 {v5 : Vec Ideal S64x1920 .i32} {j : S64x1920.Idx} {n : BitVec 32} (h : v5 j + 998400#32 = n) : k1_pay11 (F := Ideal) v5 j = (s3 n).2 := by
  change ((((k1_pay9 (F := Ideal) v5 j) <<< (26#32)) ||| ((k1_pay9 (F := Ideal) v5 j) >>> (6#32))) ^^^ (k1_pay10 (F := Ideal) v5 j)) = _
  rw [wk1_pay9 h, wk1_pay10 h]
  rfl
/-- `k1_pay12` at an entry is `(s4 n).1` at its flat index. -/
theorem wk1_pay12 {v5 : Vec Ideal S64x1920 .i32} {j : S64x1920.Idx} {n : BitVec 32} (h : v5 j + 998400#32 = n) : k1_pay12 (F := Ideal) v5 j = (s4 n).1 := by
  change ((k1_pay10 (F := Ideal) v5 j) + (k1_pay11 (F := Ideal) v5 j)) = _
  rw [wk1_pay10 h, wk1_pay11 h]
  rfl
/-- `k1_pay13` at an entry is `(s4 n).2` at its flat index. -/
theorem wk1_pay13 {v5 : Vec Ideal S64x1920 .i32} {j : S64x1920.Idx} {n : BitVec 32} (h : v5 j + 998400#32 = n) : k1_pay13 (F := Ideal) v5 j = (s4 n).2 := by
  change ((((k1_pay11 (F := Ideal) v5 j) <<< (6#32)) ||| ((k1_pay11 (F := Ideal) v5 j) >>> (26#32))) ^^^ (k1_pay12 (F := Ideal) v5 j)) = _
  rw [wk1_pay11 h, wk1_pay12 h]
  rfl
/-- `k1_pay14` at an entry is `(t0 n).1` at its flat index. -/
theorem wk1_pay14 {v5 : Vec Ideal S64x1920 .i32} {j : S64x1920.Idx} {n : BitVec 32} (h : v5 j + 998400#32 = n) : k1_pay14 (F := Ideal) v5 j = (t0 n).1 := by
  change ((k1_pay12 (F := Ideal) v5 j) + (42#32)) = _
  rw [wk1_pay12 h]
  rfl
/-- `k1_pay15` at an entry is `(t0 n).2` at its flat index. -/
theorem wk1_pay15 {v37 v39 : IVec S64x1920 32} {j : S64x1920.Idx} {n : BitVec 32} (h37 : v37 j = (s4 n).2) (h39 : v39 j = (t0 n).1) : k1_pay15 v37 466689009#32 j = (t0 n).2 := by
  change ((v37 j) + (466689009#32)) = _
  rw [h37]
  rfl
/-- `k1_pay16` at an entry is `(s5 n).1` at its flat index. -/
theorem wk1_pay16 {v37 v39 : IVec S64x1920 32} {j : S64x1920.Idx} {n : BitVec 32} (h37 : v37 j = (s4 n).2) (h39 : v39 j = (t0 n).1) : k1_pay16 v37 v39 466689009#32 j = (s5 n).1 := by
  change ((v39 j) + (k1_pay15 v37 466689009#32 j)) = _
  rw [h39, wk1_pay15 h37 h39]
  rfl
/-- `k1_pay17` at an entry is `(s5 n).2` at its flat index. -/
theorem wk1_pay17 {v37 v39 : IVec S64x1920 32} {j : S64x1920.Idx} {n : BitVec 32} (h37 : v37 j = (s4 n).2) (h39 : v39 j = (t0 n).1) : k1_pay17 v37 v39 466689009#32 j = (s5 n).2 := by
  change ((((k1_pay15 v37 466689009#32 j) <<< (17#32)) ||| ((k1_pay15 v37 466689009#32 j) >>> (15#32))) ^^^ (k1_pay16 v37 v39 466689009#32 j)) = _
  rw [wk1_pay15 h37 h39, wk1_pay16 h37 h39]
  rfl
/-- `k1_pay18` at an entry is `(s6 n).1` at its flat index. -/
theorem wk1_pay18 {v37 v39 : IVec S64x1920 32} {j : S64x1920.Idx} {n : BitVec 32} (h37 : v37 j = (s4 n).2) (h39 : v39 j = (t0 n).1) : k1_pay18 v37 v39 466689009#32 j = (s6 n).1 := by
  change ((k1_pay16 v37 v39 466689009#32 j) + (k1_pay17 v37 v39 466689009#32 j)) = _
  rw [wk1_pay16 h37 h39, wk1_pay17 h37 h39]
  rfl
/-- `k1_pay19` at an entry is `(s6 n).2` at its flat index. -/
theorem wk1_pay19 {v37 v39 : IVec S64x1920 32} {j : S64x1920.Idx} {n : BitVec 32} (h37 : v37 j = (s4 n).2) (h39 : v39 j = (t0 n).1) : k1_pay19 v37 v39 466689009#32 j = (s6 n).2 := by
  change ((((k1_pay17 v37 v39 466689009#32 j) <<< (29#32)) ||| ((k1_pay17 v37 v39 466689009#32 j) >>> (3#32))) ^^^ (k1_pay18 v37 v39 466689009#32 j)) = _
  rw [wk1_pay17 h37 h39, wk1_pay18 h37 h39]
  rfl
/-- `k1_pay20` at an entry is `(s7 n).1` at its flat index. -/
theorem wk1_pay20 {v37 v39 : IVec S64x1920 32} {j : S64x1920.Idx} {n : BitVec 32} (h37 : v37 j = (s4 n).2) (h39 : v39 j = (t0 n).1) : k1_pay20 v37 v39 466689009#32 j = (s7 n).1 := by
  change ((k1_pay18 v37 v39 466689009#32 j) + (k1_pay19 v37 v39 466689009#32 j)) = _
  rw [wk1_pay18 h37 h39, wk1_pay19 h37 h39]
  rfl
/-- `k1_pay21` at an entry is `(s7 n).2` at its flat index. -/
theorem wk1_pay21 {v37 v39 : IVec S64x1920 32} {j : S64x1920.Idx} {n : BitVec 32} (h37 : v37 j = (s4 n).2) (h39 : v39 j = (t0 n).1) : k1_pay21 v37 v39 466689009#32 j = (s7 n).2 := by
  change ((((k1_pay19 v37 v39 466689009#32 j) <<< (16#32)) ||| ((k1_pay19 v37 v39 466689009#32 j) >>> (16#32))) ^^^ (k1_pay20 v37 v39 466689009#32 j)) = _
  rw [wk1_pay19 h37 h39, wk1_pay20 h37 h39]
  rfl
/-- `k1_pay22` at an entry is `(s8 n).1` at its flat index. -/
theorem wk1_pay22 {v37 v39 : IVec S64x1920 32} {j : S64x1920.Idx} {n : BitVec 32} (h37 : v37 j = (s4 n).2) (h39 : v39 j = (t0 n).1) : k1_pay22 v37 v39 466689009#32 j = (s8 n).1 := by
  change ((k1_pay20 v37 v39 466689009#32 j) + (k1_pay21 v37 v39 466689009#32 j)) = _
  rw [wk1_pay20 h37 h39, wk1_pay21 h37 h39]
  rfl
/-- `k1_pay23` at an entry is `(t1 n).2` at its flat index. -/
theorem wk1_pay23 {v37 v39 : IVec S64x1920 32} {j : S64x1920.Idx} {n : BitVec 32} (h37 : v37 j = (s4 n).2) (h39 : v39 j = (t0 n).1) : k1_pay23 v37 v39 466689009#32 j = (t1 n).2 := by
  change (((((k1_pay21 v37 v39 466689009#32 j) <<< (24#32)) ||| ((k1_pay21 v37 v39 466689009#32 j) >>> (8#32))) ^^^ (k1_pay22 v37 v39 466689009#32 j)) + (2#32)) = _
  rw [wk1_pay21 h37 h39, wk1_pay22 h37 h39]
  rfl
/-- `k1_pay24` at an entry is `(s9 n).1` at its flat index. -/
theorem wk1_pay24 {v37 v39 : IVec S64x1920 32} {j : S64x1920.Idx} {n : BitVec 32} (h37 : v37 j = (s4 n).2) (h39 : v39 j = (t0 n).1) : k1_pay24 v37 v39 466689009#32 j = (s9 n).1 := by
  change (((k1_pay22 v37 v39 466689009#32 j) + (466689008#32)) + (k1_pay23 v37 v39 466689009#32 j)) = _
  rw [wk1_pay22 h37 h39, wk1_pay23 h37 h39]
  rfl
/-- `k1_pay25` at an entry is `(s9 n).2` at its flat index. -/
theorem wk1_pay25 {v37 v39 : IVec S64x1920 32} {j : S64x1920.Idx} {n : BitVec 32} (h37 : v37 j = (s4 n).2) (h39 : v39 j = (t0 n).1) : k1_pay25 v37 v39 466689009#32 j = (s9 n).2 := by
  change ((((k1_pay23 v37 v39 466689009#32 j) <<< (13#32)) ||| ((k1_pay23 v37 v39 466689009#32 j) >>> (19#32))) ^^^ (k1_pay24 v37 v39 466689009#32 j)) = _
  rw [wk1_pay23 h37 h39, wk1_pay24 h37 h39]
  rfl
/-- `k1_pay26` at an entry is `(s10 n).1` at its flat index. -/
theorem wk1_pay26 {v37 v39 : IVec S64x1920 32} {j : S64x1920.Idx} {n : BitVec 32} (h37 : v37 j = (s4 n).2) (h39 : v39 j = (t0 n).1) : k1_pay26 v37 v39 466689009#32 j = (s10 n).1 := by
  change ((k1_pay24 v37 v39 466689009#32 j) + (k1_pay25 v37 v39 466689009#32 j)) = _
  rw [wk1_pay24 h37 h39, wk1_pay25 h37 h39]
  rfl
/-- `k1_pay27` at an entry is `(s9 n).2 <<< 15#32` at its flat index. -/
theorem wk1_pay27 {v37 v39 : IVec S64x1920 32} {j : S64x1920.Idx} {n : BitVec 32} (h37 : v37 j = (s4 n).2) (h39 : v39 j = (t0 n).1) : k1_pay27 v37 v39 466689009#32 j = (s9 n).2 <<< 15#32 := by
  change ((k1_pay25 v37 v39 466689009#32 j) <<< (15#32)) = _
  rw [wk1_pay25 h37 h39]
/-- `k1_pay28` at an entry is `(s9 n).2 >>> 17#32` at its flat index. -/
theorem wk1_pay28 {v37 v39 : IVec S64x1920 32} {j : S64x1920.Idx} {n : BitVec 32} (h37 : v37 j = (s4 n).2) (h39 : v39 j = (t0 n).1) : k1_pay28 v37 v39 466689009#32 j = (s9 n).2 >>> 17#32 := by
  change ((k1_pay25 v37 v39 466689009#32 j) >>> (17#32)) = _
  rw [wk1_pay25 h37 h39]
/-- `k1_pay29` at an entry is `(s10 n).2` at its flat index. -/
theorem wk1_pay29 {v81 v83 v85 : IVec S64x1920 32} {j : S64x1920.Idx} {n : BitVec 32} (h81 : v81 j = (s10 n).1) (h83 : v83 j = (s9 n).2 <<< 15#32) (h85 : v85 j = (s9 n).2 >>> 17#32) : k1_pay29 v81 v83 v85 j = (s10 n).2 := by
  change (((v83 j) ||| (v85 j)) ^^^ (v81 j)) = _
  rw [h83, h85, h81]
  rfl
/-- `k1_pay30` at an entry is `(s11 n).1` at its flat index. -/
theorem wk1_pay30 {v81 v83 v85 : IVec S64x1920 32} {j : S64x1920.Idx} {n : BitVec 32} (h81 : v81 j = (s10 n).1) (h83 : v83 j = (s9 n).2 <<< 15#32) (h85 : v85 j = (s9 n).2 >>> 17#32) : k1_pay30 v81 v83 v85 j = (s11 n).1 := by
  change ((v81 j) + (k1_pay29 v81 v83 v85 j)) = _
  rw [h81, wk1_pay29 h81 h83 h85]
  rfl
/-- `k1_pay31` at an entry is `(s11 n).2` at its flat index. -/
theorem wk1_pay31 {v81 v83 v85 : IVec S64x1920 32} {j : S64x1920.Idx} {n : BitVec 32} (h81 : v81 j = (s10 n).1) (h83 : v83 j = (s9 n).2 <<< 15#32) (h85 : v85 j = (s9 n).2 >>> 17#32) : k1_pay31 v81 v83 v85 j = (s11 n).2 := by
  change ((((k1_pay29 v81 v83 v85 j) <<< (26#32)) ||| ((k1_pay29 v81 v83 v85 j) >>> (6#32))) ^^^ (k1_pay30 v81 v83 v85 j)) = _
  rw [wk1_pay29 h81 h83 h85, wk1_pay30 h81 h83 h85]
  rfl
/-- `k1_pay32` at an entry is `(s12 n).1` at its flat index. -/
theorem wk1_pay32 {v81 v83 v85 : IVec S64x1920 32} {j : S64x1920.Idx} {n : BitVec 32} (h81 : v81 j = (s10 n).1) (h83 : v83 j = (s9 n).2 <<< 15#32) (h85 : v85 j = (s9 n).2 >>> 17#32) : k1_pay32 v81 v83 v85 j = (s12 n).1 := by
  change ((k1_pay30 v81 v83 v85 j) + (k1_pay31 v81 v83 v85 j)) = _
  rw [wk1_pay30 h81 h83 h85, wk1_pay31 h81 h83 h85]
  rfl
/-- `k1_pay33` at an entry is `(t2 n).2` at its flat index. -/
theorem wk1_pay33 {v81 v83 v85 : IVec S64x1920 32} {j : S64x1920.Idx} {n : BitVec 32} (h81 : v81 j = (s10 n).1) (h83 : v83 j = (s9 n).2 <<< 15#32) (h85 : v85 j = (s9 n).2 >>> 17#32) : k1_pay33 v81 v83 v85 j = (t2 n).2 := by
  change (((((k1_pay31 v81 v83 v85 j) <<< (6#32)) ||| ((k1_pay31 v81 v83 v85 j) >>> (26#32))) ^^^ (k1_pay32 v81 v83 v85 j)) + (45#32)) = _
  rw [wk1_pay31 h81 h83 h85, wk1_pay32 h81 h83 h85]
  rfl
/-- `k1_pay34` at an entry is `(s13 n).1` at its flat index. -/
theorem wk1_pay34 {v81 v83 v85 : IVec S64x1920 32} {j : S64x1920.Idx} {n : BitVec 32} (h81 : v81 j = (s10 n).1) (h83 : v83 j = (s9 n).2 <<< 15#32) (h85 : v85 j = (s9 n).2 >>> 17#32) : k1_pay34 v81 v83 v85 j = (s13 n).1 := by
  change (((k1_pay32 v81 v83 v85 j) + (0#32)) + (k1_pay33 v81 v83 v85 j)) = _
  rw [wk1_pay32 h81 h83 h85, wk1_pay33 h81 h83 h85]
  rfl
/-- `k1_pay35` at an entry is `(s13 n).2` at its flat index. -/
theorem wk1_pay35 {v81 v83 v85 : IVec S64x1920 32} {j : S64x1920.Idx} {n : BitVec 32} (h81 : v81 j = (s10 n).1) (h83 : v83 j = (s9 n).2 <<< 15#32) (h85 : v85 j = (s9 n).2 >>> 17#32) : k1_pay35 v81 v83 v85 j = (s13 n).2 := by
  change ((((k1_pay33 v81 v83 v85 j) <<< (17#32)) ||| ((k1_pay33 v81 v83 v85 j) >>> (15#32))) ^^^ (k1_pay34 v81 v83 v85 j)) = _
  rw [wk1_pay33 h81 h83 h85, wk1_pay34 h81 h83 h85]
  rfl
/-- `k1_pay36` at an entry is `(s14 n).1` at its flat index. -/
theorem wk1_pay36 {v81 v83 v85 : IVec S64x1920 32} {j : S64x1920.Idx} {n : BitVec 32} (h81 : v81 j = (s10 n).1) (h83 : v83 j = (s9 n).2 <<< 15#32) (h85 : v85 j = (s9 n).2 >>> 17#32) : k1_pay36 v81 v83 v85 j = (s14 n).1 := by
  change ((k1_pay34 v81 v83 v85 j) + (k1_pay35 v81 v83 v85 j)) = _
  rw [wk1_pay34 h81 h83 h85, wk1_pay35 h81 h83 h85]
  rfl
/-- `k1_pay37` at an entry is `(s14 n).2` at its flat index. -/
theorem wk1_pay37 {v81 v83 v85 : IVec S64x1920 32} {j : S64x1920.Idx} {n : BitVec 32} (h81 : v81 j = (s10 n).1) (h83 : v83 j = (s9 n).2 <<< 15#32) (h85 : v85 j = (s9 n).2 >>> 17#32) : k1_pay37 v81 v83 v85 j = (s14 n).2 := by
  change ((((k1_pay35 v81 v83 v85 j) <<< (29#32)) ||| ((k1_pay35 v81 v83 v85 j) >>> (3#32))) ^^^ (k1_pay36 v81 v83 v85 j)) = _
  rw [wk1_pay35 h81 h83 h85, wk1_pay36 h81 h83 h85]
  rfl
/-- `k1_pay38` at an entry is `(s15 n).1` at its flat index. -/
theorem wk1_pay38 {v81 v83 v85 : IVec S64x1920 32} {j : S64x1920.Idx} {n : BitVec 32} (h81 : v81 j = (s10 n).1) (h83 : v83 j = (s9 n).2 <<< 15#32) (h85 : v85 j = (s9 n).2 >>> 17#32) : k1_pay38 v81 v83 v85 j = (s15 n).1 := by
  change ((k1_pay36 v81 v83 v85 j) + (k1_pay37 v81 v83 v85 j)) = _
  rw [wk1_pay36 h81 h83 h85, wk1_pay37 h81 h83 h85]
  rfl
/-- `k1_pay39` at an entry is `(s15 n).2` at its flat index. -/
theorem wk1_pay39 {v81 v83 v85 : IVec S64x1920 32} {j : S64x1920.Idx} {n : BitVec 32} (h81 : v81 j = (s10 n).1) (h83 : v83 j = (s9 n).2 <<< 15#32) (h85 : v85 j = (s9 n).2 >>> 17#32) : k1_pay39 v81 v83 v85 j = (s15 n).2 := by
  change ((((k1_pay37 v81 v83 v85 j) <<< (16#32)) ||| ((k1_pay37 v81 v83 v85 j) >>> (16#32))) ^^^ (k1_pay38 v81 v83 v85 j)) = _
  rw [wk1_pay37 h81 h83 h85, wk1_pay38 h81 h83 h85]
  rfl
/-- `k1_pay40` at an entry is `(s16 n).1` at its flat index. -/
theorem wk1_pay40 {v81 v83 v85 : IVec S64x1920 32} {j : S64x1920.Idx} {n : BitVec 32} (h81 : v81 j = (s10 n).1) (h83 : v83 j = (s9 n).2 <<< 15#32) (h85 : v85 j = (s9 n).2 >>> 17#32) : k1_pay40 v81 v83 v85 j = (s16 n).1 := by
  change ((k1_pay38 v81 v83 v85 j) + (k1_pay39 v81 v83 v85 j)) = _
  rw [wk1_pay38 h81 h83 h85, wk1_pay39 h81 h83 h85]
  rfl
/-- `k1_pay41` at an entry is `(s15 n).2 <<< 24#32` at its flat index. -/
theorem wk1_pay41 {v81 v83 v85 : IVec S64x1920 32} {j : S64x1920.Idx} {n : BitVec 32} (h81 : v81 j = (s10 n).1) (h83 : v83 j = (s9 n).2 <<< 15#32) (h85 : v85 j = (s9 n).2 >>> 17#32) : k1_pay41 v81 v83 v85 j = (s15 n).2 <<< 24#32 := by
  change ((k1_pay39 v81 v83 v85 j) <<< (24#32)) = _
  rw [wk1_pay39 h81 h83 h85]
/-- `k1_pay42` at an entry is `(s15 n).2 >>> 8#32` at its flat index. -/
theorem wk1_pay42 {v81 v83 v85 : IVec S64x1920 32} {j : S64x1920.Idx} {n : BitVec 32} (h81 : v81 j = (s10 n).1) (h83 : v83 j = (s9 n).2 <<< 15#32) (h85 : v85 j = (s9 n).2 >>> 17#32) : k1_pay42 v81 v83 v85 j = (s15 n).2 >>> 8#32 := by
  change ((k1_pay39 v81 v83 v85 j) >>> (8#32)) = _
  rw [wk1_pay39 h81 h83 h85]

/-- The float word of a block's entry, after the last rounds. -/
theorem wk1_pay43 {v127 v129 v131 : IVec S64x1920 32} {j : S64x1920.Idx} {n : BitVec 32}
    (h1 : v127 j = (s16 n).1) (h2 : v129 j = (s15 n).2 <<< 24#32) (h3 : v131 j = (s15 n).2 >>> 8#32) :
    k1_pay43 (F := Ideal) v127 v129 v131 j = FloatOps.ofBits .f32 (mant n) := by
  have e : k1_pay43 (F := Ideal) v127 v129 v131 j = FloatOps.ofBits .f32
      (let q := inj 466689008#32 5#32 (rnd 6#32 26#32 (rnd 26#32 6#32 (rnd 15#32 17#32 (rnd 13#32 19#32 (inj 42#32 466689012#32 (v127 j, (v129 j ||| v131 j) ^^^ v127 j))))))
      (q.1 ^^^ q.2) >>> 9#32 ||| 1065353216#32) := rfl
  rw [e, h1, h2, h3]
  rfl

/-- Entry `j` of the last block has the float word of its flat index. -/
theorem tailRaw_apply {v5 : Vec Ideal S64x1920 .i32} {j : S64x1920.Idx} {n : BitVec 32}
    (h : v5 j + 998400#32 = n) : tailRaw (F := Ideal) v5 j = FloatOps.ofBits .f32 (mant n) := by
  have a := wk1_pay13 h
  have b := wk1_pay14 h
  have c := wk1_pay26 a b
  have d := wk1_pay27 a b
  have e := wk1_pay28 a b
  exact wk1_pay43 (wk1_pay40 c d e) (wk1_pay41 c d e) (wk1_pay42 c d e)

theorem wk1_pay55 {v212 : IVec S64x1 32} {v215 : IVec S64x1 1} {v221 : Vec Ideal S64x1 .i32} {j : S64x1.Idx} {n : BitVec 32}
    (h : BitVec.ofNat 32 (j 0).val * 1000000#32 + k1_pay54 (F := Ideal) v212 v215 v221 j = n) : k1_pay55 (F := Ideal) v212 v215 v221 j = (s1 n).1 := by
  subst h
  have e : iota .tc S64x1 32 [0] iota_S64x1_d0_w32 j = BitVec.ofNat 32 (j 0).val := by
    show BitVec.ofNat 32 _ = _
    congr 1
    simp
  show (iota .tc S64x1 32 [0] iota_S64x1_d0_w32 j * 1000000#32 + k1_pay54 (F := Ideal) v212 v215 v221 j) + 42#32 = _
  rw [e]
  rfl
/-- `k1_pay56` at an entry is `(s1 n).2` at its flat index. -/
theorem wk1_pay56 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay56 v212 v215 v221 j = (s1 n).2 := by
  change ((((k1_pay55 v212 v215 v221 j) <<< (13#32)) ||| ((k1_pay55 v212 v215 v221 j) >>> (19#32))) ^^^ (k1_pay55 v212 v215 v221 j)) = _
  rw [wk1_pay55 h]
  rfl
/-- `k1_pay57` at an entry is `(s2 n).1` at its flat index. -/
theorem wk1_pay57 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay57 v212 v215 v221 j = (s2 n).1 := by
  change ((k1_pay55 v212 v215 v221 j) + (k1_pay56 v212 v215 v221 j)) = _
  rw [wk1_pay55 h, wk1_pay56 h]
  rfl
/-- `k1_pay58` at an entry is `(s2 n).2` at its flat index. -/
theorem wk1_pay58 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay58 v212 v215 v221 j = (s2 n).2 := by
  change ((((k1_pay56 v212 v215 v221 j) <<< (15#32)) ||| ((k1_pay56 v212 v215 v221 j) >>> (17#32))) ^^^ (k1_pay57 v212 v215 v221 j)) = _
  rw [wk1_pay56 h, wk1_pay57 h]
  rfl
/-- `k1_pay59` at an entry is `(s3 n).1` at its flat index. -/
theorem wk1_pay59 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay59 v212 v215 v221 j = (s3 n).1 := by
  change ((k1_pay57 v212 v215 v221 j) + (k1_pay58 v212 v215 v221 j)) = _
  rw [wk1_pay57 h, wk1_pay58 h]
  rfl
/-- `k1_pay60` at an entry is `(s3 n).2` at its flat index. -/
theorem wk1_pay60 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay60 v212 v215 v221 j = (s3 n).2 := by
  change ((((k1_pay58 v212 v215 v221 j) <<< (26#32)) ||| ((k1_pay58 v212 v215 v221 j) >>> (6#32))) ^^^ (k1_pay59 v212 v215 v221 j)) = _
  rw [wk1_pay58 h, wk1_pay59 h]
  rfl
/-- `k1_pay61` at an entry is `(s4 n).1` at its flat index. -/
theorem wk1_pay61 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay61 v212 v215 v221 j = (s4 n).1 := by
  change ((k1_pay59 v212 v215 v221 j) + (k1_pay60 v212 v215 v221 j)) = _
  rw [wk1_pay59 h, wk1_pay60 h]
  rfl
/-- `k1_pay62` at an entry is `(t0 n).2` at its flat index. -/
theorem wk1_pay62 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay62 v212 v215 v221 j = (t0 n).2 := by
  change (((((k1_pay60 v212 v215 v221 j) <<< (6#32)) ||| ((k1_pay60 v212 v215 v221 j) >>> (26#32))) ^^^ (k1_pay61 v212 v215 v221 j)) + (466689009#32)) = _
  rw [wk1_pay60 h, wk1_pay61 h]
  rfl
/-- `k1_pay63` at an entry is `(s5 n).1` at its flat index. -/
theorem wk1_pay63 {v212 : IVec S64x1 32} {v215 : IVec S64x1 1} {v221 : Vec Ideal S64x1 .i32} {j : S64x1.Idx} {n : BitVec 32} (h : BitVec.ofNat 32 (j 0).val * 1000000#32 + k1_pay54 (F := Ideal) v212 v215 v221 j = n) : k1_pay63 v212 v215 v221 j = (s5 n).1 := by
  change (((k1_pay61 v212 v215 v221 j) + (42#32)) + (k1_pay62 v212 v215 v221 j)) = _
  rw [wk1_pay61 h, wk1_pay62 h]
  rfl
/-- `k1_pay64` at an entry is `(s5 n).2` at its flat index. -/
theorem wk1_pay64 {v260 v261 : IVec S64x1 32} {j : S64x1.Idx} {n : BitVec 32} (h0 : v260 j = (t0 n).2) (h1 : v261 j = (s5 n).1) : k1_pay64 v260 v261 17#32 j = (s5 n).2 := by
  change ((((v260 j) <<< (17#32)) ||| ((v260 j) >>> (15#32))) ^^^ (v261 j)) = _
  rw [h0, h1]
  rfl
/-- `k1_pay65` at an entry is `(s6 n).1` at its flat index. -/
theorem wk1_pay65 {v260 v261 : IVec S64x1 32} {j : S64x1.Idx} {n : BitVec 32} (h0 : v260 j = (t0 n).2) (h1 : v261 j = (s5 n).1) : k1_pay65 v260 v261 17#32 j = (s6 n).1 := by
  change ((v261 j) + (k1_pay64 v260 v261 17#32 j)) = _
  rw [h1, wk1_pay64 h0 h1]
  rfl
/-- `k1_pay66` at an entry is `(s6 n).2` at its flat index. -/
theorem wk1_pay66 {v260 v261 : IVec S64x1 32} {j : S64x1.Idx} {n : BitVec 32} (h0 : v260 j = (t0 n).2) (h1 : v261 j = (s5 n).1) : k1_pay66 v260 v261 17#32 j = (s6 n).2 := by
  change ((((k1_pay64 v260 v261 17#32 j) <<< (29#32)) ||| ((k1_pay64 v260 v261 17#32 j) >>> (3#32))) ^^^ (k1_pay65 v260 v261 17#32 j)) = _
  rw [wk1_pay64 h0 h1, wk1_pay65 h0 h1]
  rfl
/-- `k1_pay67` at an entry is `(s7 n).1` at its flat index. -/
theorem wk1_pay67 {v260 v261 : IVec S64x1 32} {j : S64x1.Idx} {n : BitVec 32} (h0 : v260 j = (t0 n).2) (h1 : v261 j = (s5 n).1) : k1_pay67 v260 v261 17#32 j = (s7 n).1 := by
  change ((k1_pay65 v260 v261 17#32 j) + (k1_pay66 v260 v261 17#32 j)) = _
  rw [wk1_pay65 h0 h1, wk1_pay66 h0 h1]
  rfl
/-- `k1_pay68` at an entry is `(s7 n).2` at its flat index. -/
theorem wk1_pay68 {v260 v261 : IVec S64x1 32} {j : S64x1.Idx} {n : BitVec 32} (h0 : v260 j = (t0 n).2) (h1 : v261 j = (s5 n).1) : k1_pay68 v260 v261 17#32 j = (s7 n).2 := by
  change ((((k1_pay66 v260 v261 17#32 j) <<< (16#32)) ||| ((k1_pay66 v260 v261 17#32 j) >>> (16#32))) ^^^ (k1_pay67 v260 v261 17#32 j)) = _
  rw [wk1_pay66 h0 h1, wk1_pay67 h0 h1]
  rfl
/-- `k1_pay69` at an entry is `(s8 n).1` at its flat index. -/
theorem wk1_pay69 {v260 v261 : IVec S64x1 32} {j : S64x1.Idx} {n : BitVec 32} (h0 : v260 j = (t0 n).2) (h1 : v261 j = (s5 n).1) : k1_pay69 v260 v261 17#32 j = (s8 n).1 := by
  change ((k1_pay67 v260 v261 17#32 j) + (k1_pay68 v260 v261 17#32 j)) = _
  rw [wk1_pay67 h0 h1, wk1_pay68 h0 h1]
  rfl
/-- `k1_pay70` at an entry is `(t1 n).2` at its flat index. -/
theorem wk1_pay70 {v260 v261 : IVec S64x1 32} {j : S64x1.Idx} {n : BitVec 32} (h0 : v260 j = (t0 n).2) (h1 : v261 j = (s5 n).1) : k1_pay70 v260 v261 17#32 j = (t1 n).2 := by
  change (((((k1_pay68 v260 v261 17#32 j) <<< (24#32)) ||| ((k1_pay68 v260 v261 17#32 j) >>> (8#32))) ^^^ (k1_pay69 v260 v261 17#32 j)) + (2#32)) = _
  rw [wk1_pay68 h0 h1, wk1_pay69 h0 h1]
  rfl
/-- `k1_pay71` at an entry is `(s9 n).1` at its flat index. -/
theorem wk1_pay71 {v260 v261 : IVec S64x1 32} {j : S64x1.Idx} {n : BitVec 32} (h0 : v260 j = (t0 n).2) (h1 : v261 j = (s5 n).1) : k1_pay71 v260 v261 17#32 j = (s9 n).1 := by
  change (((k1_pay69 v260 v261 17#32 j) + (466689008#32)) + (k1_pay70 v260 v261 17#32 j)) = _
  rw [wk1_pay69 h0 h1, wk1_pay70 h0 h1]
  rfl
/-- `k1_pay72` at an entry is `(s9 n).2` at its flat index. -/
theorem wk1_pay72 {v260 v261 : IVec S64x1 32} {j : S64x1.Idx} {n : BitVec 32} (h0 : v260 j = (t0 n).2) (h1 : v261 j = (s5 n).1) : k1_pay72 v260 v261 17#32 j = (s9 n).2 := by
  change ((((k1_pay70 v260 v261 17#32 j) <<< (13#32)) ||| ((k1_pay70 v260 v261 17#32 j) >>> (19#32))) ^^^ (k1_pay71 v260 v261 17#32 j)) = _
  rw [wk1_pay70 h0 h1, wk1_pay71 h0 h1]
  rfl
/-- `k1_pay73` at an entry is `(s10 n).1` at its flat index. -/
theorem wk1_pay73 {v260 v261 : IVec S64x1 32} {j : S64x1.Idx} {n : BitVec 32} (h0 : v260 j = (t0 n).2) (h1 : v261 j = (s5 n).1) : k1_pay73 v260 v261 17#32 j = (s10 n).1 := by
  change ((k1_pay71 v260 v261 17#32 j) + (k1_pay72 v260 v261 17#32 j)) = _
  rw [wk1_pay71 h0 h1, wk1_pay72 h0 h1]
  rfl
/-- `k1_pay74` at an entry is `(s10 n).2` at its flat index. -/
theorem wk1_pay74 {v260 v261 : IVec S64x1 32} {j : S64x1.Idx} {n : BitVec 32} (h0 : v260 j = (t0 n).2) (h1 : v261 j = (s5 n).1) : k1_pay74 v260 v261 17#32 j = (s10 n).2 := by
  change ((((k1_pay72 v260 v261 17#32 j) <<< (15#32)) ||| ((k1_pay72 v260 v261 17#32 j) >>> (17#32))) ^^^ (k1_pay73 v260 v261 17#32 j)) = _
  rw [wk1_pay72 h0 h1, wk1_pay73 h0 h1]
  rfl
/-- `k1_pay75` at an entry is `(s11 n).1` at its flat index. -/
theorem wk1_pay75 {v260 v261 : IVec S64x1 32} {j : S64x1.Idx} {n : BitVec 32} (h0 : v260 j = (t0 n).2) (h1 : v261 j = (s5 n).1) : k1_pay75 v260 v261 17#32 j = (s11 n).1 := by
  change ((k1_pay73 v260 v261 17#32 j) + (k1_pay74 v260 v261 17#32 j)) = _
  rw [wk1_pay73 h0 h1, wk1_pay74 h0 h1]
  rfl
/-- `k1_pay76` at an entry is `(s11 n).2` at its flat index. -/
theorem wk1_pay76 {v306 v307 : IVec S64x1 32} {j : S64x1.Idx} {n : BitVec 32} (h0 : v306 j = (s10 n).2) (h1 : v307 j = (s11 n).1) : k1_pay76 v306 v307 26#32 j = (s11 n).2 := by
  change ((((v306 j) <<< (26#32)) ||| ((v306 j) >>> (6#32))) ^^^ (v307 j)) = _
  rw [h0, h1]
  rfl
/-- `k1_pay77` at an entry is `(s12 n).1` at its flat index. -/
theorem wk1_pay77 {v306 v307 : IVec S64x1 32} {j : S64x1.Idx} {n : BitVec 32} (h0 : v306 j = (s10 n).2) (h1 : v307 j = (s11 n).1) : k1_pay77 v306 v307 26#32 j = (s12 n).1 := by
  change ((v307 j) + (k1_pay76 v306 v307 26#32 j)) = _
  rw [h1, wk1_pay76 h0 h1]
  rfl
/-- `k1_pay78` at an entry is `(t2 n).2` at its flat index. -/
theorem wk1_pay78 {v306 v307 : IVec S64x1 32} {j : S64x1.Idx} {n : BitVec 32} (h0 : v306 j = (s10 n).2) (h1 : v307 j = (s11 n).1) : k1_pay78 v306 v307 26#32 j = (t2 n).2 := by
  change (((((k1_pay76 v306 v307 26#32 j) <<< (6#32)) ||| ((k1_pay76 v306 v307 26#32 j) >>> (26#32))) ^^^ (k1_pay77 v306 v307 26#32 j)) + (45#32)) = _
  rw [wk1_pay76 h0 h1, wk1_pay77 h0 h1]
  rfl
/-- `k1_pay79` at an entry is `(s13 n).1` at its flat index. -/
theorem wk1_pay79 {v306 v307 : IVec S64x1 32} {j : S64x1.Idx} {n : BitVec 32} (h0 : v306 j = (s10 n).2) (h1 : v307 j = (s11 n).1) : k1_pay79 v306 v307 26#32 j = (s13 n).1 := by
  change (((k1_pay77 v306 v307 26#32 j) + (0#32)) + (k1_pay78 v306 v307 26#32 j)) = _
  rw [wk1_pay77 h0 h1, wk1_pay78 h0 h1]
  rfl
/-- `k1_pay80` at an entry is `(s13 n).2` at its flat index. -/
theorem wk1_pay80 {v306 v307 : IVec S64x1 32} {j : S64x1.Idx} {n : BitVec 32} (h0 : v306 j = (s10 n).2) (h1 : v307 j = (s11 n).1) : k1_pay80 v306 v307 26#32 j = (s13 n).2 := by
  change ((((k1_pay78 v306 v307 26#32 j) <<< (17#32)) ||| ((k1_pay78 v306 v307 26#32 j) >>> (15#32))) ^^^ (k1_pay79 v306 v307 26#32 j)) = _
  rw [wk1_pay78 h0 h1, wk1_pay79 h0 h1]
  rfl
/-- `k1_pay81` at an entry is `(s14 n).1` at its flat index. -/
theorem wk1_pay81 {v306 v307 : IVec S64x1 32} {j : S64x1.Idx} {n : BitVec 32} (h0 : v306 j = (s10 n).2) (h1 : v307 j = (s11 n).1) : k1_pay81 v306 v307 26#32 j = (s14 n).1 := by
  change ((k1_pay79 v306 v307 26#32 j) + (k1_pay80 v306 v307 26#32 j)) = _
  rw [wk1_pay79 h0 h1, wk1_pay80 h0 h1]
  rfl
/-- `k1_pay82` at an entry is `(s14 n).2` at its flat index. -/
theorem wk1_pay82 {v306 v307 : IVec S64x1 32} {j : S64x1.Idx} {n : BitVec 32} (h0 : v306 j = (s10 n).2) (h1 : v307 j = (s11 n).1) : k1_pay82 v306 v307 26#32 j = (s14 n).2 := by
  change ((((k1_pay80 v306 v307 26#32 j) <<< (29#32)) ||| ((k1_pay80 v306 v307 26#32 j) >>> (3#32))) ^^^ (k1_pay81 v306 v307 26#32 j)) = _
  rw [wk1_pay80 h0 h1, wk1_pay81 h0 h1]
  rfl
/-- `k1_pay83` at an entry is `(s15 n).1` at its flat index. -/
theorem wk1_pay83 {v306 v307 : IVec S64x1 32} {j : S64x1.Idx} {n : BitVec 32} (h0 : v306 j = (s10 n).2) (h1 : v307 j = (s11 n).1) : k1_pay83 v306 v307 26#32 j = (s15 n).1 := by
  change ((k1_pay81 v306 v307 26#32 j) + (k1_pay82 v306 v307 26#32 j)) = _
  rw [wk1_pay81 h0 h1, wk1_pay82 h0 h1]
  rfl
/-- `k1_pay84` at an entry is `(s15 n).2` at its flat index. -/
theorem wk1_pay84 {v306 v307 : IVec S64x1 32} {j : S64x1.Idx} {n : BitVec 32} (h0 : v306 j = (s10 n).2) (h1 : v307 j = (s11 n).1) : k1_pay84 v306 v307 26#32 j = (s15 n).2 := by
  change ((((k1_pay82 v306 v307 26#32 j) <<< (16#32)) ||| ((k1_pay82 v306 v307 26#32 j) >>> (16#32))) ^^^ (k1_pay83 v306 v307 26#32 j)) = _
  rw [wk1_pay82 h0 h1, wk1_pay83 h0 h1]
  rfl
/-- `k1_pay85` at an entry is `(s16 n).1` at its flat index. -/
theorem wk1_pay85 {v306 v307 : IVec S64x1 32} {j : S64x1.Idx} {n : BitVec 32} (h0 : v306 j = (s10 n).2) (h1 : v307 j = (s11 n).1) : k1_pay85 v306 v307 26#32 j = (s16 n).1 := by
  change ((k1_pay83 v306 v307 26#32 j) + (k1_pay84 v306 v307 26#32 j)) = _
  rw [wk1_pay83 h0 h1, wk1_pay84 h0 h1]
  rfl
/-- `k1_pay86` at an entry is `(s16 n).2` at its flat index. -/
theorem wk1_pay86 {v306 v307 : IVec S64x1 32} {j : S64x1.Idx} {n : BitVec 32} (h0 : v306 j = (s10 n).2) (h1 : v307 j = (s11 n).1) : k1_pay86 v306 v307 26#32 j = (s16 n).2 := by
  change ((((k1_pay84 v306 v307 26#32 j) <<< (24#32)) ||| ((k1_pay84 v306 v307 26#32 j) >>> (8#32))) ^^^ (k1_pay85 v306 v307 26#32 j)) = _
  rw [wk1_pay84 h0 h1, wk1_pay85 h0 h1]
  rfl

/-- The last rounds of the winning entry, from the state they start from. -/
def winWord (a b : BitVec 32) : BitVec 32 :=
  let q := inj 466689008#32 5#32 (rnd 6#32 26#32 (rnd 26#32 6#32 (rnd 15#32 17#32 (rnd 13#32 19#32 (inj 42#32 466689012#32 (a, b))))))
  (q.1 ^^^ q.2) >>> 9#32 ||| 1065353216#32

/-- The uniform variate of the winning entry, from the state its last rounds start from. -/
theorem k1_pay88_apply {F : FTy → Type} [FloatOps F] (v346 v352 : IVec S64x1 32) (j : S64x1.Idx) :
    k1_pay88 (F := F) v346 v352 k1_pay87 j = FloatOps.maximumf (FloatOps.ofBits .f32 0x00800000#32)
      (FloatOps.subf (FloatOps.ofBits .f32 (winWord (v346 j) (v352 j))) (FloatOps.ofBits .f32 0x3F800000#32)) := rfl

/-- The uniform variate of the winning entry, from its last rounds. -/
theorem wk1_pay88 {v346 v352 : IVec S64x1 32} {j : S64x1.Idx} {n : BitVec 32}
    (h1 : v346 j = (s16 n).1) (h2 : v352 j = (s16 n).2) :
    k1_pay88 (F := Ideal) v346 v352 k1_pay87 j = FloatOps.maximumf (FloatOps.ofBits .f32 0x00800000#32)
      (FloatOps.subf (FloatOps.ofBits .f32 (mant n)) (FloatOps.ofBits .f32 0x3F800000#32)) := by
  rw [k1_pay88_apply, h1, h2]
  have e : winWord (s16 n).1 (s16 n).2 = mant n := rfl
  rw [e]

/-- The uniform variate drawn again for the winning entry. -/
theorem tailU_apply {v212 : IVec S64x1 32} {v215 : IVec S64x1 1} {v221 : Vec Ideal S64x1 .i32} {j : S64x1.Idx} {n : BitVec 32}
    (h : BitVec.ofNat 32 (j 0).val * 1000000#32 + k1_pay54 (F := Ideal) v212 v215 v221 j = n) :
    tailU (F := Ideal) v212 v215 v221 j = FloatOps.maximumf (FloatOps.ofBits .f32 0x00800000#32)
      (FloatOps.subf (FloatOps.ofBits .f32 (mant n)) (FloatOps.ofBits .f32 0x3F800000#32)) := by
  have a := wk1_pay62 h
  have b := wk1_pay63 h
  have c := wk1_pay74 a b
  have d := wk1_pay75 a b
  exact wk1_pay88 (wk1_pay85 c d) (wk1_pay86 c d)

end Cert.KernelIdeal.Reg

end
-- ==== Proof.TailVal.lean ====
/- The second region over the extended reals: it takes in the last 1600 columns and makes the three results. -/
module

public import proofs.«01_k».proof.Proof.StepVal
public import proofs.«01_k».proof.Proof.TailOut
public import proofs.«01_k».proof.Proof.WordTail

@[expose] public section

set_option maxRecDepth 16384

noncomputable section

namespace Cert.KernelIdeal.Reg

open Cert.KernelIdeal Cert.KernelIdeal.Gen Idealize.ShloMosaic Idealize.ShloMosaic.TcCoe
open Cert.Maths Cert.Noise

/-- The mask holds on the first 1600 columns. -/
theorem mask_apply {F : FTy → Type} [FloatOps F] (x2 : Vec F S64x1920 .i32) (j : S64x1.Idx) (h2 : ∀ k : Fin 1920, x2 (blk j k) = BitVec.ofNat 32 k.val) (k : Fin 1920) :
    k1_pay5 (F := F) x2 (blk j k) = if k.val < 1600 then 1#1 else 0#1 := by
  have e : k1_pay5 (F := F) x2 (blk j k) = BitVec.ofBool (BitVec.slt (x2 (blk j k)) 1600#32) := by
    unfold k1_pay5 k1_pay4
    dsimp only
    rw [shapeCast_self]
    rfl
  have hk := k.isLt
  rw [e, h2, BitVec.slt, BitVec.toInt_eq_toNat_of_lt (by rw [BitVec.toNat_ofNat]; omega), BitVec.toInt_eq_toNat_of_lt (by decide), BitVec.toNat_ofNat]
  have e2 : (1600#32).toNat = 1600 := rfl
  rw [e2, Nat.mod_eq_of_lt (by omega)]
  by_cases h : k.val < 1600
  · simp [h]
  · simp [h]

/-- A choice by a decided bit. -/
theorem select_if {α : Type} (p : Prop) [Decidable p] (a b : α) : Scalar.select (if p then 1#1 else 0#1) a b = if p then a else b := by
  unfold Scalar.select
  by_cases h : p
  · simp [h]
  · simp [h]

/-- A masked exponential. -/
theorem pay45_at (x0 : Vec Ideal S64x1920 .f32) (v : IVec S64x1920 1) (j : S64x1920.Idx) :
    k1_pay45 (F := Ideal) x0 v j = Scalar.select (v j) (Ideal.exp (x0 j)) (Ideal.ofBits .f32 0x00000000#32) := rfl

/-- A masked perturbed logit. -/
theorem pay46_at (x0 : Vec Ideal S64x1920 .f32) (v : IVec S64x1920 1) (raw : FVec Ideal S64x1920 .f32) (j : S64x1920.Idx) :
    k1_pay46 (F := Ideal) x0 v raw k1_pay44 j = Scalar.select (v j) (x0 j + (Ideal.ofBits .f32 0x00000000#32 - Ideal.log (Ideal.ofBits .f32 0x00000000#32
      - Ideal.log (max (Ideal.ofBits .f32 0x00800000#32) (raw j - Ideal.ofBits .f32 0x3F800000#32))))) (Ideal.ofBits .f32 0xFF800000#32) := rfl

/-- A masked block's sum is the sum over the columns inside the array. -/
theorem sum_masked (f : ℕ → EReal) : ∑ c ∈ Finset.range 1920, (if c < 1600 then f c else 0) = ∑ c ∈ Finset.range 1600, f c := by
  have e : 1920 = 1600 + 320 := rfl
  rw [e, Finset.sum_range_add]
  have e1 : ∑ c ∈ Finset.range 1600, (if c < 1600 then f c else 0) = ∑ c ∈ Finset.range 1600, f c :=
    Finset.sum_congr rfl fun c hc => if_pos (Finset.mem_range.mp hc)
  have e2 : ∑ c ∈ Finset.range 320, (if 1600 + c < 1600 then f (1600 + c) else 0) = 0 :=
    Finset.sum_eq_zero fun c _ => if_neg (by omega)
  rw [e1, e2, add_zero]

/-- The log-probability's arithmetic. -/
theorem tpay2_at (A B C : FVec Ideal S64x1 .f32) (j : S64x1.Idx) :
    k1_pay2 (F := Ideal) A B C j = (B j - (Ideal.ofBits .f32 0x00000000#32 - Ideal.log (Ideal.ofBits .f32 0x00000000#32 - Ideal.log (C j)))) - Ideal.log (A j) := rfl

/-- The entropy's arithmetic. -/
theorem tpay3_at (A B : FVec Ideal S64x1 .f32) (j : S64x1.Idx) :
    k1_pay3 (F := Ideal) A B j = Ideal.log (A j) - Ideal.div (B j) (A j) := rfl

/-- The three results of the tail, part by part. -/
theorem tailOut_parts {F : FTy → Type} [FloatOps F] (x0 : Vec F S64x1920 .f32) (x1 x2 : Vec F S64x1920 .i32) (x3 x4 x5 : Vec F S64x1 .f32) (x6 : Vec F S64x1 .i32) :
    (tailOut x0 x1 x2 x3 x4 x5 x6).1 = k1_pay54 (F := F) (tailBi x0 x1 x2) (tailGt x0 x1 x2 x5) x6 ∧
    (tailOut x0 x1 x2 x3 x4 x5 x6).2.1 = k1_pay2 (k1_pay47 x0 (k1_pay5 x2) x3)
      (k1_pay53 (k1_pay49 x0 (k1_pay5 x2) (tailRaw x1) k1_pay44) (tailGt x0 x1 x2 x5) (k1_pay52 x5)) (tailU (tailBi x0 x1 x2) (tailGt x0 x1 x2 x5) x6) ∧
    (tailOut x0 x1 x2 x3 x4 x5 x6).2.2 = k1_pay3 (k1_pay47 x0 (k1_pay5 x2) x3) (k1_pay48 x0 (k1_pay5 x2) x4) := ⟨rfl, rfl, rfl⟩

/-- The tail's columns start 998400 on. -/
theorem flat_tail (r k : ℕ) : flat r k + 998400#32 = flat r (998400 + k) := by
  unfold flat
  rw [← BitVec.ofNat_add]
  refine congrArg (BitVec.ofNat 32) ?_
  omega

/-- An index's flat place. -/
theorem flat_index (r i : ℕ) : BitVec.ofNat 32 r * 1000000#32 + BitVec.ofNat 32 i = flat r i := by
  unfold flat
  rw [BitVec.ofNat_add, BitVec.ofNat_mul]

/-- A column's place past the main part. -/
theorem tail_index (c : ℕ) : BitVec.ofNat 32 c + 998400#32 = BitVec.ofNat 32 (998400 + c) := by
  rw [← BitVec.ofNat_add]
  refine congrArg (BitVec.ofNat 32) ?_
  omega

section Tail

variable (x0 : Vec Ideal S64x1920 .f32) (x1 x2 : Vec Ideal S64x1920 .i32) (x : ℕ → EReal) (j : S64x1.Idx)
  (hx : ∀ k : Fin 1920, k.val < 1600 → x0 (blk j k) = x (998400 + k))
  (h1 : ∀ k : Fin 1920, x1 (blk j k) = flat (j 0).val k) (h2 : ∀ k : Fin 1920, x2 (blk j k) = BitVec.ofNat 32 k.val)

include hx h2

/-- The first sum, completed. -/
theorem tail47 (o : Vec Ideal S64x1 .f32) :
    k1_pay47 x0 (k1_pay5 x2) o j = o j + ∑ c ∈ Finset.range 1600, Ideal.exp (x (998400 + c)) := by
  rw [← sum_masked]
  unfold k1_pay47
  dsimp only
  rw [shapeCast_self]
  refine congrArg (o j + ·) (row_sum (k1_pay45 x0 (k1_pay5 x2)) j (fun c => if c < 1600 then Ideal.exp (x (998400 + c)) else 0) fun k => ?_)
  rw [pay45_at, mask_apply x2 j h2 k, select_if, Ideal.ofBits_zero_f32]
  by_cases h : k.val < 1600
  · rw [if_pos h, if_pos h, hx k h]
  · rw [if_neg h, if_neg h]

/-- The second sum, completed. -/
theorem tail48 (o : Vec Ideal S64x1 .f32) :
    k1_pay48 x0 (k1_pay5 x2) o j = o j + ∑ c ∈ Finset.range 1600, x (998400 + c) * Ideal.exp (x (998400 + c)) := by
  rw [← sum_masked fun c => x (998400 + c) * Ideal.exp (x (998400 + c))]
  unfold k1_pay48
  dsimp only
  rw [shapeCast_self]
  refine congrArg (o j + ·) (row_sum (select (k1_pay5 x2) (mulf x0 (k1_pay45 x0 (k1_pay5 x2))) (broadcast S64x1920 (Scalar.ofBits .f32 0x00000000#32))) j
    (fun c => if c < 1600 then x (998400 + c) * Ideal.exp (x (998400 + c)) else 0) fun k => ?_)
  have e : select (k1_pay5 x2) (mulf x0 (k1_pay45 x0 (k1_pay5 x2))) (broadcast S64x1920 (Scalar.ofBits (F := Ideal) .f32 0x00000000#32)) (blk j k)
      = Scalar.select (k1_pay5 x2 (blk j k)) (x0 (blk j k) * k1_pay45 (F := Ideal) x0 (k1_pay5 x2) (blk j k)) (Ideal.ofBits .f32 0x00000000#32) := rfl
  rw [e, pay45_at, mask_apply x2 j h2 k, select_if, select_if, Ideal.ofBits_zero_f32]
  by_cases h : k.val < 1600
  · rw [if_pos h, if_pos h, if_pos h, hx k h]
  · rw [if_neg h, if_neg h]

include h1

/-- A masked perturbed logit, by its column. -/
theorem tail46 (k : Fin 1920) :
    k1_pay46 (F := Ideal) x0 (k1_pay5 x2) (tailRaw x1) k1_pay44 (blk j k) = if k.val < 1600 then pert x (j 0).val (998400 + k) else ⊥ := by
  rw [pay46_at, mask_apply x2 j h2 k, select_if, noise_eq (flat (j 0).val (998400 + k.val)), ofBits_ninf]
  · by_cases h : k.val < 1600
    · rw [if_pos h, if_pos h, hx k h]
      rfl
    · rw [if_neg h, if_neg h]
  · refine tailRaw_apply ?_
    rw [h1]
    exact flat_tail _ _

/-- The largest perturbed logit of the row and its first column, completed. -/
theorem tail_arg (o : Vec Ideal S64x1 .f32) (q : Vec Ideal S64x1 .i32) (w : ℕ) (hF : First (pert x (j 0).val) 998400 (o j) w) (hq : q j = BitVec.ofNat 32 w) :
    ∃ i, First (pert x (j 0).val) 1000000
        (k1_pay53 (k1_pay49 x0 (k1_pay5 x2) (tailRaw x1) k1_pay44) (tailGt x0 x1 x2 o) (k1_pay52 o) j) i ∧
      k1_pay54 (F := Ideal) (tailBi x0 x1 x2) (tailGt x0 x1 x2 o) q j = BitVec.ofNat 32 i := by
  obtain ⟨a1, c, a2, a3, a4, a5⟩ := row_arg (k1_pay46 (F := Ideal) x0 (k1_pay5 x2) (tailRaw x1) k1_pay44) x2 j
    (fun c => if c < 1600 then pert x (j 0).val (998400 + c) else ⊥) h2 (tail46 x0 x1 x2 x j hx h1 h2)
    (k1_pay49 x0 (k1_pay5 x2) (tailRaw x1) k1_pay44) rfl
  have e5 : tailBi (F := Ideal) x0 x1 x2 j = BitVec.ofNat 32 c := by
    rw [← a5]
    unfold tailBi k1_pay50 k1_pay4
    dsimp only
    rw [shapeCast_self]
  have e1 : k1_pay53 (k1_pay49 x0 (k1_pay5 x2) (tailRaw x1) k1_pay44) (tailGt x0 x1 x2 o) (k1_pay52 o) j
      = if o j < k1_pay49 (F := Ideal) x0 (k1_pay5 x2) (tailRaw x1) k1_pay44 j then k1_pay49 (F := Ideal) x0 (k1_pay5 x2) (tailRaw x1) k1_pay44 j else o j := by
    unfold k1_pay53 tailGt k1_pay51 k1_pay52
    dsimp only
    rw [shapeCast_self]
    generalize k1_pay49 (F := Ideal) x0 (k1_pay5 x2) (tailRaw x1) k1_pay44 = M
    exact select_gt (M j) (o j) (M j) (o j)
  have e2 : k1_pay54 (F := Ideal) (tailBi x0 x1 x2) (tailGt x0 x1 x2 o) q j
      = if o j < k1_pay49 (F := Ideal) x0 (k1_pay5 x2) (tailRaw x1) k1_pay44 j then tailBi (F := Ideal) x0 x1 x2 j + 998400#32 else q j := by
    unfold k1_pay54 tailGt k1_pay51
    dsimp only
    rw [shapeCast_self, shapeCast_self]
    generalize k1_pay49 (F := Ideal) x0 (k1_pay5 x2) (tailRaw x1) k1_pay44 = M
    generalize tailBi (F := Ideal) x0 x1 x2 = bi
    exact select_gt (M j) (o j) (bi j + 998400#32) (q j)
  rw [e1, e2, e5]
  generalize k1_pay49 (F := Ideal) x0 (k1_pay5 x2) (tailRaw x1) k1_pay44 = M at *
  refine ⟨if o j < M j then 998400 + c else w, ?_, ?_⟩
  · refine hF.step (b := 1600) (by norm_num) (fun c' hc' => ?_) fun hlt => ?_
    · have := a1 c' (by omega)
      rwa [if_pos hc'] at this
    · have hc : c < 1600 := by
        by_contra hc
        rw [if_neg hc] at a3
        rw [← a3] at hlt
        exact absurd hlt not_lt_bot
      rw [if_pos hc] at a3
      refine ⟨hc, a3, fun c' hc' => ?_⟩
      have := a4 c' hc'
      rwa [if_pos (by omega)] at this
  · by_cases hg : o j < M j
    · rw [if_pos hg, if_pos hg]
      exact tail_index c
    · rw [if_neg hg, if_neg hg]
      exact hq

/-- The three results of a row, from the accumulators of its first 998400 columns: the first column of the largest
    perturbed logit; that logit less its noise, less the logarithm of the sum of exponentials; and that logarithm less the
    quotient of the two sums. -/
theorem tail_val (x3 x4 x5 : Vec Ideal S64x1 .f32) (x6 : Vec Ideal S64x1 .i32) (h : Inv x 998400 (x3, x4, x5, x6) j) :
    ∃ m i, First (pert x (j 0).val) 1000000 m i ∧ (tailOut x0 x1 x2 x3 x4 x5 x6).1 j = BitVec.ofNat 32 i ∧
      (tailOut x0 x1 x2 x3 x4 x5 x6).2.1 j = (m - (gR (flat (j 0).val i) : EReal)) - Ideal.log (∑ c ∈ Finset.range 1000000, Ideal.exp (x c)) ∧
      (tailOut x0 x1 x2 x3 x4 x5 x6).2.2 j = Ideal.log (∑ c ∈ Finset.range 1000000, Ideal.exp (x c))
        - Ideal.div (∑ c ∈ Finset.range 1000000, x c * Ideal.exp (x c)) (∑ c ∈ Finset.range 1000000, Ideal.exp (x c)) := by
  obtain ⟨g1, g2, w, g3, g4⟩ := h
  obtain ⟨i, f1, f2⟩ := tail_arg x0 x1 x2 x j hx h1 h2 x5 x6 w g3 g4
  have s1 : k1_pay47 x0 (k1_pay5 x2) x3 j = ∑ c ∈ Finset.range 1000000, Ideal.exp (x c) := by
    have e : 1000000 = 998400 + 1600 := rfl
    rw [tail47 x0 x2 x j hx h2, e, Finset.sum_range_add, ← g1]
  have s2 : k1_pay48 x0 (k1_pay5 x2) x4 j = ∑ c ∈ Finset.range 1000000, x c * Ideal.exp (x c) := by
    have e : 1000000 = 998400 + 1600 := rfl
    rw [tail48 x0 x2 x j hx h2, e, Finset.sum_range_add, ← g2]
  have u : tailU (tailBi x0 x1 x2) (tailGt x0 x1 x2 x5) x6 j = (uR (flat (j 0).val i) : EReal) := by
    rw [← uniform_eq]
    refine tailU_apply ?_
    rw [f2]
    exact flat_index _ _
  obtain ⟨p1, p2, p3⟩ := tailOut_parts x0 x1 x2 x3 x4 x5 x6
  refine ⟨_, i, f1, (congrFun p1 j).trans f2, (congrFun p2 j).trans ?_, (congrFun p3 j).trans ?_⟩
  · refine (tpay2_at _ _ _ j).trans ?_
    rw [s1, u, Ideal.ofBits_zero_f32, gumbel_sub]
  · refine (tpay3_at _ _ j).trans ?_
    rw [s1, s2]

end Tail

end Cert.KernelIdeal.Reg

end
-- ==== Proof.KernelVal.lean ====
/- The program's three results over the extended reals, row by row. -/
module

public import proofs.«01_k».proof.Proof.MainVal
public import proofs.«01_k».proof.Proof.TailVal
public import proofs.«01_k».proof.Proof.Run

@[expose] public section

set_option maxRecDepth 16384

noncomputable section

namespace Cert.KernelIdeal.Reg

open Cert.KernelIdeal Cert.KernelIdeal.Gen Idealize.ShloMosaic Idealize.ShloMosaic.TcCoe Idealize.ShloMosaic.StableHlo Idealize.ShloMosaic.Tactic
open Cert.Maths Cert.Noise

/-- A row's place in a column. -/
def cell (j : S64.Idx) : S64x1.Idx := ValueIdx.ix2 (n0 := 64) (n1 := 1) (j 0) ⟨0, by decide⟩

/-- A column read as a vector. -/
theorem vec_apply {α : Type} (v : S64x1.Idx → α) (h : S64x1.ShapeCasts S64) (j : S64.Idx) : shapeCast S64 v h j = v (cell j) :=
  shapeCast_apply v h _ _ (by
    rw [Shape.rowMajor_val_two, Shape.rowMajor_val_one]
    show (j 0).val * 1 + 0 = (j 0).val
    omega)

section Generic

variable {F : FTy → Type} [FloatOps F] (m : (ℓ : Loc nD τ sig) → Buf (Elt F) ℓ)

/-- The buffer of flat places when the first region starts. -/
theorem WA_main_v5 (c : Dev nD) : WA m c main_v5 = id (addi (muli (iotaInDim S64x1920 32 0) (broadcastInDim S64x1920 ![] bcast_S_S64x1920 (constantI S_ 32 1000000#32))) (iotaInDim S64x1920 32 1)) := by
  show StableHlo.after hostOps0 (V0 m c) main_v5 = _
  unfold_abbrev_sides
  after_results

/-- The first region leaves the logits as they were. -/
theorem WA_main_arg0 (c : Dev nD) : WA m c main_arg0 = m ((c : Thread nD τ).loc main_arg0) := (V1_of m c main_arg0 (by decide)).trans rfl

/-- The second region starts with the logits as they were. -/
theorem WB_main_arg0 (c : Dev nD) : WB m c main_arg0 = m ((c : Thread nD τ).loc main_arg0) := (VB_keeps m c main_arg0 (by decide)).trans (WA_main_arg0 m c)

/-- The second region starts with the same flat places. -/
theorem WB_main_v5 (c : Dev nD) : WB m c main_v5 = WA m c main_v5 := VB_keeps m c main_v5 (by decide)

/-- What the second region finds in the first accumulator. -/
theorem WB_0 (c : Dev nD) : WB m c main_v6_0 = (outsAt0 (WA m) c 519 tLast0.isLt).1 := (Pipeline.afterRegion_arr (dat0 (WA m) c) (V1 m c) arr_inj0 3).trans (arrAt0_3 (WA m) c)

/-- What the second region finds in the second accumulator. -/
theorem WB_1 (c : Dev nD) : WB m c main_v6_1 = (outsAt0 (WA m) c 519 tLast0.isLt).2.1 := (Pipeline.afterRegion_arr (dat0 (WA m) c) (V1 m c) arr_inj0 4).trans (arrAt0_4 (WA m) c)

/-- What the second region finds in the third accumulator. -/
theorem WB_2 (c : Dev nD) : WB m c main_v6_2 = (outsAt0 (WA m) c 519 tLast0.isLt).2.2.1 := (Pipeline.afterRegion_arr (dat0 (WA m) c) (V1 m c) arr_inj0 5).trans (arrAt0_5 (WA m) c)

/-- What the second region finds in the fourth accumulator. -/
theorem WB_3 (c : Dev nD) : WB m c main_v6_3 = (outsAt0 (WA m) c 519 tLast0.isLt).2.2.2 := (Pipeline.afterRegion_arr (dat0 (WA m) c) (V1 m c) arr_inj0 6).trans (arrAt0_6 (WA m) c)

/-- The first result, as the second region's first output read as a vector. -/
theorem VD_main_v8 (c : Dev nD) : VD m c main_v8 = shapeCast S64 (outs1 (WB m) c t1_0).1 shapeCasts_S64x1_S64 := by
  have e : VC m c main_v7_0 = (outs1 (WB m) c t1_0).1 := (Pipeline.afterRegion_arr (dat1 (WB m) c) (VB m c) arr_inj1 7).trans (arrAt1_7 (WB m) c)
  rw [← e]
  show StableHlo.after hostOps2 (VC m c) main_v8 = _
  unfold_abbrev_sides
  after_results
  rfl

/-- The second result, as the second region's second output read as a vector. -/
theorem VD_main_v9 (c : Dev nD) : VD m c main_v9 = shapeCast S64 (outs1 (WB m) c t1_0).2.1 shapeCasts_S64x1_S64 := by
  have e : VC m c main_v7_1 = (outs1 (WB m) c t1_0).2.1 := (Pipeline.afterRegion_arr (dat1 (WB m) c) (VB m c) arr_inj1 8).trans (arrAt1_8 (WB m) c)
  rw [← e]
  show StableHlo.after hostOps2 (VC m c) main_v9 = _
  unfold_abbrev_sides
  after_results
  rfl

/-- The third result, as the second region's third output read as a vector. -/
theorem VD_main_v10 (c : Dev nD) : VD m c main_v10 = shapeCast S64 (outs1 (WB m) c t1_0).2.2 shapeCasts_S64x1_S64 := by
  have e : VC m c main_v7_2 = (outs1 (WB m) c t1_0).2.2 := (Pipeline.afterRegion_arr (dat1 (WB m) c) (VB m c) arr_inj1 9).trans (arrAt1_9 (WB m) c)
  rw [← e]
  show StableHlo.after hostOps2 (VC m c) main_v10 = _
  unfold_abbrev_sides
  after_results
  rfl

/-- The flat places, read. -/
theorem v5_flat (c : Dev nD) (j : S64x1.Idx) (k : Fin 1920) : WA m c main_v5 (blk j k) = flat (j 0).val k := by
  rw [WA_main_v5]
  have e : flat (j 0).val k = BitVec.ofNat 32 (j 0).val * 1000000#32 + BitVec.ofNat 32 k.val := (flat_index _ _).symm
  rw [e]
  rfl

/-- The column numbers, read. -/
theorem v0_col (c : Dev nD) (j : S64x1.Idx) (k : Fin 1920) : WA m c main_v0 (blk j k) = BitVec.ofNat 32 k.val := by
  rw [WA_main_v0]
  rfl

end Generic

variable (m : (ℓ : Loc nD τ sig) → Buf (Elt Ideal) ℓ)

/-- The three results of a row: the first column of the largest perturbed logit; that logit less its noise, less the
    logarithm of the row's sum of exponentials; and that logarithm less the quotient of the row's two sums. -/
theorem kernel_val (c : Dev nD) (j : S64.Idx) (x : ℕ → EReal) (hx : x = rowAt (m ((c : Thread nD τ).loc main_arg0)) (j 0)) :
    ∃ M i, First (pert x (j 0).val) 1000000 M i ∧ VD m c main_v8 j = BitVec.ofNat 32 i ∧
      VD m c main_v9 j = (M - (gR (flat (j 0).val i) : EReal)) - Ideal.log (∑ c ∈ Finset.range 1000000, Ideal.exp (x c)) ∧
      VD m c main_v10 j = Ideal.log (∑ c ∈ Finset.range 1000000, Ideal.exp (x c))
        - Ideal.div (∑ c ∈ Finset.range 1000000, x c * Ideal.exp (x c)) (∑ c ∈ Finset.range 1000000, Ideal.exp (x c)) := by
  have hI := main_inv (WA m) c (cell j) (v5_flat m c (cell j)) (v0_col m c (cell j))
  rw [WA_main_arg0] at hI
  have hx' : x = rowAt (m ((c : Thread nD τ).loc main_arg0)) (cell j 0) := hx
  rw [← hx'] at hI
  rw [VD_main_v8, VD_main_v9, VD_main_v10, vec_apply, vec_apply, vec_apply]
  unfold outs1
  rw [iblk1_1, iblk1_2, iblk1_3, iblk1_4, iblk1_5, iblk1_6, WB_0, WB_1, WB_2, WB_3, WB_main_v5, WB_main_v0]
  refine tail_val _ _ _ x (cell j) (fun k hk => ?_) (v5_flat m c (cell j)) (fun k => rfl) _ _ _ _ hI
  refine (X1_0_apply (WB m) c t1_0 dflt1_0 (blk (cell j) k) hk).trans ?_
  rw [WB_main_arg0, hx']
  refine Eq.trans ?_ (rowAt_lt _ _ _ (by omega)).symm
  refine congrArg (m ((c : Thread nD τ).loc main_arg0)) (funext fun a => ?_)
  match a with
  | ⟨0, _⟩ => rfl
  | ⟨1, _⟩ => rfl

end Cert.KernelIdeal.Reg

end
-- ==== Proof.RefArg.lean ====
/- The reference's row maximum with its column, over the extended reals: the first column of the largest entry. -/
module

public import proofs.«01_k».proof.Proof.Maths
public import proofs.«01_k».proof.Proof.Noise
public import proofs.«01_k».proof.Proof.RefVal
public import Idealize.ShloMosaic.PureOps.Ideal.Laws
public import Idealize.ShloMosaic.Lib.Pointwise.Reduce
public import Idealize.ShloMosaic.Lib.ValueIdxCore

@[expose] public section

set_option maxRecDepth 16384

noncomputable section

namespace Cert.ReferenceIdeal.RefRun

open Cert.ReferenceIdeal Cert.ReferenceIdeal.Gen Idealize.ShloMosaic Idealize.ShloMosaic.TcCoe Idealize.ShloMosaic.StableHlo
open Cert.Maths Cert.Noise

/-- The reducer keeps the larger value, and of equal values the smaller signed word. -/
theorem reducer_eq (a b : EReal × BitVec 32) :
    reducer_argmax_f32_i32 (F := Ideal) a b = if b.1 < a.1 ∨ (a.1 = b.1 ∧ a.2.toInt < b.2.toInt) then a else b := by
  have h2 : FloatOps.cmpf (F := Ideal) (φ := .f32) .ogt a.1 b.1 = BitVec.ofBool (decide (b.1 < a.1)) := rfl
  have h3 : FloatOps.cmpf (F := Ideal) (φ := .f32) .une a.1 a.1 = 0#1 := by simp [Ideal.cmpf_def, Ideal.cmp]
  have h5 : FloatOps.cmpf (F := Ideal) (φ := .f32) .oeq a.1 b.1 = BitVec.ofBool (decide (a.1 = b.1)) := rfl
  have h6 : IntOp.cmpi .slt a.2 b.2 = BitVec.ofBool (decide (a.2.toInt < b.2.toInt)) := rfl
  unfold reducer_argmax_f32_i32
  dsimp only
  rw [h2, h3, h5, h6]
  obtain ⟨a1, a2⟩ := a
  obtain ⟨b1, b2⟩ := b
  dsimp only
  by_cases p : b1 < a1
  · simp [p, p.ne', IntOp.ori, IntOp.andi, Scalar.select]
  · by_cases q : a1 = b1
    · by_cases r : a2.toInt < b2.toInt
      · simp [p, q, r, IntOp.ori, IntOp.andi, Scalar.select]
      · simp [p, q, r, IntOp.ori, IntOp.andi, Scalar.select]
    · simp [p, q, IntOp.ori, IntOp.andi, Scalar.select]

/-- One pair comes before or with another: its value is larger, or equal with a word no larger. -/
def Over (a b : EReal × BitVec 32) : Prop := b.1 < a.1 ∨ (b.1 = a.1 ∧ a.2.toInt ≤ b.2.toInt)

theorem Over.refl (a : EReal × BitVec 32) : Over a a := .inr ⟨rfl, le_refl _⟩

theorem Over.trans {a b c : EReal × BitVec 32} (h : Over a b) (k : Over b c) : Over a c := by
  rcases h with h | ⟨h, h'⟩
  · rcases k with k | ⟨k, k'⟩
    · exact .inl (k.trans h)
    · exact .inl (k ▸ h)
  · rcases k with k | ⟨k, k'⟩
    · exact .inl (h ▸ k)
    · exact .inr ⟨k.trans h, h'.trans k'⟩

/-- The reducer's result is one of its arguments and comes before both. -/
theorem reducer_over (a b : EReal × BitVec 32) :
    Over (reducer_argmax_f32_i32 (F := Ideal) a b) a ∧ Over (reducer_argmax_f32_i32 (F := Ideal) a b) b ∧
      (reducer_argmax_f32_i32 (F := Ideal) a b = a ∨ reducer_argmax_f32_i32 (F := Ideal) a b = b) := by
  rw [reducer_eq]
  by_cases h : b.1 < a.1 ∨ (a.1 = b.1 ∧ a.2.toInt < b.2.toInt)
  · rw [if_pos h]
    exact ⟨.refl a, h.imp id fun h => ⟨h.1.symm, h.2.le⟩, .inl rfl⟩
  · rw [if_neg h]
    refine ⟨?_, .refl b, .inr rfl⟩
    rw [not_or, not_and, not_lt, not_lt] at h
    rcases lt_or_eq_of_le h.1 with h1 | h1
    · exact .inl h1
    · exact .inr ⟨h1, h.2 h1⟩

/-- The fold's result is one of the pairs folded and comes before all of them. -/
theorem fold_over (l : List (EReal × BitVec 32)) : ∀ a : EReal × BitVec 32,
    (∀ p ∈ a :: l, Over (l.foldl (reducer_argmax_f32_i32 (F := Ideal)) a) p) ∧ l.foldl (reducer_argmax_f32_i32 (F := Ideal)) a ∈ a :: l := by
  induction l with
  | nil =>
    intro a
    refine ⟨fun p hp => ?_, List.mem_singleton.mpr rfl⟩
    rw [List.mem_singleton] at hp
    rw [hp]
    exact .refl a
  | cons b l ih =>
    intro a
    rw [List.foldl_cons]
    obtain ⟨i1, i2⟩ := ih (reducer_argmax_f32_i32 (F := Ideal) a b)
    obtain ⟨r1, r2, r3⟩ := reducer_over a b
    have i0 := i1 _ List.mem_cons_self
    refine ⟨fun p hp => ?_, ?_⟩
    · rcases List.mem_cons.mp hp with rfl | hp
      · exact i0.trans r1
      · rcases List.mem_cons.mp hp with rfl | hp
        · exact i0.trans r2
        · exact i1 p (List.mem_cons_of_mem _ hp)
    · rcases List.mem_cons.mp i2 with e | e
      · rw [e]
        rcases r3 with r3 | r3
        · rw [r3]; exact List.mem_cons_self
        · rw [r3]; exact List.mem_cons_of_mem _ List.mem_cons_self
      · exact List.mem_cons_of_mem _ (List.mem_cons_of_mem _ e)

/-- The pairs of a row. -/
theorem mem_fiber (v : FVec Ideal S64x1000000 .f32) (y : IVec S64x1000000 32) (j : S64.Idx) (p : EReal × BitVec 32) :
    p ∈ Host.argReduceFiber v y reducesTo_S64x1000000_S64_d1 j ↔
      ∃ k : Fin 1000000, p = (v (ValueIdx.ix2 (n0 := 64) (n1 := 1000000) (j 0) k), y (ValueIdx.ix2 (n0 := 64) (n1 := 1000000) (j 0) k)) := by
  unfold Host.argReduceFiber
  rw [List.mem_map]
  constructor
  · rintro ⟨n, hn, rfl⟩
    rw [List.mem_filter] at hn
    obtain ⟨k, hk⟩ := (Shape.ReducesTo.fiber_r2_a1 reducesTo_S64x1000000_S64_d1 j _).mp (of_decide_eq_true hn.2)
    exact ⟨k, by rw [← hk]; rfl⟩
  · rintro ⟨k, rfl⟩
    refine ⟨S64x1000000.rowMajor (ValueIdx.ix2 (n0 := 64) (n1 := 1000000) (j 0) k), ?_, ?_⟩
    · rw [List.mem_filter]
      refine ⟨List.mem_finRange _, decide_eq_true ?_⟩
      rw [Equiv.symm_apply_apply]
      exact (Shape.ReducesTo.fiber_r2_a1 reducesTo_S64x1000000_S64_d1 j _).mpr ⟨k, rfl⟩
    · rw [Equiv.symm_apply_apply]

/-- A small word's signed value. -/
theorem toInt_small (k : ℕ) (h : k < 2147483648) : (BitVec.ofNat 32 k).toInt = k := by
  rw [BitVec.toInt_eq_toNat_of_lt (by rw [BitVec.toNat_ofNat]; omega), BitVec.toNat_ofNat, Nat.mod_eq_of_lt (by omega)]

/-- Folding the pairs of numbered values, one above the bottom value, gives the first number of the largest value. -/
theorem list_first (N : ℕ) (hN : N ≤ 2147483648) (l : List (EReal × BitVec 32)) (z : ℕ → EReal)
    (hm : ∀ p, p ∈ l ↔ ∃ k, k < N ∧ p = (z k, BitVec.ofNat 32 k)) (hp : ∃ c, c < N ∧ ⊥ < z c) :
    ∃ M i, First z N M i ∧ (l.foldl (reducer_argmax_f32_i32 (F := Ideal)) (⊥, 0#32)).2 = BitVec.ofNat 32 i := by
  obtain ⟨h1, h2⟩ := fold_over l (⊥, 0#32)
  generalize l.foldl (reducer_argmax_f32_i32 (F := Ideal)) (⊥, 0#32) = R at h1 h2 ⊢
  have hall : ∀ c, c < N → Over R (z c, BitVec.ofNat 32 c) := fun c hc => h1 _ (List.mem_cons_of_mem _ ((hm _).mpr ⟨c, hc, rfl⟩))
  have hR : ∃ i, i < N ∧ R = (z i, BitVec.ofNat 32 i) := by
    rcases List.mem_cons.mp h2 with h | h
    · obtain ⟨c, hc, hz⟩ := hp
      rcases hall c hc with k | ⟨k, -⟩
      · rw [h] at k
        exact absurd k not_lt_bot
      · rw [h] at k
        dsimp only at k
        exact absurd hz (by rw [k]; exact lt_irrefl _)
    · exact (hm _).mp h
  obtain ⟨i, hi, hR⟩ := hR
  subst hR
  refine ⟨z i, i, ⟨fun c hc => ?_, fun c hc => ?_, fun _ => ⟨hi, rfl⟩, fun h => by omega⟩, rfl⟩
  · rcases hall c hc with k | ⟨k, -⟩
    · exact k.le
    · exact k.le
  · rcases hall c (by omega) with k | ⟨k, k'⟩
    · exact k
    · dsimp only at k'
      rw [toInt_small i (by omega), toInt_small c (by omega)] at k'
      omega

/-- The pair of a row, as a fold. -/
theorem pair_fold (v : FVec Ideal S64x1000000 .f32) (y : IVec S64x1000000 32) (u : FVec Ideal S_ .f32) (w : IVec S_ 32) (j : S64.Idx) (a : EReal) (b : BitVec 32)
    (ha : u (Shape.Idx.first h_S_) = a) (hb : w (Shape.Idx.first h_S_) = b) :
    Host.argReduce (reducer_argmax_f32_i32 (F := Ideal)) v y u w reducesTo_S64x1000000_S64_d1 h_S_ j
      = (Host.argReduceFiber v y reducesTo_S64x1000000_S64_d1 j).foldl (reducer_argmax_f32_i32 (F := Ideal)) (a, b) := by
  subst ha
  subst hb
  rw [Ideal.argReduce_eq_reduce2]
  exact Host.reduce2_eq_foldl_fiber _ v y u w reducesTo_S64x1000000_S64_d1 h_S_ j

/-- The column found is the second part of the pair found. -/
theorem part2_fun {F : FTy → Type} [FloatOps F] :
    argMaxPart2 (F := F) = fun x y u v j => (Host.argReduce reducer_argmax_f32_i32 x y u v reducesTo_S64x1000000_S64_d1 h_S_ j).2 :=
  Eq.refl _

/-- The same, of given operands. -/
theorem part2_at {F : FTy → Type} [FloatOps F] (v : FVec F S64x1000000 .f32) (y : IVec S64x1000000 32) (u : FVec F S_ .f32) (w : IVec S_ 32) (j : S64.Idx) (p : F .f32 × BitVec 32)
    (h : Host.argReduce (reducer_argmax_f32_i32 (F := F)) v y u w reducesTo_S64x1000000_S64_d1 h_S_ j = p) : argMaxPart2 (F := F) v y u w j = p.2 :=
  (congrFun (congrFun (congrFun (congrFun (congrFun (part2_fun (F := F)) v) y) u) w) j).trans (congrArg Prod.snd h)

/-- The column found, as the fold's second part. -/
theorem part2_eq (v : FVec Ideal S64x1000000 .f32) (y : IVec S64x1000000 32) (u : FVec Ideal S_ .f32) (w : IVec S_ 32) (j : S64.Idx) (a : EReal) (b : BitVec 32)
    (ha : u (Shape.Idx.first h_S_) = a) (hb : w (Shape.Idx.first h_S_) = b) :
    argMaxPart2 (F := Ideal) v y u w j
      = ((Host.argReduceFiber v y reducesTo_S64x1000000_S64_d1 j).foldl (reducer_argmax_f32_i32 (F := Ideal)) (a, b)).2 :=
  part2_at v y u w j _ (pair_fold v y u w j a b ha hb)

/-- Of a row with an entry above the bottom value, the column found is the first of the largest entry. -/
theorem arg_first (v : FVec Ideal S64x1000000 .f32) (j : S64.Idx) (z : ℕ → EReal) (y : IVec S64x1000000 32) (u : FVec Ideal S_ .f32) (w : IVec S_ 32)
    (hz : ∀ k : Fin 1000000, v (ValueIdx.ix2 (n0 := 64) (n1 := 1000000) (j 0) k) = z k)
    (hy : ∀ k : Fin 1000000, y (ValueIdx.ix2 (n0 := 64) (n1 := 1000000) (j 0) k) = BitVec.ofNat 32 k)
    (hu : u (Shape.Idx.first h_S_) = ⊥) (hw : w (Shape.Idx.first h_S_) = 0#32) (hp : ∃ c, c < 1000000 ∧ ⊥ < z c) :
    ∃ M i, First z 1000000 M i ∧ argMaxPart2 (F := Ideal) v y u w j = BitVec.ofNat 32 i := by
  rw [part2_eq v y u w j ⊥ 0#32 hu hw]
  refine list_first 1000000 (by norm_num) _ z (fun p => ?_) hp
  rw [mem_fiber]
  constructor
  · rintro ⟨k, rfl⟩
    exact ⟨k.val, k.isLt, by rw [hz, hy]⟩
  · rintro ⟨k, hk, rfl⟩
    exact ⟨⟨k, hk⟩, by rw [hz, hy]⟩

end Cert.ReferenceIdeal.RefRun

end
-- ==== Proof.RefLogp.lean ====
/- The reference's log-probabilities and entropy over the extended reals. -/
module

public import proofs.«01_k».proof.Proof.MainVal
public import proofs.«01_k».proof.Proof.RefVal
public import Idealize.ShloMosaic.PureOps.Ideal.Laws
public import Idealize.ShloMosaic.Lib.Pointwise.Reduce
public import Idealize.ShloMosaic.Lib.IdealHost

@[expose] public section

set_option maxRecDepth 16384

noncomputable section

namespace Cert.ReferenceIdeal.RefRun

open Cert.ReferenceIdeal Cert.ReferenceIdeal.Gen Idealize.ShloMosaic Idealize.ShloMosaic.TcCoe Idealize.ShloMosaic.StableHlo
open Cert.Maths Cert.Noise
open Cert.KernelIdeal.Reg (rowAt rowAt_lt)

/-- A vector spread along the rows reads its row's entry. -/
theorem spread_apply {α : Type} (v : S64.Idx → α) (j : S64x1000000.Idx) :
    broadcastInDim S64x1000000 ![0, 1] bcast_S64x1_S64x1000000_0_1 (broadcastInDim S64x1 ![0] bcast_S64_S64x1_0 v) j = v (ValueIdx.ix1 (n := 64) (j 0)) := by
  refine congrArg v (funext fun a => ?_)
  match a with
  | ⟨0, _⟩ => rfl

section Generic

variable {F : FTy → Type} [FloatOps F]

/-- A shifted logit. -/
theorem shifted_apply (V0 : Valuation τ sig (Elt F)) (j : S64x1000000.Idx) :
    res_main_call0_v5 V0 j = FloatOps.subf (V0 (Proc.devRef .tc main_arg0) j) (FloatOps.maximumf (FloatOps.ofBits .f32 0xFF800000#32)
      (Host.reduce FloatOps.maximumf (V0 (Proc.devRef .tc main_arg0)) (constant (F := F) S_ .f32 0xFF800000#32) reducesTo_S64x1000000_S64_d1 h_S_ (ValueIdx.ix1 (n := 64) (j 0)))) := by
  unfold res_main_call0_v5
  exact congrArg (FloatOps.subf (V0 (Proc.devRef .tc main_arg0) j)) (spread_apply _ j)

/-- A log-probability. -/
theorem logp_at (V0 : Valuation τ sig (Elt F)) (j : S64x1000000.Idx) :
    res_main_v0 V0 j = FloatOps.subf (res_main_call0_v5 V0 j) (FloatOps.hostUnary .log
      (Host.reduceAdd (Host.exp (res_main_call0_v5 V0)) (constant (F := F) S_ .f32 0x00000000#32) reducesTo_S64x1000000_S64_d1 h_S_ (ValueIdx.ix1 (n := 64) (j 0)))) := by
  unfold res_main_v0
  generalize res_main_call0_v5 V0 = A
  generalize Host.reduceAdd (Host.exp A) (constant (F := F) S_ .f32 0x00000000#32) reducesTo_S64x1000000_S64_d1 h_S_ = B
  exact congrArg (FloatOps.subf (A j)) (spread_apply (Host.log B) j)

end Generic

/-- A row's sum on the host. -/
theorem host_sum (v : S64x1000000.Idx → EReal) (u : FVec Ideal S_ .f32) (hu : u (Shape.Idx.first h_S_) = 0) (j : S64.Idx) (f : ℕ → EReal)
    (hf : ∀ k : Fin 1000000, v (ValueIdx.ix2 (n0 := 64) (n1 := 1000000) (j 0) k) = f k) :
    Host.reduceAdd (F := Ideal) (φ := .f32) v u reducesTo_S64x1000000_S64_d1 h_S_ j = ∑ c ∈ Finset.range 1000000, f c := by
  refine (Ideal.hostReduceAdd_r2_a1 reducesTo_S64x1000000_S64_d1 v (u (Shape.Idx.first h_S_)) j).trans ?_
  rw [hu, zero_add, Finset.sum_range]
  exact Finset.sum_congr rfl fun k _ => hf k

/-- A row's largest entry on the host, as a fold. -/
theorem host_max (v : FVec Ideal S64x1000000 .f32) (u : FVec Ideal S_ .f32) (j : S64.Idx) :
    Host.reduce (FloatOps.maximumf (F := Ideal) (φ := .f32)) v u reducesTo_S64x1000000_S64_d1 h_S_ j
      = (Finset.univ : Finset (Fin 1000000)).fold max (u (Shape.Idx.first h_S_)) fun k => v (ValueIdx.ix2 (n0 := 64) (n1 := 1000000) (j 0) k) := by
  have e : (FloatOps.maximumf (F := Ideal) (φ := .f32)) = (max : EReal → EReal → EReal) := rfl
  rw [e]
  exact (Host.reduce_eq_fold (max : EReal → EReal → EReal) v u reducesTo_S64x1000000_S64_d1 h_S_ j).trans
    (Shape.ReducesTo.fold_fiber_r2_a1 reducesTo_S64x1000000_S64_d1 j (max : EReal → EReal → EReal) (u (Shape.Idx.first h_S_)) v)

/-- A difference with a logarithm. -/
theorem sub_log_at (A B : EReal) : FloatOps.subf (F := Ideal) (φ := .f32) A (FloatOps.hostUnary (F := Ideal) (φ := .f32) .log B) = A - Ideal.log B := rfl

/-- A negated vector. -/
theorem neg_at (v : FVec Ideal S64 .f32) (j : S64.Idx) : Host.negf v j = -(v j : EReal) := rfl

section Row

variable (V0 : Valuation τ sig (Elt Ideal)) (a : FVec Ideal S64x1000000 .f32) (ha : V0 (Proc.devRef .tc main_arg0) = a) (r : Fin 64)
  (hlt : ∀ i, a i < ⊤) (hgt : ∃ k : Fin 1000000, ⊥ < a (ValueIdx.ix2 (n0 := 64) (n1 := 1000000) r k))

include ha hlt hgt

/-- The shift is a real number. -/
theorem shifted_real : ∃ M : ℝ, ∀ k : Fin 1000000,
    res_main_call0_v5 V0 (ValueIdx.ix2 (n0 := 64) (n1 := 1000000) r k) = rowAt a r k - (M : EReal) := by
  obtain ⟨h1, c, h2⟩ := Cert.KernelIdeal.Reg.fold_max (n := 1000000) (by norm_num) fun k => a (ValueIdx.ix2 (n0 := 64) (n1 := 1000000) r k)
  have hM := host_max a (constant (F := Ideal) S_ .f32 0xFF800000#32) (ValueIdx.ix1 (n := 64) r)
  have eb : (constant (F := Ideal) S_ .f32 0xFF800000#32) (Shape.Idx.first h_S_) = ⊥ := ofBits_ninf
  rw [eb] at hM
  have hM' := hM.trans h2.symm
  have ht : a (ValueIdx.ix2 (n0 := 64) (n1 := 1000000) r c) < ⊤ := hlt _
  have hb : ⊥ < a (ValueIdx.ix2 (n0 := 64) (n1 := 1000000) r c) := by
    obtain ⟨k, hk⟩ := hgt
    exact hk.trans_le ((h1 k).trans_eq h2.symm)
  generalize a (ValueIdx.ix2 (n0 := 64) (n1 := 1000000) r c) = m at hM' ht hb
  refine ⟨m.toReal, fun k => ?_⟩
  rw [EReal.coe_toReal ht.ne hb.ne', shifted_apply, ha, rowAt_lt a r k k.isLt]
  have e2 : FloatOps.ofBits (F := Ideal) .f32 0xFF800000#32 = (⊥ : EReal) := ofBits_ninf
  rw [e2]
  refine congrArg (a (ValueIdx.ix2 (n0 := 64) (n1 := 1000000) r k) - ·) ?_
  refine Eq.trans (congrArg (max (⊥ : EReal)) hM') ?_
  exact max_eq_right bot_le

/-- The row's entries, by number. -/
theorem row_lt (c : ℕ) (hc : c < 1000000) : rowAt a r c < ⊤ := by
  rw [rowAt_lt a r c hc]
  exact hlt _

/-- One of the row's entries is above the bottom value. -/
theorem row_gt : ∃ c, c < 1000000 ∧ ⊥ < rowAt a r c := by
  obtain ⟨k, hk⟩ := hgt
  exact ⟨k.val, k.isLt, by rw [rowAt_lt a r k.val k.isLt]; exact hk⟩

/-- A log-probability is the logit less the logarithm of the row's sum of exponentials. -/
theorem logp_val (k : Fin 1000000) :
    res_main_v0 V0 (ValueIdx.ix2 (n0 := 64) (n1 := 1000000) r k) = rowAt a r k - (Real.log (S (rowAt a r) 1000000) : EReal) := by
  obtain ⟨M, hM⟩ := shifted_real V0 a ha r hlt hgt
  have e0 : (constant (F := Ideal) S_ .f32 0x00000000#32) (Shape.Idx.first h_S_) = 0 := Ideal.ofBits_zero_f32
  rw [logp_at, hM]
  have e1 := host_sum (Host.exp (res_main_call0_v5 V0)) (constant (F := Ideal) S_ .f32 0x00000000#32) e0 (ValueIdx.ix1 (n := 64) r)
    (fun c => Ideal.exp (rowAt a r c - (M : EReal))) (fun k => congrArg Ideal.exp (hM k))
  have e2 := log_shift (row_lt V0 a ha r hlt hgt) (row_gt V0 a ha r hlt hgt) M
  have e3 := logp_shift (row_lt V0 a ha r hlt hgt k.val k.isLt) M (Real.log (S (rowAt a r) 1000000))
  refine (sub_log_at _ _).trans ?_
  rw [← e3, ← e2]
  exact congrArg (fun t : EReal => (rowAt a r k - (M : EReal)) - Ideal.log t) e1

/-- The entropy. -/
theorem entropy_val (j : S64.Idx) (hj : j 0 = r) :
    Host.negf (F := Ideal) (φ := .f32) (Host.reduceAdd (mulf (Host.exp (res_main_v0 V0)) (res_main_v0 V0)) (constant (F := Ideal) S_ .f32 0x00000000#32) reducesTo_S64x1000000_S64_d1 h_S_) j
      = ((Real.log (S (rowAt a r) 1000000) - T (rowAt a r) 1000000 / S (rowAt a r) 1000000 : ℝ) : EReal) := by
  have e0 : (constant (F := Ideal) S_ .f32 0x00000000#32) (Shape.Idx.first h_S_) = 0 := Ideal.ofBits_zero_f32
  have h := logp_val V0 a ha r hlt hgt
  subst hj
  have e1 := host_sum (mulf (Host.exp (res_main_v0 V0)) (res_main_v0 V0)) (constant (F := Ideal) S_ .f32 0x00000000#32) e0 j
    (fun c => Ideal.exp (rowAt a (j 0) c - (Real.log (S (rowAt a (j 0)) 1000000) : EReal)) * (rowAt a (j 0) c - (Real.log (S (rowAt a (j 0)) 1000000) : EReal)))
    (fun k => congrArg (fun t : EReal => Ideal.exp t * t) (h k))
  rw [← entropy_eq (row_lt V0 a ha (j 0) hlt hgt) (row_gt V0 a ha (j 0) hlt hgt)]
  exact (neg_at _ j).trans (congrArg (fun t : EReal => -t) e1)

end Row

end Cert.ReferenceIdeal.RefRun

end
-- ==== Proof.WordRef.lean ====
/- The reference's noise: each entry has the word of its flat index. -/
module

public import proofs.«01_k».proof.Proof.Word
public import proofs.«01_k».proof.Proof.RefVal
public import Idealize.ShloMosaic.Lib.Pipeline.Value

@[expose] public section

set_option maxRecDepth 16384

noncomputable section

namespace Cert.ReferenceIdeal.RefRun

open Cert.ReferenceIdeal Cert.ReferenceIdeal.Gen Idealize.ShloMosaic Idealize.ShloMosaic.TcCoe Idealize.ShloMosaic.StableHlo
open Cert.Noise

variable {F : FTy → Type} [FloatOps F]

/-- The first key word is zero. -/
theorem key0 (V0 : Valuation τ sig (Elt F)) : res_main_v10 V0 = (fun _ => 0#32 : IVec S_ 32) := by
  funext i
  have hi : i = (fun a => a.elim0 : S_.Idx) := funext fun a => a.elim0
  rw [hi]
  rfl

/-- The second key word is 42. -/
theorem key1 (V0 : Valuation τ sig (Elt F)) : res_main_v12 V0 = (fun _ => 42#32 : IVec S_ 32) := by
  have e : andi (res_main_c V0) (constantI S_ 32 4294967295#32) = constantI S_ 32 42#32 := by
    funext i
    change 42#32 &&& 4294967295#32 = 42#32
    decide
  delta res_main_v12 res_main_v8
  rw [e]
  funext i
  have hi : i = (fun a => a.elim0 : S_.Idx) := funext fun a => a.elim0
  rw [hi]
  rfl

/-- The third key word. -/
theorem key2 (V0 : Valuation τ sig (Elt F)) : res_main_call1_v1 V0 = (fun _ => 466689008#32 : IVec S_ 32) := by
  delta res_main_call1_v1
  rw [key0, key1]
  funext i
  change (0#32 ^^^ 42#32) ^^^ 466688986#32 = 466689008#32
  decide

/-- The first key word at every entry. -/
theorem kb_key0 (V0 : Valuation τ sig (Elt F)) : broadcastInDim S64x1000000 ![] bcast_S_S64x1000000 (res_main_v10 V0) = (fun _ => 0#32 : IVec S64x1000000 32) := by
  rw [key0]
  rfl

/-- The second key word at every entry. -/
theorem kb_key1 (V0 : Valuation τ sig (Elt F)) : broadcastInDim S64x1000000 ![] bcast_S_S64x1000000 (res_main_v12 V0) = (fun _ => 42#32 : IVec S64x1000000 32) := by
  rw [key1]
  rfl

/-- The third key word at every entry. -/
theorem kb_key2 (V0 : Valuation τ sig (Elt F)) : broadcastInDim S64x1000000 ![] bcast_S_S64x1000000 (res_main_call1_v1 V0) = (fun _ => 466689008#32 : IVec S64x1000000 32) := by
  rw [key2]
  rfl

/-- The flat index of an entry, as a 64-bit word. -/
theorem flat64 (V0 : Valuation τ sig (Elt F)) (j : S64x1000000.Idx) :
    res_main_v19 V0 j = BitVec.ofNat 64 ((j 0).val * 1000000 + (j 1).val) := by
  have e : res_main_v19 V0 j = 1000000#64 * BitVec.ofNat 64 (j 0).val + 1#64 * BitVec.ofNat 64 (j 1).val := rfl
  rw [e]
  have h0 : (j 0).val < 64 := (j 0).isLt
  have h1 : (j 1).val < 1000000 := (j 1).isLt
  apply BitVec.eq_of_toNat_eq
  simp only [BitVec.toNat_add, BitVec.toNat_mul, BitVec.toNat_ofNat]
  omega

/-- The low word of a flat index, with the key added. -/
theorem rv5 (V0 : Valuation τ sig (Elt F)) {j : S64x1000000.Idx} {n : BitVec 32} (h : BitVec.ofNat 32 ((j 0).val * 1000000 + (j 1).val) = n) : res_main_call1_v5 V0 j = (s1 n).1 := by
  have e0 : res_main_call1_v5 V0 j = (fun a : BitVec 64 => a.setWidth 32 + 42#32) (res_main_v19 V0 j) := by
    delta res_main_call1_v5
    rw [kb_key1]
    generalize res_main_v19 V0 = aa
    rfl
  rw [e0, flat64, ← h]
  have e : (BitVec.ofNat 64 ((j 0).val * 1000000 + (j 1).val)).setWidth 32 = BitVec.ofNat 32 ((j 0).val * 1000000 + (j 1).val) := by
    apply BitVec.eq_of_toNat_eq
    simp only [BitVec.toNat_setWidth, BitVec.toNat_ofNat]
    omega
  beta_reduce
  rw [e]
  rfl

/-- The high word is zero, so the first addition leaves the low word. -/
theorem rv6 (V0 : Valuation τ sig (Elt F)) {j : S64x1000000.Idx} {n : BitVec 32} (h : BitVec.ofNat 32 ((j 0).val * 1000000 + (j 1).val) = n) : res_main_call1_v6 V0 j = (s1 n).1 := by
  have e0 : res_main_call1_v6 V0 j = (fun (a : BitVec 64) (b : BitVec 32) => ((a >>> 32#64).setWidth 32 + 0#32) + b) (res_main_v19 V0 j) (res_main_call1_v5 V0 j) := by
    delta res_main_call1_v6
    rw [kb_key0]
    generalize res_main_v19 V0 = aa
    generalize res_main_call1_v5 V0 = bb
    rfl
  rw [e0, rv5 V0 h, flat64]
  beta_reduce
  have h0 : (j 0).val < 64 := (j 0).isLt
  have h1 : (j 1).val < 1000000 := (j 1).isLt
  have e : (BitVec.ofNat 64 ((j 0).val * 1000000 + (j 1).val) >>> 32#64).setWidth 32 = 0#32 := by
    apply BitVec.eq_of_toNat_eq
    have e2 : (BitVec.ofNat 64 ((j 0).val * 1000000 + (j 1).val) >>> 32#64).toNat = ((j 0).val * 1000000 + (j 1).val) % 2 ^ 64 / 2 ^ 32 := by
      rw [BitVec.ushiftRight_eq', BitVec.toNat_ushiftRight, Nat.shiftRight_eq_div_pow, BitVec.toNat_ofNat]
      rfl
    rw [BitVec.toNat_setWidth, e2]
    have : ((j 0).val * 1000000 + (j 1).val) % 2 ^ 64 / 2 ^ 32 = 0 := by
      rw [Nat.mod_eq_of_lt (by omega)]
      omega
    rw [this]
    rfl
  rw [e, BitVec.add_zero, BitVec.zero_add]

/-- `res_main_call1_v12` at an entry is `(s1 n).2` at its flat index. -/
theorem rv12 (V0 : Valuation τ sig (Elt F)) {j : S64x1000000.Idx} {n : BitVec 32} (h : BitVec.ofNat 32 ((j 0).val * 1000000 + (j 1).val) = n) : res_main_call1_v12 V0 j = (s1 n).2 := by
  have e : res_main_call1_v12 V0 j = (fun a b : BitVec 32 => (a ^^^ ((b <<< 13#32) ||| (b >>> 19#32)))) (res_main_call1_v6 V0 j) (res_main_call1_v5 V0 j) := by
    delta res_main_call1_v12
    generalize res_main_call1_v6 V0 = aa
    generalize res_main_call1_v5 V0 = bb
    rfl
  rw [e, rv6 V0 h, rv5 V0 h]
  beta_reduce
  rw [BitVec.xor_comm]
  rfl
/-- `res_main_call1_v13` at an entry is `(s2 n).1` at its flat index. -/
theorem rv13 (V0 : Valuation τ sig (Elt F)) {j : S64x1000000.Idx} {n : BitVec 32} (h : BitVec.ofNat 32 ((j 0).val * 1000000 + (j 1).val) = n) : res_main_call1_v13 V0 j = (s2 n).1 := by
  have e : res_main_call1_v13 V0 j = (fun a b : BitVec 32 => (a + b)) (res_main_call1_v6 V0 j) (res_main_call1_v12 V0 j) := by
    delta res_main_call1_v13
    generalize res_main_call1_v6 V0 = aa
    generalize res_main_call1_v12 V0 = bb
    rfl
  rw [e, rv6 V0 h, rv12 V0 h]
  beta_reduce
  rfl
/-- `res_main_call1_v19` at an entry is `(s2 n).2` at its flat index. -/
theorem rv19 (V0 : Valuation τ sig (Elt F)) {j : S64x1000000.Idx} {n : BitVec 32} (h : BitVec.ofNat 32 ((j 0).val * 1000000 + (j 1).val) = n) : res_main_call1_v19 V0 j = (s2 n).2 := by
  have e : res_main_call1_v19 V0 j = (fun a b : BitVec 32 => (a ^^^ ((b <<< 15#32) ||| (b >>> 17#32)))) (res_main_call1_v13 V0 j) (res_main_call1_v12 V0 j) := by
    delta res_main_call1_v19
    generalize res_main_call1_v13 V0 = aa
    generalize res_main_call1_v12 V0 = bb
    rfl
  rw [e, rv13 V0 h, rv12 V0 h]
  beta_reduce
  rw [BitVec.xor_comm]
  rfl
/-- `res_main_call1_v20` at an entry is `(s3 n).1` at its flat index. -/
theorem rv20 (V0 : Valuation τ sig (Elt F)) {j : S64x1000000.Idx} {n : BitVec 32} (h : BitVec.ofNat 32 ((j 0).val * 1000000 + (j 1).val) = n) : res_main_call1_v20 V0 j = (s3 n).1 := by
  have e : res_main_call1_v20 V0 j = (fun a b : BitVec 32 => (a + b)) (res_main_call1_v13 V0 j) (res_main_call1_v19 V0 j) := by
    delta res_main_call1_v20
    generalize res_main_call1_v13 V0 = aa
    generalize res_main_call1_v19 V0 = bb
    rfl
  rw [e, rv13 V0 h, rv19 V0 h]
  beta_reduce
  rfl
/-- `res_main_call1_v26` at an entry is `(s3 n).2` at its flat index. -/
theorem rv26 (V0 : Valuation τ sig (Elt F)) {j : S64x1000000.Idx} {n : BitVec 32} (h : BitVec.ofNat 32 ((j 0).val * 1000000 + (j 1).val) = n) : res_main_call1_v26 V0 j = (s3 n).2 := by
  have e : res_main_call1_v26 V0 j = (fun a b : BitVec 32 => (a ^^^ ((b <<< 26#32) ||| (b >>> 6#32)))) (res_main_call1_v20 V0 j) (res_main_call1_v19 V0 j) := by
    delta res_main_call1_v26
    generalize res_main_call1_v20 V0 = aa
    generalize res_main_call1_v19 V0 = bb
    rfl
  rw [e, rv20 V0 h, rv19 V0 h]
  beta_reduce
  rw [BitVec.xor_comm]
  rfl
/-- `res_main_call1_v27` at an entry is `(s4 n).1` at its flat index. -/
theorem rv27 (V0 : Valuation τ sig (Elt F)) {j : S64x1000000.Idx} {n : BitVec 32} (h : BitVec.ofNat 32 ((j 0).val * 1000000 + (j 1).val) = n) : res_main_call1_v27 V0 j = (s4 n).1 := by
  have e : res_main_call1_v27 V0 j = (fun a b : BitVec 32 => (a + b)) (res_main_call1_v20 V0 j) (res_main_call1_v26 V0 j) := by
    delta res_main_call1_v27
    generalize res_main_call1_v20 V0 = aa
    generalize res_main_call1_v26 V0 = bb
    rfl
  rw [e, rv20 V0 h, rv26 V0 h]
  beta_reduce
  rfl
/-- `res_main_call1_v39` at an entry is `(t0 n).2` at its flat index. -/
theorem rv39 (V0 : Valuation τ sig (Elt F)) {j : S64x1000000.Idx} {n : BitVec 32} (h : BitVec.ofNat 32 ((j 0).val * 1000000 + (j 1).val) = n) : res_main_call1_v39 V0 j = (t0 n).2 := by
  have e : res_main_call1_v39 V0 j = (fun a b : BitVec 32 => (((a ^^^ ((b <<< 6#32) ||| (b >>> 26#32))) + 466689008#32) + 1#32)) (res_main_call1_v27 V0 j) (res_main_call1_v26 V0 j) := by
    delta res_main_call1_v39
    rw [kb_key2]
    generalize res_main_call1_v27 V0 = aa
    generalize res_main_call1_v26 V0 = bb
    rfl
  rw [e, rv27 V0 h, rv26 V0 h]
  beta_reduce
  rw [BitVec.xor_comm, BitVec.add_assoc]
  rfl
/-- `res_main_call1_v40` at an entry is `(s5 n).1` at its flat index. -/
theorem rv40 (V0 : Valuation τ sig (Elt F)) {j : S64x1000000.Idx} {n : BitVec 32} (h : BitVec.ofNat 32 ((j 0).val * 1000000 + (j 1).val) = n) : res_main_call1_v40 V0 j = (s5 n).1 := by
  have e : res_main_call1_v40 V0 j = (fun a b : BitVec 32 => ((a + 42#32) + b)) (res_main_call1_v27 V0 j) (res_main_call1_v39 V0 j) := by
    delta res_main_call1_v40
    rw [kb_key1]
    generalize res_main_call1_v27 V0 = aa
    generalize res_main_call1_v39 V0 = bb
    rfl
  rw [e, rv27 V0 h, rv39 V0 h]
  beta_reduce
  rfl
/-- `res_main_call1_v46` at an entry is `(s5 n).2` at its flat index. -/
theorem rv46 (V0 : Valuation τ sig (Elt F)) {j : S64x1000000.Idx} {n : BitVec 32} (h : BitVec.ofNat 32 ((j 0).val * 1000000 + (j 1).val) = n) : res_main_call1_v46 V0 j = (s5 n).2 := by
  have e : res_main_call1_v46 V0 j = (fun a b : BitVec 32 => (a ^^^ ((b <<< 17#32) ||| (b >>> 15#32)))) (res_main_call1_v40 V0 j) (res_main_call1_v39 V0 j) := by
    delta res_main_call1_v46
    generalize res_main_call1_v40 V0 = aa
    generalize res_main_call1_v39 V0 = bb
    rfl
  rw [e, rv40 V0 h, rv39 V0 h]
  beta_reduce
  rw [BitVec.xor_comm]
  rfl
/-- `res_main_call1_v47` at an entry is `(s6 n).1` at its flat index. -/
theorem rv47 (V0 : Valuation τ sig (Elt F)) {j : S64x1000000.Idx} {n : BitVec 32} (h : BitVec.ofNat 32 ((j 0).val * 1000000 + (j 1).val) = n) : res_main_call1_v47 V0 j = (s6 n).1 := by
  have e : res_main_call1_v47 V0 j = (fun a b : BitVec 32 => (a + b)) (res_main_call1_v40 V0 j) (res_main_call1_v46 V0 j) := by
    delta res_main_call1_v47
    generalize res_main_call1_v40 V0 = aa
    generalize res_main_call1_v46 V0 = bb
    rfl
  rw [e, rv40 V0 h, rv46 V0 h]
  beta_reduce
  rfl
/-- `res_main_call1_v53` at an entry is `(s6 n).2` at its flat index. -/
theorem rv53 (V0 : Valuation τ sig (Elt F)) {j : S64x1000000.Idx} {n : BitVec 32} (h : BitVec.ofNat 32 ((j 0).val * 1000000 + (j 1).val) = n) : res_main_call1_v53 V0 j = (s6 n).2 := by
  have e : res_main_call1_v53 V0 j = (fun a b : BitVec 32 => (a ^^^ ((b <<< 29#32) ||| (b >>> 3#32)))) (res_main_call1_v47 V0 j) (res_main_call1_v46 V0 j) := by
    delta res_main_call1_v53
    generalize res_main_call1_v47 V0 = aa
    generalize res_main_call1_v46 V0 = bb
    rfl
  rw [e, rv47 V0 h, rv46 V0 h]
  beta_reduce
  rw [BitVec.xor_comm]
  rfl
/-- `res_main_call1_v54` at an entry is `(s7 n).1` at its flat index. -/
theorem rv54 (V0 : Valuation τ sig (Elt F)) {j : S64x1000000.Idx} {n : BitVec 32} (h : BitVec.ofNat 32 ((j 0).val * 1000000 + (j 1).val) = n) : res_main_call1_v54 V0 j = (s7 n).1 := by
  have e : res_main_call1_v54 V0 j = (fun a b : BitVec 32 => (a + b)) (res_main_call1_v47 V0 j) (res_main_call1_v53 V0 j) := by
    delta res_main_call1_v54
    generalize res_main_call1_v47 V0 = aa
    generalize res_main_call1_v53 V0 = bb
    rfl
  rw [e, rv47 V0 h, rv53 V0 h]
  beta_reduce
  rfl
/-- `res_main_call1_v60` at an entry is `(s7 n).2` at its flat index. -/
theorem rv60 (V0 : Valuation τ sig (Elt F)) {j : S64x1000000.Idx} {n : BitVec 32} (h : BitVec.ofNat 32 ((j 0).val * 1000000 + (j 1).val) = n) : res_main_call1_v60 V0 j = (s7 n).2 := by
  have e : res_main_call1_v60 V0 j = (fun a b : BitVec 32 => (a ^^^ ((b <<< 16#32) ||| (b >>> 16#32)))) (res_main_call1_v54 V0 j) (res_main_call1_v53 V0 j) := by
    delta res_main_call1_v60
    generalize res_main_call1_v54 V0 = aa
    generalize res_main_call1_v53 V0 = bb
    rfl
  rw [e, rv54 V0 h, rv53 V0 h]
  beta_reduce
  rw [BitVec.xor_comm]
  rfl
/-- `res_main_call1_v61` at an entry is `(s8 n).1` at its flat index. -/
theorem rv61 (V0 : Valuation τ sig (Elt F)) {j : S64x1000000.Idx} {n : BitVec 32} (h : BitVec.ofNat 32 ((j 0).val * 1000000 + (j 1).val) = n) : res_main_call1_v61 V0 j = (s8 n).1 := by
  have e : res_main_call1_v61 V0 j = (fun a b : BitVec 32 => (a + b)) (res_main_call1_v54 V0 j) (res_main_call1_v60 V0 j) := by
    delta res_main_call1_v61
    generalize res_main_call1_v54 V0 = aa
    generalize res_main_call1_v60 V0 = bb
    rfl
  rw [e, rv54 V0 h, rv60 V0 h]
  beta_reduce
  rfl
/-- `res_main_call1_v73` at an entry is `(t1 n).2` at its flat index. -/
theorem rv73 (V0 : Valuation τ sig (Elt F)) {j : S64x1000000.Idx} {n : BitVec 32} (h : BitVec.ofNat 32 ((j 0).val * 1000000 + (j 1).val) = n) : res_main_call1_v73 V0 j = (t1 n).2 := by
  have e : res_main_call1_v73 V0 j = (fun a b : BitVec 32 => (((a ^^^ ((b <<< 24#32) ||| (b >>> 8#32))) + 0#32) + 2#32)) (res_main_call1_v61 V0 j) (res_main_call1_v60 V0 j) := by
    delta res_main_call1_v73
    rw [kb_key0]
    generalize res_main_call1_v61 V0 = aa
    generalize res_main_call1_v60 V0 = bb
    rfl
  rw [e, rv61 V0 h, rv60 V0 h]
  beta_reduce
  rw [BitVec.xor_comm, BitVec.add_assoc]
  rfl
/-- `res_main_call1_v74` at an entry is `(s9 n).1` at its flat index. -/
theorem rv74 (V0 : Valuation τ sig (Elt F)) {j : S64x1000000.Idx} {n : BitVec 32} (h : BitVec.ofNat 32 ((j 0).val * 1000000 + (j 1).val) = n) : res_main_call1_v74 V0 j = (s9 n).1 := by
  have e : res_main_call1_v74 V0 j = (fun a b : BitVec 32 => ((a + 466689008#32) + b)) (res_main_call1_v61 V0 j) (res_main_call1_v73 V0 j) := by
    delta res_main_call1_v74
    rw [kb_key2]
    generalize res_main_call1_v61 V0 = aa
    generalize res_main_call1_v73 V0 = bb
    rfl
  rw [e, rv61 V0 h, rv73 V0 h]
  beta_reduce
  rfl
/-- `res_main_call1_v80` at an entry is `(s9 n).2` at its flat index. -/
theorem rv80 (V0 : Valuation τ sig (Elt F)) {j : S64x1000000.Idx} {n : BitVec 32} (h : BitVec.ofNat 32 ((j 0).val * 1000000 + (j 1).val) = n) : res_main_call1_v80 V0 j = (s9 n).2 := by
  have e : res_main_call1_v80 V0 j = (fun a b : BitVec 32 => (a ^^^ ((b <<< 13#32) ||| (b >>> 19#32)))) (res_main_call1_v74 V0 j) (res_main_call1_v73 V0 j) := by
    delta res_main_call1_v80
    generalize res_main_call1_v74 V0 = aa
    generalize res_main_call1_v73 V0 = bb
    rfl
  rw [e, rv74 V0 h, rv73 V0 h]
  beta_reduce
  rw [BitVec.xor_comm]
  rfl
/-- `res_main_call1_v81` at an entry is `(s10 n).1` at its flat index. -/
theorem rv81 (V0 : Valuation τ sig (Elt F)) {j : S64x1000000.Idx} {n : BitVec 32} (h : BitVec.ofNat 32 ((j 0).val * 1000000 + (j 1).val) = n) : res_main_call1_v81 V0 j = (s10 n).1 := by
  have e : res_main_call1_v81 V0 j = (fun a b : BitVec 32 => (a + b)) (res_main_call1_v74 V0 j) (res_main_call1_v80 V0 j) := by
    delta res_main_call1_v81
    generalize res_main_call1_v74 V0 = aa
    generalize res_main_call1_v80 V0 = bb
    rfl
  rw [e, rv74 V0 h, rv80 V0 h]
  beta_reduce
  rfl
/-- `res_main_call1_v87` at an entry is `(s10 n).2` at its flat index. -/
theorem rv87 (V0 : Valuation τ sig (Elt F)) {j : S64x1000000.Idx} {n : BitVec 32} (h : BitVec.ofNat 32 ((j 0).val * 1000000 + (j 1).val) = n) : res_main_call1_v87 V0 j = (s10 n).2 := by
  have e : res_main_call1_v87 V0 j = (fun a b : BitVec 32 => (a ^^^ ((b <<< 15#32) ||| (b >>> 17#32)))) (res_main_call1_v81 V0 j) (res_main_call1_v80 V0 j) := by
    delta res_main_call1_v87
    generalize res_main_call1_v81 V0 = aa
    generalize res_main_call1_v80 V0 = bb
    rfl
  rw [e, rv81 V0 h, rv80 V0 h]
  beta_reduce
  rw [BitVec.xor_comm]
  rfl
/-- `res_main_call1_v88` at an entry is `(s11 n).1` at its flat index. -/
theorem rv88 (V0 : Valuation τ sig (Elt F)) {j : S64x1000000.Idx} {n : BitVec 32} (h : BitVec.ofNat 32 ((j 0).val * 1000000 + (j 1).val) = n) : res_main_call1_v88 V0 j = (s11 n).1 := by
  have e : res_main_call1_v88 V0 j = (fun a b : BitVec 32 => (a + b)) (res_main_call1_v81 V0 j) (res_main_call1_v87 V0 j) := by
    delta res_main_call1_v88
    generalize res_main_call1_v81 V0 = aa
    generalize res_main_call1_v87 V0 = bb
    rfl
  rw [e, rv81 V0 h, rv87 V0 h]
  beta_reduce
  rfl
/-- `res_main_call1_v94` at an entry is `(s11 n).2` at its flat index. -/
theorem rv94 (V0 : Valuation τ sig (Elt F)) {j : S64x1000000.Idx} {n : BitVec 32} (h : BitVec.ofNat 32 ((j 0).val * 1000000 + (j 1).val) = n) : res_main_call1_v94 V0 j = (s11 n).2 := by
  have e : res_main_call1_v94 V0 j = (fun a b : BitVec 32 => (a ^^^ ((b <<< 26#32) ||| (b >>> 6#32)))) (res_main_call1_v88 V0 j) (res_main_call1_v87 V0 j) := by
    delta res_main_call1_v94
    generalize res_main_call1_v88 V0 = aa
    generalize res_main_call1_v87 V0 = bb
    rfl
  rw [e, rv88 V0 h, rv87 V0 h]
  beta_reduce
  rw [BitVec.xor_comm]
  rfl
/-- `res_main_call1_v95` at an entry is `(s12 n).1` at its flat index. -/
theorem rv95 (V0 : Valuation τ sig (Elt F)) {j : S64x1000000.Idx} {n : BitVec 32} (h : BitVec.ofNat 32 ((j 0).val * 1000000 + (j 1).val) = n) : res_main_call1_v95 V0 j = (s12 n).1 := by
  have e : res_main_call1_v95 V0 j = (fun a b : BitVec 32 => (a + b)) (res_main_call1_v88 V0 j) (res_main_call1_v94 V0 j) := by
    delta res_main_call1_v95
    generalize res_main_call1_v88 V0 = aa
    generalize res_main_call1_v94 V0 = bb
    rfl
  rw [e, rv88 V0 h, rv94 V0 h]
  beta_reduce
  rfl
/-- `res_main_call1_v107` at an entry is `(t2 n).2` at its flat index. -/
theorem rv107 (V0 : Valuation τ sig (Elt F)) {j : S64x1000000.Idx} {n : BitVec 32} (h : BitVec.ofNat 32 ((j 0).val * 1000000 + (j 1).val) = n) : res_main_call1_v107 V0 j = (t2 n).2 := by
  have e : res_main_call1_v107 V0 j = (fun a b : BitVec 32 => (((a ^^^ ((b <<< 6#32) ||| (b >>> 26#32))) + 42#32) + 3#32)) (res_main_call1_v95 V0 j) (res_main_call1_v94 V0 j) := by
    delta res_main_call1_v107
    rw [kb_key1]
    generalize res_main_call1_v95 V0 = aa
    generalize res_main_call1_v94 V0 = bb
    rfl
  rw [e, rv95 V0 h, rv94 V0 h]
  beta_reduce
  rw [BitVec.xor_comm, BitVec.add_assoc]
  rfl
/-- `res_main_call1_v108` at an entry is `(s13 n).1` at its flat index. -/
theorem rv108 (V0 : Valuation τ sig (Elt F)) {j : S64x1000000.Idx} {n : BitVec 32} (h : BitVec.ofNat 32 ((j 0).val * 1000000 + (j 1).val) = n) : res_main_call1_v108 V0 j = (s13 n).1 := by
  have e : res_main_call1_v108 V0 j = (fun a b : BitVec 32 => ((a + 0#32) + b)) (res_main_call1_v95 V0 j) (res_main_call1_v107 V0 j) := by
    delta res_main_call1_v108
    rw [kb_key0]
    generalize res_main_call1_v95 V0 = aa
    generalize res_main_call1_v107 V0 = bb
    rfl
  rw [e, rv95 V0 h, rv107 V0 h]
  beta_reduce
  rfl
/-- `res_main_call1_v114` at an entry is `(s13 n).2` at its flat index. -/
theorem rv114 (V0 : Valuation τ sig (Elt F)) {j : S64x1000000.Idx} {n : BitVec 32} (h : BitVec.ofNat 32 ((j 0).val * 1000000 + (j 1).val) = n) : res_main_call1_v114 V0 j = (s13 n).2 := by
  have e : res_main_call1_v114 V0 j = (fun a b : BitVec 32 => (a ^^^ ((b <<< 17#32) ||| (b >>> 15#32)))) (res_main_call1_v108 V0 j) (res_main_call1_v107 V0 j) := by
    delta res_main_call1_v114
    generalize res_main_call1_v108 V0 = aa
    generalize res_main_call1_v107 V0 = bb
    rfl
  rw [e, rv108 V0 h, rv107 V0 h]
  beta_reduce
  rw [BitVec.xor_comm]
  rfl
/-- `res_main_call1_v115` at an entry is `(s14 n).1` at its flat index. -/
theorem rv115 (V0 : Valuation τ sig (Elt F)) {j : S64x1000000.Idx} {n : BitVec 32} (h : BitVec.ofNat 32 ((j 0).val * 1000000 + (j 1).val) = n) : res_main_call1_v115 V0 j = (s14 n).1 := by
  have e : res_main_call1_v115 V0 j = (fun a b : BitVec 32 => (a + b)) (res_main_call1_v108 V0 j) (res_main_call1_v114 V0 j) := by
    delta res_main_call1_v115
    generalize res_main_call1_v108 V0 = aa
    generalize res_main_call1_v114 V0 = bb
    rfl
  rw [e, rv108 V0 h, rv114 V0 h]
  beta_reduce
  rfl
/-- `res_main_call1_v121` at an entry is `(s14 n).2` at its flat index. -/
theorem rv121 (V0 : Valuation τ sig (Elt F)) {j : S64x1000000.Idx} {n : BitVec 32} (h : BitVec.ofNat 32 ((j 0).val * 1000000 + (j 1).val) = n) : res_main_call1_v121 V0 j = (s14 n).2 := by
  have e : res_main_call1_v121 V0 j = (fun a b : BitVec 32 => (a ^^^ ((b <<< 29#32) ||| (b >>> 3#32)))) (res_main_call1_v115 V0 j) (res_main_call1_v114 V0 j) := by
    delta res_main_call1_v121
    generalize res_main_call1_v115 V0 = aa
    generalize res_main_call1_v114 V0 = bb
    rfl
  rw [e, rv115 V0 h, rv114 V0 h]
  beta_reduce
  rw [BitVec.xor_comm]
  rfl
/-- `res_main_call1_v122` at an entry is `(s15 n).1` at its flat index. -/
theorem rv122 (V0 : Valuation τ sig (Elt F)) {j : S64x1000000.Idx} {n : BitVec 32} (h : BitVec.ofNat 32 ((j 0).val * 1000000 + (j 1).val) = n) : res_main_call1_v122 V0 j = (s15 n).1 := by
  have e : res_main_call1_v122 V0 j = (fun a b : BitVec 32 => (a + b)) (res_main_call1_v115 V0 j) (res_main_call1_v121 V0 j) := by
    delta res_main_call1_v122
    generalize res_main_call1_v115 V0 = aa
    generalize res_main_call1_v121 V0 = bb
    rfl
  rw [e, rv115 V0 h, rv121 V0 h]
  beta_reduce
  rfl
/-- `res_main_call1_v128` at an entry is `(s15 n).2` at its flat index. -/
theorem rv128 (V0 : Valuation τ sig (Elt F)) {j : S64x1000000.Idx} {n : BitVec 32} (h : BitVec.ofNat 32 ((j 0).val * 1000000 + (j 1).val) = n) : res_main_call1_v128 V0 j = (s15 n).2 := by
  have e : res_main_call1_v128 V0 j = (fun a b : BitVec 32 => (a ^^^ ((b <<< 16#32) ||| (b >>> 16#32)))) (res_main_call1_v122 V0 j) (res_main_call1_v121 V0 j) := by
    delta res_main_call1_v128
    generalize res_main_call1_v122 V0 = aa
    generalize res_main_call1_v121 V0 = bb
    rfl
  rw [e, rv122 V0 h, rv121 V0 h]
  beta_reduce
  rw [BitVec.xor_comm]
  rfl
/-- `res_main_call1_v129` at an entry is `(s16 n).1` at its flat index. -/
theorem rv129 (V0 : Valuation τ sig (Elt F)) {j : S64x1000000.Idx} {n : BitVec 32} (h : BitVec.ofNat 32 ((j 0).val * 1000000 + (j 1).val) = n) : res_main_call1_v129 V0 j = (s16 n).1 := by
  have e : res_main_call1_v129 V0 j = (fun a b : BitVec 32 => (a + b)) (res_main_call1_v122 V0 j) (res_main_call1_v128 V0 j) := by
    delta res_main_call1_v129
    generalize res_main_call1_v122 V0 = aa
    generalize res_main_call1_v128 V0 = bb
    rfl
  rw [e, rv122 V0 h, rv128 V0 h]
  beta_reduce
  rfl
/-- `res_main_call1_v141` at an entry is `(t3 n).2` at its flat index. -/
theorem rv141 (V0 : Valuation τ sig (Elt F)) {j : S64x1000000.Idx} {n : BitVec 32} (h : BitVec.ofNat 32 ((j 0).val * 1000000 + (j 1).val) = n) : res_main_call1_v141 V0 j = (t3 n).2 := by
  have e : res_main_call1_v141 V0 j = (fun a b : BitVec 32 => (((a ^^^ ((b <<< 24#32) ||| (b >>> 8#32))) + 466689008#32) + 4#32)) (res_main_call1_v129 V0 j) (res_main_call1_v128 V0 j) := by
    delta res_main_call1_v141
    rw [kb_key2]
    generalize res_main_call1_v129 V0 = aa
    generalize res_main_call1_v128 V0 = bb
    rfl
  rw [e, rv129 V0 h, rv128 V0 h]
  beta_reduce
  rw [BitVec.xor_comm, BitVec.add_assoc]
  rfl
/-- `res_main_call1_v142` at an entry is `(s17 n).1` at its flat index. -/
theorem rv142 (V0 : Valuation τ sig (Elt F)) {j : S64x1000000.Idx} {n : BitVec 32} (h : BitVec.ofNat 32 ((j 0).val * 1000000 + (j 1).val) = n) : res_main_call1_v142 V0 j = (s17 n).1 := by
  have e : res_main_call1_v142 V0 j = (fun a b : BitVec 32 => ((a + 42#32) + b)) (res_main_call1_v129 V0 j) (res_main_call1_v141 V0 j) := by
    delta res_main_call1_v142
    rw [kb_key1]
    generalize res_main_call1_v129 V0 = aa
    generalize res_main_call1_v141 V0 = bb
    rfl
  rw [e, rv129 V0 h, rv141 V0 h]
  beta_reduce
  rfl
/-- `res_main_call1_v148` at an entry is `(s17 n).2` at its flat index. -/
theorem rv148 (V0 : Valuation τ sig (Elt F)) {j : S64x1000000.Idx} {n : BitVec 32} (h : BitVec.ofNat 32 ((j 0).val * 1000000 + (j 1).val) = n) : res_main_call1_v148 V0 j = (s17 n).2 := by
  have e : res_main_call1_v148 V0 j = (fun a b : BitVec 32 => (a ^^^ ((b <<< 13#32) ||| (b >>> 19#32)))) (res_main_call1_v142 V0 j) (res_main_call1_v141 V0 j) := by
    delta res_main_call1_v148
    generalize res_main_call1_v142 V0 = aa
    generalize res_main_call1_v141 V0 = bb
    rfl
  rw [e, rv142 V0 h, rv141 V0 h]
  beta_reduce
  rw [BitVec.xor_comm]
  rfl
/-- `res_main_call1_v149` at an entry is `(s18 n).1` at its flat index. -/
theorem rv149 (V0 : Valuation τ sig (Elt F)) {j : S64x1000000.Idx} {n : BitVec 32} (h : BitVec.ofNat 32 ((j 0).val * 1000000 + (j 1).val) = n) : res_main_call1_v149 V0 j = (s18 n).1 := by
  have e : res_main_call1_v149 V0 j = (fun a b : BitVec 32 => (a + b)) (res_main_call1_v142 V0 j) (res_main_call1_v148 V0 j) := by
    delta res_main_call1_v149
    generalize res_main_call1_v142 V0 = aa
    generalize res_main_call1_v148 V0 = bb
    rfl
  rw [e, rv142 V0 h, rv148 V0 h]
  beta_reduce
  rfl
/-- `res_main_call1_v155` at an entry is `(s18 n).2` at its flat index. -/
theorem rv155 (V0 : Valuation τ sig (Elt F)) {j : S64x1000000.Idx} {n : BitVec 32} (h : BitVec.ofNat 32 ((j 0).val * 1000000 + (j 1).val) = n) : res_main_call1_v155 V0 j = (s18 n).2 := by
  have e : res_main_call1_v155 V0 j = (fun a b : BitVec 32 => (a ^^^ ((b <<< 15#32) ||| (b >>> 17#32)))) (res_main_call1_v149 V0 j) (res_main_call1_v148 V0 j) := by
    delta res_main_call1_v155
    generalize res_main_call1_v149 V0 = aa
    generalize res_main_call1_v148 V0 = bb
    rfl
  rw [e, rv149 V0 h, rv148 V0 h]
  beta_reduce
  rw [BitVec.xor_comm]
  rfl
/-- `res_main_call1_v156` at an entry is `(s19 n).1` at its flat index. -/
theorem rv156 (V0 : Valuation τ sig (Elt F)) {j : S64x1000000.Idx} {n : BitVec 32} (h : BitVec.ofNat 32 ((j 0).val * 1000000 + (j 1).val) = n) : res_main_call1_v156 V0 j = (s19 n).1 := by
  have e : res_main_call1_v156 V0 j = (fun a b : BitVec 32 => (a + b)) (res_main_call1_v149 V0 j) (res_main_call1_v155 V0 j) := by
    delta res_main_call1_v156
    generalize res_main_call1_v149 V0 = aa
    generalize res_main_call1_v155 V0 = bb
    rfl
  rw [e, rv149 V0 h, rv155 V0 h]
  beta_reduce
  rfl
/-- `res_main_call1_v162` at an entry is `(s19 n).2` at its flat index. -/
theorem rv162 (V0 : Valuation τ sig (Elt F)) {j : S64x1000000.Idx} {n : BitVec 32} (h : BitVec.ofNat 32 ((j 0).val * 1000000 + (j 1).val) = n) : res_main_call1_v162 V0 j = (s19 n).2 := by
  have e : res_main_call1_v162 V0 j = (fun a b : BitVec 32 => (a ^^^ ((b <<< 26#32) ||| (b >>> 6#32)))) (res_main_call1_v156 V0 j) (res_main_call1_v155 V0 j) := by
    delta res_main_call1_v162
    generalize res_main_call1_v156 V0 = aa
    generalize res_main_call1_v155 V0 = bb
    rfl
  rw [e, rv156 V0 h, rv155 V0 h]
  beta_reduce
  rw [BitVec.xor_comm]
  rfl
/-- `res_main_call1_v163` at an entry is `(s20 n).1` at its flat index. -/
theorem rv163 (V0 : Valuation τ sig (Elt F)) {j : S64x1000000.Idx} {n : BitVec 32} (h : BitVec.ofNat 32 ((j 0).val * 1000000 + (j 1).val) = n) : res_main_call1_v163 V0 j = (s20 n).1 := by
  have e : res_main_call1_v163 V0 j = (fun a b : BitVec 32 => (a + b)) (res_main_call1_v156 V0 j) (res_main_call1_v162 V0 j) := by
    delta res_main_call1_v163
    generalize res_main_call1_v156 V0 = aa
    generalize res_main_call1_v162 V0 = bb
    rfl
  rw [e, rv156 V0 h, rv162 V0 h]
  beta_reduce
  rfl

/-- The last rounds, from the state they start from and the key words. -/
def lastWord (a b k0 k2 : BitVec 32) : BitVec 32 :=
  ((a + k2) ^^^ (((a ^^^ (b <<< 6#32 ||| b >>> 26#32)) + k0) + 5#32)) >>> 9#32 ||| 1065353216#32

/-- The last rounds give the word of the flat index. -/
theorem lastWord_eq (n : BitVec 32) : lastWord (s20 n).1 (s19 n).2 0#32 466689008#32 = mant n := by
  unfold lastWord
  rw [BitVec.xor_comm (s20 n).1, BitVec.add_zero]
  rfl

/-- A perturbed logit, from the last rounds of its word. -/
theorem v39_apply (V0 : Valuation τ sig (Elt F)) (j : S64x1000000.Idx) :
    res_main_v39 V0 j = FloatOps.addf (FloatOps.hostNegf (FloatOps.hostUnary .log (FloatOps.hostNegf (FloatOps.hostUnary .log (FloatOps.maximumf (FloatOps.ofBits .f32 0x00800000#32)
      (FloatOps.subf (FloatOps.ofBits .f32 (lastWord (res_main_call1_v163 V0 j) (res_main_call1_v162 V0 j) 0#32 466689008#32))
        (FloatOps.ofBits .f32 0x3F800000#32))))))) (V0 (Proc.devRef .tc main_arg0) j) := by
  delta res_main_v39
  rw [kb_key0, kb_key2]
  generalize res_main_call1_v163 V0 = aa
  generalize res_main_call1_v162 V0 = bb
  rfl

/-- A perturbed logit: its noise comes from the word of its flat index. -/
theorem v39_word (V0 : Valuation τ sig (Elt F)) {j : S64x1000000.Idx} {n : BitVec 32} (h : BitVec.ofNat 32 ((j 0).val * 1000000 + (j 1).val) = n) :
    res_main_v39 V0 j = FloatOps.addf (FloatOps.hostNegf (FloatOps.hostUnary .log (FloatOps.hostNegf (FloatOps.hostUnary .log (FloatOps.maximumf (FloatOps.ofBits .f32 0x00800000#32)
      (FloatOps.subf (FloatOps.ofBits .f32 (mant n)) (FloatOps.ofBits .f32 0x3F800000#32))))))) (V0 (Proc.devRef .tc main_arg0) j) := by
  rw [v39_apply, rv163 V0 h, rv162 V0 h, lastWord_eq]

end Cert.ReferenceIdeal.RefRun

end
-- ==== Proof.RefRead.lean ====
/- The reference's three results over the extended reals, row by row. -/
module

public import proofs.«01_k».proof.Proof.RefArg
public import proofs.«01_k».proof.Proof.RefLogp
public import proofs.«01_k».proof.Proof.WordRef
public import Idealize.ShloMosaic.Lib.ReduceAll
public import Idealize.ShloMosaic.Lib.Pipeline.Value

@[expose] public section

set_option maxRecDepth 16384

noncomputable section

namespace Cert.ReferenceIdeal.RefRun

open Cert.ReferenceIdeal Cert.ReferenceIdeal.Gen Idealize.ShloMosaic Idealize.ShloMosaic.TcCoe Idealize.ShloMosaic.StableHlo
open Cert.Maths Cert.Noise
open Cert.KernelIdeal.Reg (rowAt rowAt_lt flat pert)

/-- A row's place in a column. -/
def spot (j : S64.Idx) : S64x1.Idx := ValueIdx.ix2 (n0 := 64) (n1 := 1) (j 0) ⟨0, by decide⟩

/-- A row's place in an array of one index per row. -/
def nook (r : Fin 64) : S64x1x1.Idx := ValueIdx.ix3 (n0 := 64) (n1 := 1) (n2 := 1) r ⟨0, by decide⟩ ⟨0, by decide⟩

/-- Every place of that array is a row's. -/
theorem nook_eq (q : S64x1x1.Idx) : q = nook (q 0) := by
  funext a
  match a with
  | ⟨0, _⟩ => rfl
  | ⟨1, _⟩ => exact Fin.ext (Nat.lt_one_iff.mp (q 1).isLt)
  | ⟨2, _⟩ => exact Fin.ext (Nat.lt_one_iff.mp (q 2).isLt)

section Generic

variable {F : FTy → Type} [FloatOps F]

/-- The entry taken from a row: the row's at the index, read signed and kept inside. -/
theorem gather_row (L : S64x1000000.Idx → F .f32) (I : IVec S64x1x1 32) (j : S64.Idx) :
    Host.gather gather_S64x1000000_S64x1x1_S64x1_n_1_0_0_1_2_11 L I (spot j)
      = L (ValueIdx.ix2 (n0 := 64) (n1 := 1000000) (j 0) ⟨min (I (nook (j 0))).toInt.toNat 999999, by omega⟩) := by
  refine congrArg L (funext fun a => Fin.ext ?_)
  show gather_S64x1000000_S64x1x1_S64x1_n_1_0_0_1_2_11.start (spot j) I a + gather_S64x1000000_S64x1x1_S64x1_n_1_0_0_1_2_11.batchCoord (spot j) a
    + gather_S64x1000000_S64x1x1_S64x1_n_1_0_0_1_2_11.offCoord (spot j) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    exact dif_pos (List.mem_singleton.mpr rfl)
  | ⟨1, _⟩ =>
    have h1 : (⟨1, by decide⟩ : Fin 2) ∈ gather_S64x1000000_S64x1x1_S64x1_n_1_0_0_1_2_11.startIndexMap := List.mem_singleton.mpr rfl
    have hs : gather_S64x1000000_S64x1x1_S64x1_n_1_0_0_1_2_11.siIdx (spot j)
        ⟨List.idxOf (⟨1, by decide⟩ : Fin 2) gather_S64x1000000_S64x1x1_S64x1_n_1_0_0_1_2_11.startIndexMap, List.idxOf_lt_length_iff.2 h1⟩ = nook (j 0) := by
      refine (nook_eq _).trans (congrArg nook ?_)
      exact Fin.ext rfl
    rw [GatherDims.batchCoord_eq_zero _ _ _ (fun h => by simp [gather_S64x1000000_S64x1x1_S64x1_n_1_0_0_1_2_11] at h),
      GatherDims.offCoord_eq_zero _ _ _ (fun h => ((GatherDims.mem_sKept _ _).mp h).1 (List.mem_singleton.mpr rfl)), Nat.add_zero]
    unfold GatherDims.start
    rw [dif_pos h1, hs]
    rfl

/-- A column read as a vector. -/
theorem read_col {α : Type} (v : S64x1.Idx → α) (h : S64x1.ShapeCasts S64) (j : S64.Idx) : shapeCast S64 v h j = v (spot j) :=
  shapeCast_apply v h _ _ (by
    rw [Shape.rowMajor_val_two, Shape.rowMajor_val_one]
    show (j 0).val * 1 + 0 = (j 0).val
    omega)

/-- A column read as an array of one index per row. -/
theorem read_nook {α : Type} (v : S64x1.Idx → α) (h : S64x1.ShapeCasts S64x1x1) (r : Fin 64) :
    shapeCast S64x1x1 v h (nook r) = v (spot (ValueIdx.ix1 (n := 64) r)) :=
  shapeCast_apply v h _ _ (by
    rw [Shape.rowMajor_val_two, Shape.rowMajor_val_three]
    show r.val * 1 + 0 = (r.val * 1 + 0) * 1 + 0
    omega)

/-- A vector spread down a column. -/
theorem down_apply {α : Type} (v : S64.Idx → α) (r : Fin 64) :
    broadcastInDim S64x1 ![0] bcast_S64_S64x1_0 v (spot (ValueIdx.ix1 (n := 64) r)) = v (ValueIdx.ix1 (n := 64) r) := by
  refine congrArg v (funext fun a => ?_)
  match a with
  | ⟨0, _⟩ => rfl

/-- An index inside the row is neither negative nor past the end. -/
theorem inside (i : ℕ) (hi : i < 1000000) : IntOp.andi (IntOp.cmpi .sge (BitVec.ofNat 32 i) 0#32) (IntOp.cmpi .sle (BitVec.ofNat 32 i) 999999#32) = 1#1 := by
  have e := toInt_small i (by omega)
  have h1 : IntOp.cmpi .sge (BitVec.ofNat 32 i) 0#32 = BitVec.ofBool (decide ((0#32).toInt ≤ (BitVec.ofNat 32 i).toInt)) := rfl
  have h2 : IntOp.cmpi .sle (BitVec.ofNat 32 i) 999999#32 = BitVec.ofBool (decide ((BitVec.ofNat 32 i).toInt ≤ (999999#32).toInt)) := rfl
  have e0 : (0#32).toInt = 0 := rfl
  have e9 : (999999#32).toInt = 999999 := rfl
  rw [h1, h2, e, e0, e9, decide_eq_true (by omega), decide_eq_true (by omega)]
  rfl

/-- An index inside the row is not wrapped. -/
theorem unwrapped (i : ℕ) (hi : i < 1000000) (b : BitVec 32) : Scalar.select (IntOp.cmpi .slt (BitVec.ofNat 32 i) 0#32) b (BitVec.ofNat 32 i) = BitVec.ofNat 32 i := by
  have e := toInt_small i (by omega)
  have h1 : IntOp.cmpi .slt (BitVec.ofNat 32 i) 0#32 = BitVec.ofBool (decide ((BitVec.ofNat 32 i).toInt < (0#32).toInt)) := rfl
  have e0 : (0#32).toInt = 0 := rfl
  rw [h1, e, e0, decide_eq_false (by omega)]
  rfl

/-- The index taken, where the column found lies inside the row. -/
theorem index_at (V0 : Valuation τ sig (Elt F)) (r : Fin 64) (i : ℕ) (hi : i < 1000000)
    (h : argMaxPart2 (res_main_v39 V0) (res_main_call2_v0 V0) (res_main_call2_cst V0) (res_main_call2_c V0) (ValueIdx.ix1 (n := 64) r) = BitVec.ofNat 32 i) :
    res_main_call3_v5 V0 (nook r) = BitVec.ofNat 32 i := by
  have e : res_main_v41 V0 (spot (ValueIdx.ix1 (n := 64) r)) = BitVec.ofNat 32 i := by
    refine Eq.trans ?_ h
    exact down_apply (argMaxPart2 (res_main_v39 V0) (res_main_call2_v0 V0) (res_main_call2_cst V0) (res_main_call2_c V0)) r
  refine Eq.trans (read_nook (select (cmpi .slt (res_main_v41 V0) (broadcastInDim S64x1 ![] bcast_S_S64x1 (constantI S_ 32 0#32)))
    (addi (res_main_v41 V0) (broadcastInDim S64x1 ![] bcast_S_S64x1 (constantI S_ 32 1000000#32))) (res_main_v41 V0)) shapeCasts_S64x1_S64x1x1 r) ?_
  generalize res_main_v41 V0 = A at e ⊢
  refine Eq.trans (b := Scalar.select (IntOp.cmpi .slt (A (spot (ValueIdx.ix1 (n := 64) r))) 0#32) (IntOp.addi (A (spot (ValueIdx.ix1 (n := 64) r))) 1000000#32) (A (spot (ValueIdx.ix1 (n := 64) r)))) rfl ?_
  rw [e]
  exact unwrapped i hi _

/-- The entry of a row at an index inside it. -/
theorem pick_val (L : FVec F S64x1000000 .f32) (I : IVec S64x1x1 32) (hI : ∀ r : Fin 64, ∃ i, i < 1000000 ∧ I (nook r) = BitVec.ofNat 32 i)
    (j : S64.Idx) (i : ℕ) (hi : i < 1000000) (h : I (nook (j 0)) = BitVec.ofNat 32 i) :
    shapeCast S64 (select (Host.reduce IntOp.andi (andi (cmpi .sge I (broadcastInDim S64x1x1 ![] bcast_S_S64x1x1 (constantI S_ 32 0#32)))
        (cmpi .sle I (broadcastInDim S64x1x1 ![0, 1, 2] bcast_S1x1x1_S64x1x1_0_1_2 (broadcastInDim S1x1x1 ![2] bcast_S1_S1x1x1_2 (constantI S1 32 999999#32)))))
        (constantI S_ 1 1#1) reducesTo_S64x1x1_S64x1_d2 h_S_)
      (Host.gather gather_S64x1000000_S64x1x1_S64x1_n_1_0_0_1_2_11 L I) (broadcastInDim S64x1 ![] bcast_S_S64x1 (constant (F := F) S_ .f32 0x7FC00000#32))) shapeCasts_S64x1_S64 j
      = L (ValueIdx.ix2 (n0 := 64) (n1 := 1000000) (j 0) ⟨i, hi⟩) := by
  rw [read_col]
  have hm : Host.reduce IntOp.andi (andi (cmpi .sge I (broadcastInDim S64x1x1 ![] bcast_S_S64x1x1 (constantI S_ 32 0#32)))
        (cmpi .sle I (broadcastInDim S64x1x1 ![0, 1, 2] bcast_S1x1x1_S64x1x1_0_1_2 (broadcastInDim S1x1x1 ![2] bcast_S1_S1x1x1_2 (constantI S1 32 999999#32)))))
        (constantI S_ 1 1#1) reducesTo_S64x1x1_S64x1_d2 h_S_ (spot j) = 1#1 := by
    refine Host.reduce_andi_one _ _ _ _ _ rfl fun q => ?_
    obtain ⟨k, hk, e⟩ := hI (q 0)
    rw [← nook_eq] at e
    refine Eq.trans (b := IntOp.andi (IntOp.cmpi .sge (I q) 0#32) (IntOp.cmpi .sle (I q) 999999#32)) rfl ?_
    rw [e]
    exact inside k hk
  generalize Host.reduce IntOp.andi (andi (cmpi .sge I (broadcastInDim S64x1x1 ![] bcast_S_S64x1x1 (constantI S_ 32 0#32)))
        (cmpi .sle I (broadcastInDim S64x1x1 ![0, 1, 2] bcast_S1x1x1_S64x1x1_0_1_2 (broadcastInDim S1x1x1 ![2] bcast_S1_S1x1x1_2 (constantI S1 32 999999#32)))))
        (constantI S_ 1 1#1) reducesTo_S64x1x1_S64x1_d2 h_S_ = X at hm ⊢
  have hg := gather_row L I j
  generalize Host.gather gather_S64x1000000_S64x1x1_S64x1_n_1_0_0_1_2_11 L I = Y at hg ⊢
  refine Eq.trans (b := Scalar.select (X (spot j)) (Y (spot j)) (FloatOps.ofBits .f32 0x7FC00000#32)) rfl ?_
  rw [hm, hg]
  refine Eq.trans (b := L (ValueIdx.ix2 (n0 := 64) (n1 := 1000000) (j 0) ⟨min (I (nook (j 0))).toInt.toNat 999999, by omega⟩)) rfl ?_
  refine congrArg (fun k => L (ValueIdx.ix2 (n0 := 64) (n1 := 1000000) (j 0) k)) (Fin.ext ?_)
  show min (I (nook (j 0))).toInt.toNat 999999 = i
  rw [h, toInt_small i (by omega)]
  omega

end Generic

/-- A negated logarithm on the host. -/
theorem neg_log_at (A : EReal) : FloatOps.hostNegf (F := Ideal) (φ := .f32) (FloatOps.hostUnary (F := Ideal) (φ := .f32) .log A) = -(Ideal.log A) := rfl

/-- A host sum, larger of two, and difference. -/
theorem sum_at (A B : EReal) : FloatOps.addf (F := Ideal) (φ := .f32) A B = A + B := rfl
theorem larger_at (A B : EReal) : FloatOps.maximumf (F := Ideal) (φ := .f32) A B = max A B := rfl
theorem minus_at (A B : EReal) : FloatOps.subf (F := Ideal) (φ := .f32) A B = A - B := rfl

section Row

variable (V0 : Valuation τ sig (Elt Ideal)) (a : FVec Ideal S64x1000000 .f32) (ha : V0 (Proc.devRef .tc main_arg0) = a)
  (hlt : ∀ i, a i < ⊤) (hgt : ∀ r : Fin 64, ∃ k : Fin 1000000, ⊥ < a (ValueIdx.ix2 (n0 := 64) (n1 := 1000000) r k))

include ha

/-- A perturbed logit. -/
theorem noisy_val (r : Fin 64) (k : Fin 1000000) :
    res_main_v39 V0 (ValueIdx.ix2 (n0 := 64) (n1 := 1000000) r k) = pert (rowAt a r) r.val k.val := by
  rw [v39_word V0 (j := ValueIdx.ix2 (n0 := 64) (n1 := 1000000) r k) (n := flat r.val k.val) rfl, ha]
  refine (sum_at _ _).trans ?_
  refine (add_comm _ _).trans ?_
  unfold pert
  rw [rowAt_lt a r k.val k.isLt]
  refine congrArg (a (ValueIdx.ix2 (n0 := 64) (n1 := 1000000) r k) + ·) ?_
  rw [← gumbel_neg, ← uniform_eq]
  exact (neg_log_at _).trans (congrArg (fun t : EReal => -(Ideal.log t)) ((neg_log_at _).trans (congrArg (fun t : EReal => -(Ideal.log t)) ((larger_at _ _).trans (congrArg (max _) (minus_at _ _))))))

include hlt hgt

/-- The column found is the first of the largest perturbed logit. -/
theorem column_val (j : S64.Idx) :
    ∃ M i, First (pert (rowAt a (j 0)) (j 0).val) 1000000 M i ∧
      argMaxPart2 (res_main_v39 V0) (res_main_call2_v0 V0) (res_main_call2_cst V0) (res_main_call2_c V0) j = BitVec.ofNat 32 i := by
  refine arg_first (res_main_v39 V0) j _ (res_main_call2_v0 V0) (res_main_call2_cst V0) (res_main_call2_c V0) (fun k => noisy_val V0 a ha (j 0) k) (fun k => rfl) ofBits_ninf rfl ?_
  obtain ⟨k, hk⟩ := hgt (j 0)
  refine ⟨k.val, k.isLt, ?_⟩
  unfold pert
  rw [rowAt_lt a (j 0) k.val k.isLt]
  exact EReal.bot_lt_add_iff.mpr ⟨hk, EReal.bot_lt_coe _⟩

/-- The log-probability of the column found. -/
theorem chosen_val (j : S64.Idx) (i : ℕ) (hi : i < 1000000)
    (h : argMaxPart2 (res_main_v39 V0) (res_main_call2_v0 V0) (res_main_call2_cst V0) (res_main_call2_c V0) j = BitVec.ofNat 32 i) :
    shapeCast S64 (select (Host.reduce IntOp.andi (andi (cmpi .sge (res_main_call3_v5 V0) (broadcastInDim S64x1x1 ![] bcast_S_S64x1x1 (constantI S_ 32 0#32)))
        (cmpi .sle (res_main_call3_v5 V0) (broadcastInDim S64x1x1 ![0, 1, 2] bcast_S1x1x1_S64x1x1_0_1_2 (broadcastInDim S1x1x1 ![2] bcast_S1_S1x1x1_2 (constantI S1 32 999999#32)))))
        (constantI S_ 1 1#1) reducesTo_S64x1x1_S64x1_d2 h_S_)
      (Host.gather gather_S64x1000000_S64x1x1_S64x1_n_1_0_0_1_2_11 (res_main_v0 V0) (res_main_call3_v5 V0)) (broadcastInDim S64x1 ![] bcast_S_S64x1 (constant (F := Ideal) S_ .f32 0x7FC00000#32))) shapeCasts_S64x1_S64 j
      = rowAt a (j 0) i - (Real.log (S (rowAt a (j 0)) 1000000) : EReal) := by
  have hj : j = ValueIdx.ix1 (n := 64) (j 0) := by
    funext b
    match b with
    | ⟨0, _⟩ => rfl
  refine (pick_val (res_main_v0 V0) (res_main_call3_v5 V0) (fun r => ?_) j i hi (index_at V0 (j 0) i hi (by rw [← hj]; exact h))).trans ?_
  · obtain ⟨M, k, hF, e⟩ := column_val V0 a ha hlt hgt (ValueIdx.ix1 (n := 64) r)
    have hk := (hF.at_ (by norm_num)).1
    exact ⟨k, hk, index_at V0 r k hk e⟩
  · exact logp_val V0 a ha (j 0) hlt (hgt (j 0)) ⟨i, hi⟩

end Row

end Cert.ReferenceIdeal.RefRun

end
-- ==== Proof.Same.lean ====
/- The kernel's three results are the reference's, of the same logits. -/
module

public import proofs.«01_k».proof.Defs
public import proofs.«01_k».proof.Proof.KernelVal
public import proofs.«01_k».proof.Proof.PreVal
public import proofs.«01_k».proof.Proof.RefRead
public import proofs.«01_k».proof.Proof.RefVal

@[expose] public section

set_option maxRecDepth 16384

noncomputable section

namespace Cert.Same

open Idealize.ShloMosaic Idealize.ShloMosaic.TcCoe Idealize.SL.Sem
open Cert.Maths Cert.Noise
open Cert.KernelIdeal.Reg (rowAt rowAt_lt flat pert VD kernel_val run_all VD_main_arg0)
open Cert.ReferenceIdeal.RefRun

section Arrays

variable (m : (ℓ : Loc Cert.KernelIdeal.nD Cert.KernelIdeal.τ Cert.KernelIdeal.sig) → Buf (Elt Ideal) ℓ) (c : Dev Cert.KernelIdeal.nD)
  (a : FVec Ideal Cert.KernelIdeal.S64x1000000 .f32) (hm : m ((c.tc : Thread Cert.KernelIdeal.nD Cert.KernelIdeal.τ).loc Cert.KernelIdeal.main_arg0) = a)
  (hlt : ∀ i, a i < ⊤) (hgt : ∀ r : Fin 64, ∃ k : Fin 1000000, ⊥ < a (ValueIdx.ix2 (n0 := 64) (n1 := 1000000) r k))

include hm hlt hgt

/-- The kernel's results of a row: the first column of the largest perturbed logit, that column's log-probability, and
    the row's entropy. -/
theorem kernel_row (j : Cert.KernelIdeal.S64.Idx) :
    ∃ M i, First (pert (rowAt a (j 0)) (j 0).val) 1000000 M i ∧ VD m c Cert.KernelIdeal.main_v8 j = BitVec.ofNat 32 i ∧
      VD m c Cert.KernelIdeal.main_v9 j = rowAt a (j 0) i - (Real.log (S (rowAt a (j 0)) 1000000) : EReal) ∧
      VD m c Cert.KernelIdeal.main_v10 j
        = ((Real.log (S (rowAt a (j 0)) 1000000) - T (rowAt a (j 0)) 1000000 / S (rowAt a (j 0)) 1000000 : ℝ) : EReal) := by
  obtain ⟨M, i, hF, h8, h9, h10⟩ := kernel_val m c j (rowAt a (j 0)) (by rw [← hm])
  have hx : ∀ k, k < 1000000 → rowAt a (j 0) k < ⊤ := fun k hk => lt_of_eq_of_lt (rowAt_lt a (j 0) k hk) (hlt _)
  have hp : ∃ k, k < 1000000 ∧ ⊥ < rowAt a (j 0) k := by
    obtain ⟨k, hk⟩ := hgt (j 0)
    exact ⟨k.val, k.isLt, lt_of_lt_of_eq hk (rowAt_lt a (j 0) k.val k.isLt).symm⟩
  have hS := S_pos hp
  rw [sum_exp hx, log_pos_real hS] at h9 h10
  rw [sum_mul_exp hx, entropy_sums hS] at h10
  have hM : pert (rowAt a (j 0)) (j 0).val i = M := (hF.at_ (by norm_num)).2
  refine ⟨M, i, hF, h8, h9.trans (congrArg (· - (Real.log (S (rowAt a (j 0)) 1000000) : EReal)) ?_), h10⟩
  rw [← hM]
  exact take_off _ _

variable (V0 : Valuation Cert.ReferenceIdeal.τ Cert.ReferenceIdeal.sig (Elt Ideal)) (hV : V0 (Proc.devRef .tc Cert.ReferenceIdeal.main_arg0) = a)

include hV

/-- The column sampled. -/
theorem same_column : argMaxPart2 (res_main_v39 V0) (res_main_call2_v0 V0) (res_main_call2_cst V0) (res_main_call2_c V0) = VD m c Cert.KernelIdeal.main_v8 := by
  funext j
  obtain ⟨M, i, hF, h8, h9, h10⟩ := kernel_row m c a hm hlt hgt j
  obtain ⟨M', i', hF', h⟩ := column_val V0 a hV hlt hgt j
  refine h.trans (Eq.trans ?_ h8.symm)
  rw [(First.unique (by norm_num) hF hF').2]

/-- The log-probability of the column sampled. -/
theorem same_logp (v : FVec Ideal Cert.KernelIdeal.S64 .f32)
    (hv : ∀ (j : Cert.KernelIdeal.S64.Idx) (i : ℕ), i < 1000000 → argMaxPart2 (res_main_v39 V0) (res_main_call2_v0 V0) (res_main_call2_cst V0) (res_main_call2_c V0) j = BitVec.ofNat 32 i →
      v j = rowAt a (j 0) i - (Real.log (S (rowAt a (j 0)) 1000000) : EReal)) : v = VD m c Cert.KernelIdeal.main_v9 := by
  funext j
  obtain ⟨M, i, hF, h8, h9, h10⟩ := kernel_row m c a hm hlt hgt j
  obtain ⟨M', i', hF', h⟩ := column_val V0 a hV hlt hgt j
  have hi' := (hF'.at_ (by norm_num)).1
  refine (hv j i' hi' h).trans (Eq.trans ?_ h9.symm)
  rw [(First.unique (by norm_num) hF hF').2]

/-- The entropy. -/
theorem same_entropy (v : FVec Ideal Cert.KernelIdeal.S64 .f32)
    (hv : ∀ j : Cert.KernelIdeal.S64.Idx, v j
      = ((Real.log (S (rowAt a (j 0)) 1000000) - T (rowAt a (j 0)) 1000000 / S (rowAt a (j 0)) 1000000 : ℝ) : EReal)) : v = VD m c Cert.KernelIdeal.main_v10 := by
  funext j
  obtain ⟨M, i, hF, h8, h9, h10⟩ := kernel_row m c a hm hlt hgt j
  exact (hv j).trans h10.symm

end Arrays

/-- The two programs, run on the same logits, end with the same columns, log-probabilities and entropies. -/
theorem algebraic : Cert.algebraic_KernelIdeal_ReferenceIdeal_pre_proper_logits (hKernelIdeal := Cert.KernelIdeal.Gen.facts)
    (hReferenceIdeal := Cert.ReferenceIdeal.Gen.facts) (hPre_proper_logits := Cert.Pre_proper_logits.facts) := by
  intro m g m' g' hpre hargs
  refine ⟨fun c => VD m c Cert.KernelIdeal.main_v8, fun c => VD m c Cert.KernelIdeal.main_v9, fun c => VD m c Cert.KernelIdeal.main_v10, ?_, ?_⟩
  · exact (θ_run _ _ _).mono (fun r h c => ⟨h.1 c _ (Finset.mem_filter.mpr ⟨StableHlo.devRef_mem_tcRefs Cert.KernelIdeal.main_v8, (by decide : ¬ (Proc.devRef (τ := Cert.KernelIdeal.τ) .tc Cert.KernelIdeal.main_v8).isScoped = true)⟩),
      h.1 c _ (Finset.mem_filter.mpr ⟨StableHlo.devRef_mem_tcRefs Cert.KernelIdeal.main_v9, (by decide : ¬ (Proc.devRef (τ := Cert.KernelIdeal.τ) .tc Cert.KernelIdeal.main_v9).isScoped = true)⟩),
      h.1 c _ (Finset.mem_filter.mpr ⟨StableHlo.devRef_mem_tcRefs Cert.KernelIdeal.main_v10, (by decide : ¬ (Proc.devRef (τ := Cert.KernelIdeal.τ) .tc Cert.KernelIdeal.main_v10).isScoped = true)⟩),
      (h.1 c _ (Finset.mem_filter.mpr ⟨StableHlo.devRef_mem_tcRefs Cert.KernelIdeal.main_arg0, (by decide : ¬ (Proc.devRef (τ := Cert.KernelIdeal.τ) .tc Cert.KernelIdeal.main_arg0).isScoped = true)⟩)).trans (VD_main_arg0 m c)⟩) (run_all m g)
  · refine (θ_run _ _ _).mono (fun r h c => ?_) (run m' g')
    obtain ⟨h40, h43, h46, harg⟩ := h c
    obtain ⟨hlt, hgt⟩ := Cert.Pre_proper_logits.read _ (hpre c)
    have hV : StableHlo.launchContents m' c (Proc.devRef .tc Cert.ReferenceIdeal.main_arg0)
        = m ((c.tc : Thread Cert.KernelIdeal.nD Cert.KernelIdeal.τ).loc Cert.KernelIdeal.main_arg0) := hargs c
    refine ⟨h40.trans (same_column m c _ rfl hlt hgt _ hV), h43.trans (same_logp m c _ rfl hlt hgt _ hV _ fun j i hi e => ?_),
      h46.trans (same_entropy m c _ rfl hlt hgt _ hV _ fun j => ?_), harg⟩
    · exact chosen_val _ _ hV hlt hgt j i hi e
    · exact entropy_val _ _ hV (j 0) hlt (hgt (j 0)) j rfl

end Cert.Same

end
-- ==== Proof.lean ====
/- The claims: the frames of the three programs, that the kernel over the reals is the kernel's own text, and that
   kernel and reference compute the same three results over the extended reals. -/
module

public import proofs.«01_k».proof.Defs
public import proofs.«01_k».proof.Proof.Run
public import proofs.«01_k».proof.Proof.PrintedRun
public import proofs.«01_k».proof.Proof.RefVal
public import proofs.«01_k».proof.Proof.PreVal
public import proofs.«01_k».proof.Proof.Same

@[expose] public section

noncomputable section

namespace Cert.Proof

open Idealize.ShloMosaic Idealize.SL.Sem

/-- The claims, each from its own module. -/
theorem claim : Cert.Claim :=
  ⟨Cert.Kernel.Gen.facts, Cert.KernelIdeal.Gen.facts, Cert.ReferenceIdeal.Gen.facts, Cert.Pre_proper_logits.facts,
    fun m g _ => Cert.Kernel.Reg.frame_all m g,
    fun m g _ => Cert.KernelIdeal.Reg.frame_all m g,
    fun m g _ => Cert.KernelIdeal.Reg.frame_all m g,
    fun m g _ => Cert.ReferenceIdeal.RefRun.frame_ref m g,
    fun m g _ => Cert.ReferenceIdeal.RefRun.frame_ref m g,
    trivial,
    Cert.Same.algebraic⟩

end Cert.Proof

end
